-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_on_routed [hKernelIdeal : Cert.KernelIdeal.Facts] [hReferenceIdeal : Cert.ReferenceIdeal.Facts] [hOn_routed : Cert.On_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32, 2816]⟩ : Shape).Idx, (Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.KernelIdeal.nD Cert.KernelIdeal.τ).loc Cert.KernelIdeal.main_v37) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32, 2816]⟩ : Shape).Idx, (Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) i = 1#1 → r.2.mem ((c.tc : Thread Cert.ReferenceIdeal.nD Cert.ReferenceIdeal.τ).loc Cert.ReferenceIdeal.main_v95) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hOn_routed : Cert.On_routed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_routed (hKernelIdeal := hKernelIdeal) (hReferenceIdeal := hReferenceIdeal) (hOn_routed := hOn_routed)
-- ==== On_routed.lean ====
abbrev S32x1x2816 : Shape := ⟨3, ![32, 1, 2816]⟩
abbrev S32x1x8 : Shape := ⟨3, ![32, 1, 8]⟩
abbrev S32x1408x4096 : Shape := ⟨3, ![32, 1408, 4096]⟩
abbrev S32x22x4096 : Shape := ⟨3, ![32, 22, 4096]⟩
abbrev S32x22x2048 : Shape := ⟨3, ![32, 22, 2048]⟩
abbrev S32x1024x2816 : Shape := ⟨3, ![32, 1024, 2816]⟩
abbrev S32x16x2816 : Shape := ⟨3, ![32, 16, 2816]⟩
abbrev S32x16x1408 : Shape := ⟨3, ![32, 16, 1408]⟩
abbrev S32x8 : Shape := ⟨2, ![32, 8]⟩
abbrev S_ : Shape := ⟨0, ![]⟩
abbrev S32 : Shape := ⟨1, ![32]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S32x8x1 : Shape := ⟨3, ![32, 8, 1]⟩
abbrev S32x8x8 : Shape := ⟨3, ![32, 8, 8]⟩
abbrev S1x8x8 : Shape := ⟨3, ![1, 8, 8]⟩
abbrev S32x1 : Shape := ⟨2, ![32, 1]⟩
abbrev S32x2816 : Shape := ⟨2, ![32, 2816]⟩

class Facts : Prop where
  shapeCasts_S32x1x8_S32x8 : S32x1x8.ShapeCasts S32x8
  bcast_S_S32x8 : S_.BroadcastsInDim S32x8 (![] : Fin 0 → Fin S32x8.rank)
  reducesTo_S32x8_S32_d1 : S32x8.ReducesTo [1] S32
  h_S_ : 0 < S_.numel
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S32x8_S32x8x1_0_1 : S32x8.BroadcastsInDim S32x8x1 (![0, 1] : Fin 2 → Fin S32x8x1.rank)
  bcast_S32x8_S32x1x8_0_2 : S32x8.BroadcastsInDim S32x1x8 (![0, 2] : Fin 2 → Fin S32x1x8.rank)
  bcast_S32x8x1_S32x8x8_0_1_2 : S32x8x1.BroadcastsInDim S32x8x8 (![0, 1, 2] : Fin 3 → Fin S32x8x8.rank)
  bcast_S32x1x8_S32x8x8_0_1_2 : S32x1x8.BroadcastsInDim S32x8x8 (![0, 1, 2] : Fin 3 → Fin S32x8x8.rank)
  bcast_S8x8_S1x8x8_1_2 : S8x8.BroadcastsInDim S1x8x8 (![1, 2] : Fin 2 → Fin S1x8x8.rank)
  bcast_S1x8x8_S32x8x8_0_1_2 : S1x8x8.BroadcastsInDim S32x8x8 (![0, 1, 2] : Fin 3 → Fin S32x8x8.rank)
  reducesTo_S32x8x8_S32_d1_2 : S32x8x8.ReducesTo [1, 2] S32
  bcast_S32_S32x1_0 : S32.BroadcastsInDim S32x1 (![0] : Fin 1 → Fin S32x1.rank)
  bcast_S32x1_S32x2816_0_1 : S32x1.BroadcastsInDim S32x2816 (![0, 1] : Fin 2 → Fin S32x2816.rank)

variable [Facts]

def fn_part1 {F : FTy → Type} [FloatOps F] (main_v6 : IVec S32 1) (main_v18 : IVec S32x8x8 1) (main_v20 : IVec S32x8x8 1) : IVec S32x2816 1 :=
  let main_v21 : IVec S32x8x8 1 := andi main_v18 main_v20
  let main_v22 : IVec S32x8x8 1 := noti main_v21
  let main_c_2 : IVec S_ 1 := constantI S_ 1 1#1
  let main_v23 : IVec S32 1 := (fun x v => Host.reduce IntOp.andi x v reducesTo_S32x8x8_S32_d1_2 h_S_) main_v22 main_c_2
  let main_v24 : IVec S32 1 := andi main_v6 main_v23
  let main_v25 : IVec S32x1 1 := broadcastInDim S32x1 ![0] bcast_S32_S32x1_0 main_v24
  let main_v26 : IVec S32x2816 1 := broadcastInDim S32x2816 ![0, 1] bcast_S32x1_S32x2816_0_1 main_v25
  main_v26

def fn {F : FTy → Type} [FloatOps F] (main_arg0 : FVec F S32x1x2816 .bf16) (main_arg1 : IVec S32x1x8 32) (main_arg2 : FVec F S32x1x8 .f32) (main_arg3 : IVec S32x1408x4096 8) (main_arg4 : FVec F S32x22x4096 .bf16) (main_arg5 : IVec S32x22x2048 8) (main_arg6 : IVec S32x1024x2816 8) (main_arg7 : FVec F S32x16x2816 .bf16) (main_arg8 : IVec S32x16x1408 8) : IVec S32x2816 1 :=
  let main_v0 : IVec S32x8 32 := shapeCast S32x8 main_arg1 shapeCasts_S32x1x8_S32x8
  let main_c : IVec S_ 32 := constantI S_ 32 0#32
  let main_v1 : IVec S32x8 32 := broadcastInDim S32x8 ![] bcast_S_S32x8 main_c
  let main_v2 : IVec S32x8 1 := cmpi .sge main_v0 main_v1
  let main_c_0 : IVec S_ 32 := constantI S_ 32 32#32
  let main_v3 : IVec S32x8 32 := broadcastInDim S32x8 ![] bcast_S_S32x8 main_c_0
  let main_v4 : IVec S32x8 1 := cmpi .slt main_v0 main_v3
  let main_v5 : IVec S32x8 1 := andi main_v2 main_v4
  let main_c_1 : IVec S_ 1 := constantI S_ 1 1#1
  let main_v6 : IVec S32 1 := (fun x v => Host.reduce IntOp.andi x v reducesTo_S32x8_S32_d1 h_S_) main_v5 main_c_1
  let main_v7 : IVec S8 32 := iotaInDim S8 32 0
  let main_v8 : IVec S8x1 32 := broadcastInDim S8x1 ![0] bcast_S8_S8x1_0 main_v7
  let main_v9 : IVec S8 32 := iotaInDim S8 32 0
  let main_v10 : IVec S1x8 32 := broadcastInDim S1x8 ![1] bcast_S8_S1x8_1 main_v9
  let main_v11 : IVec S8x8 32 := broadcastInDim S8x8 ![0, 1] bcast_S8x1_S8x8_0_1 main_v8
  let main_v12 : IVec S8x8 32 := broadcastInDim S8x8 ![0, 1] bcast_S1x8_S8x8_0_1 main_v10
  let main_v13 : IVec S8x8 1 := cmpi .ne main_v11 main_v12
  let main_v14 : IVec S32x8x1 32 := broadcastInDim S32x8x1 ![0, 1] bcast_S32x8_S32x8x1_0_1 main_v0
  let main_v15 : IVec S32x1x8 32 := broadcastInDim S32x1x8 ![0, 2] bcast_S32x8_S32x1x8_0_2 main_v0
  let main_v16 : IVec S32x8x8 32 := broadcastInDim S32x8x8 ![0, 1, 2] bcast_S32x8x1_S32x8x8_0_1_2 main_v14
  let main_v17 : IVec S32x8x8 32 := broadcastInDim S32x8x8 ![0, 1, 2] bcast_S32x1x8_S32x8x8_0_1_2 main_v15
  let main_v18 : IVec S32x8x8 1 := cmpi .eq main_v16 main_v17
  let main_v19 : IVec S1x8x8 1 := broadcastInDim S1x8x8 ![1, 2] bcast_S8x8_S1x8x8_1_2 main_v13
  let main_v20 : IVec S32x8x8 1 := broadcastInDim S32x8x8 ![0, 1, 2] bcast_S1x8x8_S32x8x8_0_1_2 main_v19
  fn_part1 (F := F) main_v6 main_v18 main_v20
-- ==== Kernel.lean ====
abbrev S32x1x2816 : Shape := ⟨3, ![32, 1, 2816]⟩
abbrev S32x1x8 : Shape := ⟨3, ![32, 1, 8]⟩
abbrev S32x1408x4096 : Shape := ⟨3, ![32, 1408, 4096]⟩
abbrev S32x22x4096 : Shape := ⟨3, ![32, 22, 4096]⟩
abbrev S32x22x2048 : Shape := ⟨3, ![32, 22, 2048]⟩
abbrev S32x1024x2816 : Shape := ⟨3, ![32, 1024, 2816]⟩
abbrev S32x16x2816 : Shape := ⟨3, ![32, 16, 2816]⟩
abbrev S32x16x1408 : Shape := ⟨3, ![32, 16, 1408]⟩
abbrev S32x8 : Shape := ⟨2, ![32, 8]⟩
abbrev S32x8x1 : Shape := ⟨3, ![32, 8, 1]⟩
abbrev S32 : Shape := ⟨1, ![32]⟩
abbrev S1x1x32 : Shape := ⟨3, ![1, 1, 32]⟩
abbrev S32x8x32 : Shape := ⟨3, ![32, 8, 32]⟩
abbrev S_ : Shape := ⟨0, ![]⟩
abbrev S32x32 : Shape := ⟨2, ![32, 32]⟩
abbrev S32x1 : Shape := ⟨2, ![32, 1]⟩
abbrev S1x32 : Shape := ⟨2, ![1, 32]⟩
abbrev S32x256 : Shape := ⟨2, ![32, 256]⟩
abbrev S1 : Shape := ⟨1, ![1]⟩
abbrev S32x2816 : Shape := ⟨2, ![32, 2816]⟩
abbrev S1x1408x4096 : Shape := ⟨3, ![1, 1408, 4096]⟩
abbrev S1x22x4096 : Shape := ⟨3, ![1, 22, 4096]⟩
abbrev S1x22x2048 : Shape := ⟨3, ![1, 22, 2048]⟩
abbrev S1x1024x2816 : Shape := ⟨3, ![1, 1024, 2816]⟩
abbrev S1x16x2816 : Shape := ⟨3, ![1, 16, 2816]⟩
abbrev S1x16x1408 : Shape := ⟨3, ![1, 16, 1408]⟩
abbrev S32x2048 : Shape := ⟨2, ![32, 2048]⟩
abbrev S1x128x256 : Shape := ⟨3, ![1, 128, 256]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x1x256 : Shape := ⟨3, ![1, 1, 256]⟩
abbrev S1x256 : Shape := ⟨2, ![1, 256]⟩
abbrev S1x1x128 : Shape := ⟨3, ![1, 1, 128]⟩
abbrev S1x128 : Shape := ⟨2, ![1, 128]⟩

abbrev nBuf : Space → Nat
  | .hbm => 64
  | .vmem => 17
  | .smem => 2
  | _ => 0

abbrev bufTy : (tb : Table) → Fin (tcTables nBuf tb) → BufTy
  | .hbm, ⟨0, _⟩ => ⟨S32x1x2816, .bf16⟩
  | .hbm, ⟨1, _⟩ => ⟨S32x1x8, .i32⟩
  | .hbm, ⟨2, _⟩ => ⟨S32x1x8, .f32⟩
  | .hbm, ⟨3, _⟩ => ⟨S32x1408x4096, .i8⟩
  | .hbm, ⟨4, _⟩ => ⟨S32x22x4096, .bf16⟩
  | .hbm, ⟨5, _⟩ => ⟨S32x22x2048, .i8⟩
  | .hbm, ⟨6, _⟩ => ⟨S32x1024x2816, .i8⟩
  | .hbm, ⟨7, _⟩ => ⟨S32x16x2816, .bf16⟩
  | .hbm, ⟨8, _⟩ => ⟨S32x16x1408, .i8⟩
  | .hbm, ⟨9, _⟩ => ⟨S32x8, .i32⟩
  | .hbm, ⟨10, _⟩ => ⟨S32x8x1, .i32⟩
  | .hbm, ⟨11, _⟩ => ⟨S32, .i32⟩
  | .hbm, ⟨12, _⟩ => ⟨S1x1x32, .i32⟩
  | .hbm, ⟨13, _⟩ => ⟨S32x8x32, .i32⟩
  | .hbm, ⟨14, _⟩ => ⟨S32x8x32, .i32⟩
  | .hbm, ⟨15, _⟩ => ⟨S32x8x32, .i1⟩
  | .hbm, ⟨16, _⟩ => ⟨S32x8x1, .f32⟩
  | .hbm, ⟨17, _⟩ => ⟨S_, .f32⟩
  | .hbm, ⟨18, _⟩ => ⟨S_, .f32⟩
  | .hbm, ⟨19, _⟩ => ⟨S32x8x32, .f32⟩
  | .hbm, ⟨20, _⟩ => ⟨S32x8x32, .f32⟩
  | .hbm, ⟨21, _⟩ => ⟨S32x8x32, .f32⟩
  | .hbm, ⟨22, _⟩ => ⟨S_, .f32⟩
  | .hbm, ⟨23, _⟩ => ⟨S32x32, .f32⟩
  | .hbm, ⟨24, _⟩ => ⟨S_, .i1⟩
  | .hbm, ⟨25, _⟩ => ⟨S32x32, .i1⟩
  | .hbm, ⟨26, _⟩ => ⟨S_, .i1⟩
  | .hbm, ⟨27, _⟩ => ⟨S32, .i1⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S32, .i32⟩
  | .hbm, ⟨38, _⟩ => ⟨S32x1, .i1⟩
  | .hbm, ⟨39, _⟩ => ⟨S32x1, .i32⟩
  | .hbm, ⟨40, _⟩ => ⟨S1x32, .i32⟩
  | .hbm, ⟨41, _⟩ => ⟨S32x32, .i32⟩
  | .hbm, ⟨42, _⟩ => ⟨S32x32, .i32⟩
  | .hbm, ⟨43, _⟩ => ⟨S32x32, .i1⟩
  | .hbm, ⟨44, _⟩ => ⟨S32x32, .i1⟩
  | .hbm, ⟨45, _⟩ => ⟨S32x32, .i1⟩
  | .hbm, ⟨46, _⟩ => ⟨S32x1, .i32⟩
  | .hbm, ⟨47, _⟩ => ⟨S_, .i32⟩
  | .hbm, ⟨48, _⟩ => ⟨S_, .i32⟩
  | .hbm, ⟨49, _⟩ => ⟨S32x32, .i32⟩
  | .hbm, ⟨50, _⟩ => ⟨S32x32, .i32⟩
  | .hbm, ⟨51, _⟩ => ⟨S32x32, .i32⟩
  | .hbm, ⟨52, _⟩ => ⟨S_, .i32⟩
  | .hbm, ⟨53, _⟩ => ⟨S_, .f32⟩
  | .hbm, ⟨54, _⟩ => ⟨S32x256, .f32⟩
  | .hbm, ⟨55, _⟩ => ⟨S_, .i32⟩
  | .hbm, ⟨56, _⟩ => ⟨S1, .i32⟩
  | .hbm, ⟨57, _⟩ => ⟨S32x256, .f32⟩
  | .hbm, ⟨58, _⟩ => ⟨S32x32, .f32⟩
  | .hbm, ⟨59, _⟩ => ⟨S_, .i32⟩
  | .hbm, ⟨60, _⟩ => ⟨S1, .i32⟩
  | .hbm, ⟨61, _⟩ => ⟨S32x256, .f32⟩
  | .hbm, ⟨62, _⟩ => ⟨S32x2816, .bf16⟩
  | .hbm, ⟨63, _⟩ => ⟨S32x2816, .bf16⟩
  | .local _ .vmem, ⟨0, _⟩ => ⟨S32x2816, .bf16⟩
  | .local _ .vmem, ⟨1, _⟩ => ⟨S32x256, .f32⟩
  | .local _ .vmem, ⟨2, _⟩ => ⟨S1x1408x4096, .i8⟩
  | .local _ .vmem, ⟨3, _⟩ => ⟨S1x1408x4096, .i8⟩
  | .local _ .vmem, ⟨4, _⟩ => ⟨S1x22x4096, .bf16⟩
  | .local _ .vmem, ⟨5, _⟩ => ⟨S1x22x4096, .bf16⟩
  | .local _ .vmem, ⟨6, _⟩ => ⟨S1x22x2048, .i8⟩
  | .local _ .vmem, ⟨7, _⟩ => ⟨S1x22x2048, .i8⟩
  | .local _ .vmem, ⟨8, _⟩ => ⟨S1x1024x2816, .i8⟩
  | .local _ .vmem, ⟨9, _⟩ => ⟨S1x1024x2816, .i8⟩
  | .local _ .vmem, ⟨10, _⟩ => ⟨S1x16x2816, .bf16⟩
  | .local _ .vmem, ⟨11, _⟩ => ⟨S1x16x2816, .bf16⟩
  | .local _ .vmem, ⟨12, _⟩ => ⟨S1x16x1408, .i8⟩
  | .local _ .vmem, ⟨13, _⟩ => ⟨S1x16x1408, .i8⟩
  | .local _ .vmem, ⟨14, _⟩ => ⟨S32x2816, .bf16⟩
  | .local _ .vmem, ⟨15, _⟩ => ⟨S32x2048, .bf16⟩
  | .local _ .vmem, ⟨16, _⟩ => ⟨S32x2816, .f32⟩
  | .local _ .smem, ⟨0, _⟩ => ⟨S_, .i32⟩
  | .local _ .smem, ⟨1, _⟩ => ⟨S32, .i32⟩
  | _, _ => ⟨S32x1x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_c_1 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v14 : Ref sig .tc := ⟨.hbm, 30, rfl⟩
abbrev main_call1_call0_c : Ref sig .tc := ⟨.hbm, 31, rfl⟩
abbrev main_call1_call0_v0 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v28 : Ref sig .tc := ⟨.hbm, 51, rfl⟩
abbrev main_c_5 : Ref sig .tc := ⟨.hbm, 52, rfl⟩
abbrev main_cst_6 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v13 : Ref sig .tc := ⟨.smem, 0, rfl⟩
abbrev main_v29 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![0], ![true]⟩

abbrev pre0 : Pipeline.Prefetch sig := ⟨2, ![main_v13.idx, main_v29.idx], fun | 0 => main_v13.names | 1 => main_v29.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat]

def k0_off1 (b : grid0.Bounds) (i : (grid0.at b).Coords) : Fin 1 → Nat :=
  let arg0 : BitVec 32 := BitVec.ofNat 32 (i 0).val
  let v0 : Index := Scalar.indexCast arg0
  ![v0.toNat]

def k0_off2 (arg0 : BitVec 32) : Fin 1 → Nat :=
  let v7643 : Index := Scalar.indexCast arg0
  ![v7643.toNat]

def k0_chk1 (arg0 : BitVec 32) : Prop :=
  (∀ a, (k0_off2 arg0) a + S1.size a ≤ S32.size a)
theorem k0_off2_inb : ∀ (arg0 : BitVec 32) (k0_hw1 : k0_chk1 arg0), ∀ a, (k0_off2 arg0) a + S1.size a ≤ S32.size a := fun arg0 k0_hw1 => k0_hw1

def k0_cond2 (arg0 : BitVec 32) (v12549 : BitVec 32) : BitVec 1 :=
  let c1_i32 : BitVec 32 := 1#32
  let v12550 : BitVec 32 := Scalar.subi v12549 c1_i32
  let v12551 : BitVec 1 := Scalar.cmpi .eq arg0 v12550
  let v12552 : BitVec 32 := Scalar.extui v12551
  let c0_i32_6575 : BitVec 32 := 0#32
  let v12553 : BitVec 1 := Scalar.cmpi .ne v12552 c0_i32_6575
  v12553

def cc0_transform_0 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_3 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_4 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_5 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_6 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_7 (pf : pre0.Contents (Elt F)) (b : grid0.Bounds) (i : (grid0.at b).Coords) : Fin 3 → Nat :=
  let arg0 : BitVec 32 := BitVec.ofNat 32 (i 0).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_8 (b : grid0.Bounds) (i : (grid0.at b).Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1408x4096 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x22x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x22x2048 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x2816 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1408 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S32x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32x1x2816 : Shape := ⟨3, ![32, 1, 2816]⟩
abbrev S32x1x8 : Shape := ⟨3, ![32, 1, 8]⟩
abbrev S32x1408x4096 : Shape := ⟨3, ![32, 1408, 4096]⟩
abbrev S32x22x4096 : Shape := ⟨3, ![32, 22, 4096]⟩
abbrev S32x22x2048 : Shape := ⟨3, ![32, 22, 2048]⟩
abbrev S32x1024x2816 : Shape := ⟨3, ![32, 1024, 2816]⟩
abbrev S32x16x2816 : Shape := ⟨3, ![32, 16, 2816]⟩
abbrev S32x16x1408 : Shape := ⟨3, ![32, 16, 1408]⟩
abbrev S1x32x2816 : Shape := ⟨3, ![1, 32, 2816]⟩
abbrev S32x32x2816 : Shape := ⟨3, ![32, 32, 2816]⟩
abbrev S_ : Shape := ⟨0, ![]⟩
abbrev S32x22x1x4096 : Shape := ⟨4, ![32, 22, 1, 4096]⟩
abbrev S32x22x64x4096 : Shape := ⟨4, ![32, 22, 64, 4096]⟩
abbrev S32x32x1408 : Shape := ⟨3, ![32, 32, 1408]⟩
abbrev S32x32x4096 : Shape := ⟨3, ![32, 32, 4096]⟩
abbrev S32x32x2048 : Shape := ⟨3, ![32, 32, 2048]⟩
abbrev S32x16x1x2816 : Shape := ⟨4, ![32, 16, 1, 2816]⟩
abbrev S32x16x64x2816 : Shape := ⟨4, ![32, 16, 64, 2816]⟩
abbrev S32x32x1024 : Shape := ⟨3, ![32, 32, 1024]⟩
abbrev S32x8 : Shape := ⟨2, ![32, 8]⟩
abbrev S32 : Shape := ⟨1, ![32]⟩
abbrev S32x1 : Shape := ⟨2, ![32, 1]⟩
abbrev S32x8x1 : Shape := ⟨3, ![32, 8, 1]⟩
abbrev S32x8x2 : Shape := ⟨3, ![32, 8, 2]⟩
abbrev S32x8x2816 : Shape := ⟨3, ![32, 8, 2816]⟩
abbrev S32x2816 : Shape := ⟨2, ![32, 2816]⟩

abbrev nBuf : Space → Nat
  | .hbm => 126
  | .vmem => 0
  | .smem => 0
  | _ => 0

abbrev bufTy : (tb : Table) → Fin (tcTables nBuf tb) → BufTy
  | .hbm, ⟨0, _⟩ => ⟨S32x1x2816, .bf16⟩
  | .hbm, ⟨1, _⟩ => ⟨S32x1x8, .i32⟩
  | .hbm, ⟨2, _⟩ => ⟨S32x1x8, .f32⟩
  | .hbm, ⟨3, _⟩ => ⟨S32x1408x4096, .i8⟩
  | .hbm, ⟨4, _⟩ => ⟨S32x22x4096, .bf16⟩
  | .hbm, ⟨5, _⟩ => ⟨S32x22x2048, .i8⟩
  | .hbm, ⟨6, _⟩ => ⟨S32x1024x2816, .i8⟩
  | .hbm, ⟨7, _⟩ => ⟨S32x16x2816, .bf16⟩
  | .hbm, ⟨8, _⟩ => ⟨S32x16x1408, .i8⟩
  | .hbm, ⟨9, _⟩ => ⟨S1x32x2816, .bf16⟩
  | .hbm, ⟨10, _⟩ => ⟨S32x32x2816, .bf16⟩
  | .hbm, ⟨11, _⟩ => ⟨S32x1408x4096, .i32⟩
  | .hbm, ⟨12, _⟩ => ⟨S32x22x2048, .i32⟩
  | .hbm, ⟨13, _⟩ => ⟨S_, .i32⟩
  | .hbm, ⟨14, _⟩ => ⟨S32x22x2048, .i32⟩
  | .hbm, ⟨15, _⟩ => ⟨S32x22x2048, .i32⟩
  | .hbm, ⟨16, _⟩ => ⟨S_, .i32⟩
  | .hbm, ⟨17, _⟩ => ⟨S32x22x2048, .i32⟩
  | .hbm, ⟨18, _⟩ => ⟨S32x22x2048, .i32⟩
  | .hbm, ⟨19, _⟩ => ⟨S32x22x4096, .i32⟩
  | .hbm, ⟨20, _⟩ => ⟨S32x22x4096, .bf16⟩
  | .hbm, ⟨21, _⟩ => ⟨S32x22x1x4096, .bf16⟩
  | .hbm, ⟨22, _⟩ => ⟨S32x22x1x4096, .bf16⟩
  | .hbm, ⟨23, _⟩ => ⟨S_, .i32⟩
  | .hbm, ⟨24, _⟩ => ⟨S32x1408x4096, .i32⟩
  | .hbm, ⟨25, _⟩ => ⟨S32x1408x4096, .i32⟩
  | .hbm, ⟨26, _⟩ => ⟨S32x1408x4096, .bf16⟩
  | .hbm, ⟨27, _⟩ => ⟨S32x22x64x4096, .bf16⟩
  | .hbm, ⟨28, _⟩ => ⟨S32x22x64x4096, .bf16⟩
  | .hbm, ⟨29, _⟩ => ⟨S32x22x64x4096, .bf16⟩
  | .hbm, ⟨30, _⟩ => ⟨S32x22x64x4096, .bf16⟩
  | .hbm, ⟨31, _⟩ => ⟨S32x22x64x4096, .bf16⟩
  | .hbm, ⟨32, _⟩ => ⟨S32x1408x4096, .bf16⟩
  | .hbm, ⟨33, _⟩ => ⟨S_, .i32⟩
  | .hbm, ⟨34, _⟩ => ⟨S32x1408x4096, .i32⟩
  | .hbm, ⟨35, _⟩ => ⟨S32x1408x4096, .i32⟩
  | .hbm, ⟨36, _⟩ => ⟨S32x1408x4096, .bf16⟩
  | .hbm, ⟨37, _⟩ => ⟨S32x22x64x4096, .bf16⟩
  | .hbm, ⟨38, _⟩ => ⟨S32x22x64x4096, .bf16⟩
  | .hbm, ⟨39, _⟩ => ⟨S32x22x64x4096, .bf16⟩
  | .hbm, ⟨40, _⟩ => ⟨S32x22x64x4096, .bf16⟩
  | .hbm, ⟨41, _⟩ => ⟨S32x22x64x4096, .bf16⟩
  | .hbm, ⟨42, _⟩ => ⟨S32x1408x4096, .bf16⟩
  | .hbm, ⟨43, _⟩ => ⟨S32x32x1408, .bf16⟩
  | .hbm, ⟨44, _⟩ => ⟨S32x32x4096, .f32⟩
  | .hbm, ⟨45, _⟩ => ⟨S32x32x1408, .bf16⟩
  | .hbm, ⟨46, _⟩ => ⟨S32x32x4096, .f32⟩
  | .hbm, ⟨47, _⟩ => ⟨S32x32x4096, .f32⟩
  | .hbm, ⟨48, _⟩ => ⟨S32x32x2048, .f32⟩
  | .hbm, ⟨49, _⟩ => ⟨S32x32x2048, .f32⟩
  | .hbm, ⟨50, _⟩ => ⟨S32x32x2048, .f32⟩
  | .hbm, ⟨51, _⟩ => ⟨S32x32x2048, .f32⟩
  | .hbm, ⟨52, _⟩ => ⟨S_, .f32⟩
  | .hbm, ⟨53, _⟩ => ⟨S32x32x2048, .f32⟩
  | .hbm, ⟨54, _⟩ => ⟨S32x32x2048, .f32⟩
  | .hbm, ⟨55, _⟩ => ⟨S_, .f32⟩
  | .hbm, ⟨56, _⟩ => ⟨S32x32x2048, .f32⟩
  | .hbm, ⟨57, _⟩ => ⟨S32x32x2048, .f32⟩
  | .hbm, ⟨58, _⟩ => ⟨S32x32x2048, .f32⟩
  | .hbm, ⟨59, _⟩ => ⟨S32x32x2048, .f32⟩
  | .hbm, ⟨60, _⟩ => ⟨S32x32x2048, .bf16⟩
  | .hbm, ⟨61, _⟩ => ⟨S32x1024x2816, .i32⟩
  | .hbm, ⟨62, _⟩ => ⟨S32x16x1408, .i32⟩
  | .hbm, ⟨63, _⟩ => ⟨S_, .i32⟩
  | .hbm, ⟨64, _⟩ => ⟨S32x16x1408, .i32⟩
  | .hbm, ⟨65, _⟩ => ⟨S32x16x1408, .i32⟩
  | .hbm, ⟨66, _⟩ => ⟨S_, .i32⟩
  | .hbm, ⟨67, _⟩ => ⟨S32x16x1408, .i32⟩
  | .hbm, ⟨68, _⟩ => ⟨S32x16x1408, .i32⟩
  | .hbm, ⟨69, _⟩ => ⟨S32x16x2816, .i32⟩
  | .hbm, ⟨70, _⟩ => ⟨S32x16x2816, .bf16⟩
  | .hbm, ⟨71, _⟩ => ⟨S32x16x1x2816, .bf16⟩
  | .hbm, ⟨72, _⟩ => ⟨S32x16x1x2816, .bf16⟩
  | .hbm, ⟨73, _⟩ => ⟨S_, .i32⟩
  | .hbm, ⟨74, _⟩ => ⟨S32x1024x2816, .i32⟩
  | .hbm, ⟨75, _⟩ => ⟨S32x1024x2816, .i32⟩
  | .hbm, ⟨76, _⟩ => ⟨S32x1024x2816, .bf16⟩
  | .hbm, ⟨77, _⟩ => ⟨S32x16x64x2816, .bf16⟩
  | .hbm, ⟨78, _⟩ => ⟨S32x16x64x2816, .bf16⟩
  | .hbm, ⟨79, _⟩ => ⟨S32x16x64x2816, .bf16⟩
  | .hbm, ⟨80, _⟩ => ⟨S32x16x64x2816, .bf16⟩
  | .hbm, ⟨81, _⟩ => ⟨S32x16x64x2816, .bf16⟩
  | .hbm, ⟨82, _⟩ => ⟨S32x1024x2816, .bf16⟩
  | .hbm, ⟨83, _⟩ => ⟨S_, .i32⟩
  | .hbm, ⟨84, _⟩ => ⟨S32x1024x2816, .i32⟩
  | .hbm, ⟨85, _⟩ => ⟨S32x1024x2816, .i32⟩
  | .hbm, ⟨86, _⟩ => ⟨S32x1024x2816, .bf16⟩
  | .hbm, ⟨87, _⟩ => ⟨S32x16x64x2816, .bf16⟩
  | .hbm, ⟨88, _⟩ => ⟨S32x16x64x2816, .bf16⟩
  | .hbm, ⟨89, _⟩ => ⟨S32x16x64x2816, .bf16⟩
  | .hbm, ⟨90, _⟩ => ⟨S32x16x64x2816, .bf16⟩
  | .hbm, ⟨91, _⟩ => ⟨S32x16x64x2816, .bf16⟩
  | .hbm, ⟨92, _⟩ => ⟨S32x1024x2816, .bf16⟩
  | .hbm, ⟨93, _⟩ => ⟨S32x32x1024, .bf16⟩
  | .hbm, ⟨94, _⟩ => ⟨S32x32x2816, .f32⟩
  | .hbm, ⟨95, _⟩ => ⟨S32x32x1024, .bf16⟩
  | .hbm, ⟨96, _⟩ => ⟨S32x32x2816, .f32⟩
  | .hbm, ⟨97, _⟩ => ⟨S32x32x2816, .f32⟩
  | .hbm, ⟨98, _⟩ => ⟨S32x8, .i32⟩
  | .hbm, ⟨99, _⟩ => ⟨S32, .i32⟩
  | .hbm, ⟨100, _⟩ => ⟨S32x1, .i32⟩
  | .hbm, ⟨101, _⟩ => ⟨S_, .i32⟩
  | .hbm, ⟨102, _⟩ => ⟨S32x8, .i32⟩
  | .hbm, ⟨103, _⟩ => ⟨S32x8, .i1⟩
  | .hbm, ⟨104, _⟩ => ⟨S_, .i32⟩
  | .hbm, ⟨105, _⟩ => ⟨S32x8, .i32⟩
  | .hbm, ⟨106, _⟩ => ⟨S32x8, .i32⟩
  | .hbm, ⟨107, _⟩ => ⟨S32x8, .i32⟩
  | .hbm, ⟨108, _⟩ => ⟨S_, .i32⟩
  | .hbm, ⟨109, _⟩ => ⟨S32x1, .i32⟩
  | .hbm, ⟨110, _⟩ => ⟨S32x1, .i1⟩
  | .hbm, ⟨111, _⟩ => ⟨S_, .i32⟩
  | .hbm, ⟨112, _⟩ => ⟨S32x1, .i32⟩
  | .hbm, ⟨113, _⟩ => ⟨S32x1, .i32⟩
  | .hbm, ⟨114, _⟩ => ⟨S32x1, .i32⟩
  | .hbm, ⟨115, _⟩ => ⟨S32x8, .i32⟩
  | .hbm, ⟨116, _⟩ => ⟨S32x8x1, .i32⟩
  | .hbm, ⟨117, _⟩ => ⟨S32x8x1, .i32⟩
  | .hbm, ⟨118, _⟩ => ⟨S32x8x2, .i32⟩
  | .hbm, ⟨119, _⟩ => ⟨S32x8x2816, .f32⟩
  | .hbm, ⟨120, _⟩ => ⟨S32x8x1, .f32⟩
  | .hbm, ⟨121, _⟩ => ⟨S32x8x2816, .f32⟩
  | .hbm, ⟨122, _⟩ => ⟨S32x8x2816, .f32⟩
  | .hbm, ⟨123, _⟩ => ⟨S_, .f32⟩
  | .hbm, ⟨124, _⟩ => ⟨S32x2816, .f32⟩
  | .hbm, ⟨125, _⟩ => ⟨S32x2816, .bf16⟩
  | _, _ => ⟨S32x1x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_3 : Ref sig .tc := ⟨.hbm, 63, rfl⟩
abbrev main_v42 : Ref sig .tc := ⟨.hbm, 64, rfl⟩
abbrev main_v43 : Ref sig .tc := ⟨.hbm, 65, rfl⟩
abbrev main_c_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_c_5 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_c_6 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_7 : Ref sig .tc := ⟨.hbm, 101, rfl⟩
abbrev main_v76 : Ref sig .tc := ⟨.hbm, 102, rfl⟩
abbrev main_v77 : Ref sig .tc := ⟨.hbm, 103, rfl⟩
abbrev main_c_8 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_9 : Ref sig .tc := ⟨.hbm, 108, rfl⟩
abbrev main_v81 : Ref sig .tc := ⟨.hbm, 109, rfl⟩
abbrev main_v82 : Ref sig .tc := ⟨.hbm, 110, rfl⟩
abbrev main_c_10 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Proof.Kernel.Body.lean ====
/-
  The kernel's body, run once for every grid point: from its buffers held whole it terminates without fault,
  hands every input buffer back unchanged, and leaves in the scratch buffers and in the output's buffer the
  contents that the run computes. The contents are found by the run (`kernelRun`'s witness).
-/
module

public import proofs.«01_k».proof.Proof.Gen.Kernel.Skeleton
public import Idealize.ShloMosaic.Lib.Exec
public import Idealize.ShloMosaic.Lib.Tactic
public import Idealize.ShloMosaic.Lib.Pipeline.Frame

@[expose] public section

set_option maxRecDepth 16384

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The same, held for reading only, at half the full share. -/
abbrev hf (c : Dev nD) {sp : Space} {S : Shape} {e : EltTy} (M : Memref sig .tc sp S e) (f : Bf (F := F) c M) : sProp 𝕄 :=
  M.view.loc (c : Thread nD τ) ↦{fullShare.right} f

/-- What the body leaves in the output's buffer, in `h` and in the accumulator, WITH the proof that it does. -/
noncomputable def kernelRun (c : Dev nD) (b : grid0.Bounds) (i : grid0.Static) (arg0 : BitVec 32) (hchk : k0_chk1 arg0)
    (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M10 × Bf (F := F) c M11 × Bf (F := F) c M12 //
      ∀ (E : Set ℕ) (Q : PUnit → sProp 𝕄),
        iprop(hf c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(hf c M1 f1 ∗ pt c M2 f2 ∗ pt c M3 f3 ∗ pt c M4 f4 ∗ pt c M5 f5 ∗ pt c M6 f6 ∗ pt c M7 f7 ∗ pt c M8 f8 ∗ pt c M9 f9 ∗ pt c M10 W.1 ∗ pt c M11 W.2.1 ∗ pt c M12 W.2.2) -∗ Q ⟨⟩))
        ⊢ wp frame (wpE (defs₀ (F := F)) Variants.none c none) E (cc0_moe b i arg0 M1 h1 M2 h2 M3 h3 M4 h4 M5 h5 M6 h6 M7 h7 M8 h8 M9 h9 M10 h10 M11 h11 M12 h12) Q } := by
  refine ⟨⟨?_, ?_, ?_⟩, fun E Q => ?run⟩
  case run =>
    iintro ⟨H1, H2, H3, H4, H5, H6, H7, H8, H9, H10, H11, H12, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.Kernel.Body

end
-- ==== Proof.Kernel.Indep.lean ====
/-
  What the body leaves in the accumulator and in the output's buffer, restated, and what it does not depend on.
-/
module

public import proofs.«01_k».proof.Proof.Kernel.Body
public import Idealize.ShloMosaic.Lib.Ring

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body zeroes the accumulator: the first grid point. -/
abbrev first (arg0 : BitVec 32) : Prop := kernelRun.sl.v2 arg0 = 1#1
/-- The condition under which the body stores the output: the last grid point. -/
abbrev last (arg0 : BitVec 32) (b : grid0.Bounds) : Prop := k0_cond2 arg0 (BitVec.ofNat 32 (b 0)) = 1#1

/-- Writing pieces that cover a whole buffer leaves the same contents whatever it held. -/
theorem writes_whole_eq {c : Dev nD} {sp : Space} {S : Shape} {e : EltTy} (M : Memref sig .tc sp S e) (h : M.IsWhole) (f f' : Bf (F := F) c M)
    (L : List (View.Piece (Elt F) S e)) (hL : ∀ y, ∃ pc ∈ L, y ∈ pc.1.set) :
    M.view.writes (Elt F) f L = M.view.writes (Elt F) f' L :=
  h.read_bijective.1 (View.read_writes_of_cover M.view f M.view f' L hL)

/-- One piece on the whole rectangle covers a buffer. -/
theorem cover_whole (p : Vec F S32x2816 .f32) (y : S32x2816.Idx) : ∃ pc ∈ ([⟨Rect.unit ![0, 0] S32x2816.size inb_S32x2816_S32x2816_0_0, p⟩] : List (View.Piece (Elt F) S32x2816 .f32)), y ∈ pc.1.set :=
  View.cover_of_tiledL _ S32x2816.size (by sl_kernel_rfl) y
theorem cover_whole' (p : Vec F S32x2816 .bf16) (y : S32x2816.Idx) : ∃ pc ∈ ([⟨Rect.unit ![0, 0] S32x2816.size inb_S32x2816_S32x2816_0_0, p⟩] : List (View.Piece (Elt F) S32x2816 .bf16)), y ∈ pc.1.set :=
  View.cover_of_tiledL _ S32x2816.size (by sl_kernel_rfl) y

/-- The contents the run finds for the accumulator, for `h` and for the output's buffer. -/
theorem run_acc (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12) :
    (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.2.2 = M12.view.writes (Elt F) M12.view.junk (kernelRun.sl.H12_11 c arg0 hchk M1 M2 M3 M4 M5 M6 M7 M8 M9 M11 M12 f1 f2 f3 f4 f5 f6 f7 f8 f9 f12) := by
  unfold kernelRun; rfl
theorem run_out (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12) :
    (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.1 = if hc : k0_cond2 arg0 (BitVec.ofNat 32 (b 0)) = 1#1 then
      M10.view.writes (Elt F) f10 [⟨Rect.unit ![0, 0] S32x2816.size inb_S32x2816_S32x2816_0_0, k0_pay999 (kernelRun.sl.v12554 c arg0 hchk M1 M2 M3 M4 M5 M6 M7 M8 M9 M11 M12 f1 f2 f3 f4 f5 f6 f7 f8 f9 f12)⟩] else f10 := by
  unfold kernelRun; rfl

attribute [local irreducible] kernelRun

/-- What the body leaves does not depend on what it found in `h` and in the output's buffer, nor, at the first
    point, on what it found in the accumulator. -/
theorem run_indep (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (f10 f10' : Bf (F := F) c M10) (f11 f11' : Bf (F := F) c M11) (f12 f12' : Bf (F := F) c M12) (h : f12 = f12' ∨ first arg0) :
    (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.2.2 = (kernelRun (F := F) c b i arg0 hchk M1 h1 M2 h2 M3 h3 M4 h4 M5 h5 M6 h6 M7 h7 M8 h8 M9 h9 M10 h10 M11 h11 M12 h12 f1 f2 f3 f4 f5 f6 f7 f8 f9 f10' f11' f12').1.2.2
    ∧ (last arg0 b → M10.view.read (Elt F) (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.1 = M10.view.read (Elt F) (kernelRun (F := F) c b i arg0 hchk M1 h1 M2 h2 M3 h3 M4 h4 M5 h5 M6 h6 M7 h7 M8 h8 M9 h9 M10 h10 M11 h11 M12 h12 f1 f2 f3 f4 f5 f6 f7 f8 f9 f10' f11' f12').1.1) := by
  have hg : (if hc : kernelRun.sl.v2 arg0 = 1#1 then M12.view.writes (Elt F) f12 [⟨Rect.unit ![0, 0] S32x2816.size inb_S32x2816_S32x2816_0_0, k0_pay1⟩] else f12)
      = (if hc : kernelRun.sl.v2 arg0 = 1#1 then M12.view.writes (Elt F) f12' [⟨Rect.unit ![0, 0] S32x2816.size inb_S32x2816_S32x2816_0_0, k0_pay1⟩] else f12') := by
    rcases h with rfl | h
    · rfl
    · rw [dif_pos h, dif_pos h]; exact writes_whole_eq M12 h12 f12 f12' _ (cover_whole _)
  have ev8098 : kernelRun.sl.v8098 c arg0 M12 f12 = kernelRun.sl.v8098 c arg0 M12 f12' := by
    delta kernelRun.sl.v8098; rw [hg]
  have ev8542 : kernelRun.sl.v8542 c arg0 M12 f12 = kernelRun.sl.v8542 c arg0 M12 f12' := by
    delta kernelRun.sl.v8542; rw [hg]
  have ev8986 : kernelRun.sl.v8986 c arg0 M12 f12 = kernelRun.sl.v8986 c arg0 M12 f12' := by
    delta kernelRun.sl.v8986; rw [hg]
  have ev9430 : kernelRun.sl.v9430 c arg0 M12 f12 = kernelRun.sl.v9430 c arg0 M12 f12' := by
    delta kernelRun.sl.v9430; rw [hg]
  have ev9874 : kernelRun.sl.v9874 c arg0 M12 f12 = kernelRun.sl.v9874 c arg0 M12 f12' := by
    delta kernelRun.sl.v9874; rw [hg]
  have ev10318 : kernelRun.sl.v10318 c arg0 M12 f12 = kernelRun.sl.v10318 c arg0 M12 f12' := by
    delta kernelRun.sl.v10318; rw [hg]
  have ev10762 : kernelRun.sl.v10762 c arg0 M12 f12 = kernelRun.sl.v10762 c arg0 M12 f12' := by
    delta kernelRun.sl.v10762; rw [hg]
  have ev11206 : kernelRun.sl.v11206 c arg0 M12 f12 = kernelRun.sl.v11206 c arg0 M12 f12' := by
    delta kernelRun.sl.v11206; rw [hg]
  have ev11650 : kernelRun.sl.v11650 c arg0 M12 f12 = kernelRun.sl.v11650 c arg0 M12 f12' := by
    delta kernelRun.sl.v11650; rw [hg]
  have ev12094 : kernelRun.sl.v12094 c arg0 M12 f12 = kernelRun.sl.v12094 c arg0 M12 f12' := by
    delta kernelRun.sl.v12094; rw [hg]
  have ev12538 : kernelRun.sl.v12538 c arg0 M12 f12 = kernelRun.sl.v12538 c arg0 M12 f12' := by
    delta kernelRun.sl.v12538; rw [hg]
  have eH12_1 : kernelRun.sl.H12_1 c arg0 hchk M1 M2 M3 M4 M5 M6 M7 M8 M9 M11 M12 f1 f2 f3 f4 f5 f6 f7 f8 f9 f12 = kernelRun.sl.H12_1 c arg0 hchk M1 M2 M3 M4 M5 M6 M7 M8 M9 M11 M12 f1 f2 f3 f4 f5 f6 f7 f8 f9 f12' := by
    delta kernelRun.sl.H12_1; rw [ev8098]
  have eH12_2 : kernelRun.sl.H12_2 c arg0 hchk M1 M2 M3 M4 M5 M6 M7 M8 M9 M11 M12 f1 f2 f3 f4 f5 f6 f7 f8 f9 f12 = kernelRun.sl.H12_2 c arg0 hchk M1 M2 M3 M4 M5 M6 M7 M8 M9 M11 M12 f1 f2 f3 f4 f5 f6 f7 f8 f9 f12' := by
    delta kernelRun.sl.H12_2; rw [ev8542, eH12_1]
  have eH12_3 : kernelRun.sl.H12_3 c arg0 hchk M1 M2 M3 M4 M5 M6 M7 M8 M9 M11 M12 f1 f2 f3 f4 f5 f6 f7 f8 f9 f12 = kernelRun.sl.H12_3 c arg0 hchk M1 M2 M3 M4 M5 M6 M7 M8 M9 M11 M12 f1 f2 f3 f4 f5 f6 f7 f8 f9 f12' := by
    delta kernelRun.sl.H12_3; rw [ev8986, eH12_2]
  have eH12_4 : kernelRun.sl.H12_4 c arg0 hchk M1 M2 M3 M4 M5 M6 M7 M8 M9 M11 M12 f1 f2 f3 f4 f5 f6 f7 f8 f9 f12 = kernelRun.sl.H12_4 c arg0 hchk M1 M2 M3 M4 M5 M6 M7 M8 M9 M11 M12 f1 f2 f3 f4 f5 f6 f7 f8 f9 f12' := by
    delta kernelRun.sl.H12_4; rw [ev9430, eH12_3]
  have eH12_5 : kernelRun.sl.H12_5 c arg0 hchk M1 M2 M3 M4 M5 M6 M7 M8 M9 M11 M12 f1 f2 f3 f4 f5 f6 f7 f8 f9 f12 = kernelRun.sl.H12_5 c arg0 hchk M1 M2 M3 M4 M5 M6 M7 M8 M9 M11 M12 f1 f2 f3 f4 f5 f6 f7 f8 f9 f12' := by
    delta kernelRun.sl.H12_5; rw [ev9874, eH12_4]
  have eH12_6 : kernelRun.sl.H12_6 c arg0 hchk M1 M2 M3 M4 M5 M6 M7 M8 M9 M11 M12 f1 f2 f3 f4 f5 f6 f7 f8 f9 f12 = kernelRun.sl.H12_6 c arg0 hchk M1 M2 M3 M4 M5 M6 M7 M8 M9 M11 M12 f1 f2 f3 f4 f5 f6 f7 f8 f9 f12' := by
    delta kernelRun.sl.H12_6; rw [ev10318, eH12_5]
  have eH12_7 : kernelRun.sl.H12_7 c arg0 hchk M1 M2 M3 M4 M5 M6 M7 M8 M9 M11 M12 f1 f2 f3 f4 f5 f6 f7 f8 f9 f12 = kernelRun.sl.H12_7 c arg0 hchk M1 M2 M3 M4 M5 M6 M7 M8 M9 M11 M12 f1 f2 f3 f4 f5 f6 f7 f8 f9 f12' := by
    delta kernelRun.sl.H12_7; rw [ev10762, eH12_6]
  have eH12_8 : kernelRun.sl.H12_8 c arg0 hchk M1 M2 M3 M4 M5 M6 M7 M8 M9 M11 M12 f1 f2 f3 f4 f5 f6 f7 f8 f9 f12 = kernelRun.sl.H12_8 c arg0 hchk M1 M2 M3 M4 M5 M6 M7 M8 M9 M11 M12 f1 f2 f3 f4 f5 f6 f7 f8 f9 f12' := by
    delta kernelRun.sl.H12_8; rw [ev11206, eH12_7]
  have eH12_9 : kernelRun.sl.H12_9 c arg0 hchk M1 M2 M3 M4 M5 M6 M7 M8 M9 M11 M12 f1 f2 f3 f4 f5 f6 f7 f8 f9 f12 = kernelRun.sl.H12_9 c arg0 hchk M1 M2 M3 M4 M5 M6 M7 M8 M9 M11 M12 f1 f2 f3 f4 f5 f6 f7 f8 f9 f12' := by
    delta kernelRun.sl.H12_9; rw [ev11650, eH12_8]
  have eH12_10 : kernelRun.sl.H12_10 c arg0 hchk M1 M2 M3 M4 M5 M6 M7 M8 M9 M11 M12 f1 f2 f3 f4 f5 f6 f7 f8 f9 f12 = kernelRun.sl.H12_10 c arg0 hchk M1 M2 M3 M4 M5 M6 M7 M8 M9 M11 M12 f1 f2 f3 f4 f5 f6 f7 f8 f9 f12' := by
    delta kernelRun.sl.H12_10; rw [ev12094, eH12_9]
  have eH12_11 : kernelRun.sl.H12_11 c arg0 hchk M1 M2 M3 M4 M5 M6 M7 M8 M9 M11 M12 f1 f2 f3 f4 f5 f6 f7 f8 f9 f12 = kernelRun.sl.H12_11 c arg0 hchk M1 M2 M3 M4 M5 M6 M7 M8 M9 M11 M12 f1 f2 f3 f4 f5 f6 f7 f8 f9 f12' := by
    delta kernelRun.sl.H12_11; rw [ev12538, eH12_10]
  refine ⟨?_, fun hl => ?_⟩
  · rw [run_acc, run_acc, eH12_11]
  · rw [run_out, run_out, dif_pos hl, dif_pos hl]
    delta kernelRun.sl.v12554
    rw [eH12_11]
    exact View.read_writes_of_cover M10.view _ M10.view _ _ (cover_whole' _)

end Cert.Kernel.Body

end
-- ==== Proof.Kernel.Host.lean ====
/-
  What the kernel's region finds when it is entered: the arrays and the prefetched tables after the host
  operations, the pipeline at those tables, the windows' blocks, where the output is written back; and the
  frame claim's conclusion read off a run of the region.
-/
module

public import proofs.«01_k».proof.Proof.Gen.Kernel.Launch
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes an argument: the region finds each as launched. -/
theorem V_arg (c : Dev nD) (b : Ref sig .tc) (hb : b ∈ [main_arg0, main_arg1, main_arg2, main_arg3, main_arg4, main_arg5, main_arg6, main_arg7, main_arg8]) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    rcases hb with rfl | rfl | rfl | rfl | rfl | rfl | rfl | rfl | rfl <;>
    · repeat' apply And.intro
      all_goals exact StableHlo.devRef_ne_of_ne (by decide)))

/-- The tables' contents when the region is entered. -/
def tbl : pre0.Contents (Elt F) := fun j => V m (0 : Dev nD) (pre0.ref j)
/-- There is one device: on every device the tables hold those contents. -/
theorem V_pre (c : Dev nD) (j : Fin 2) : V m c (pre0.ref j) = tbl m j := by
  obtain rfl : c = 0 := Subsingleton.elim _ _; rfl
/-- The pipeline's side condition of the tables' contents. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)
/-- The run-time bound of the grid, and the grid at it. -/
abbrev bnd : grid0.Bounds := dynb0 (tbl m)
abbrev gr : Pipeline.Grid := grid0.at (bnd m)

/-- The grid has as many points as its bound says, and a point's coordinate is the point. -/
theorem gr_N (b : grid0.Bounds) : (grid0.at b).N = b 0 := by
  unfold Pipeline.Grid.N; exact (Fin.prod_univ_one _).trans (grid0.boundAt_of_dyn_true (b := b) (a := (0 : Fin 1)) rfl)
theorem coords_zero (b : grid0.Bounds) (t : Fin (grid0.at b).N) : ((grid0.at b).coords t 0).val = t.val := by
  have h1 := Pipeline.Grid.coords_val (G := grid0.at b) t 0 (S := 1) rfl (grid0.boundAt_of_dyn_true (b := b) (a := (0 : Fin 1)) rfl)
  have h2 : t.val < b 0 := lt_of_lt_of_eq t.isLt (gr_N b)
  rw [h1, Nat.div_one, Nat.mod_eq_of_lt h2]

/-- The tables as the body is handed them. -/
abbrev tbM1 : Memref sig .tc .smem S32 .i32 := Memref.whole main_v29

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged after any run that leaves each input window's array, and every buffer that no
    window stages, as the region found it. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_arg m c main_arg0 (by decide)), ((h c).2 main_arg1 (by decide : main_arg1 ∈ Pipeline.restRefs sig spec0)).trans (V_arg m c main_arg1 (by decide)), ((h c).2 main_arg2 (by decide : main_arg2 ∈ Pipeline.restRefs sig spec0)).trans (V_arg m c main_arg2 (by decide)), ((h c).1 2).trans (((dats 0 c).arrAt_in 2 rfl _).trans ((hA c 2).trans (V_arg m c main_arg3 (by decide)))), ((h c).1 3).trans (((dats 0 c).arrAt_in 3 rfl _).trans ((hA c 3).trans (V_arg m c main_arg4 (by decide)))), ((h c).1 4).trans (((dats 0 c).arrAt_in 4 rfl _).trans ((hA c 4).trans (V_arg m c main_arg5 (by decide)))), ((h c).1 5).trans (((dats 0 c).arrAt_in 5 rfl _).trans ((hA c 5).trans (V_arg m c main_arg6 (by decide)))), ((h c).1 6).trans (((dats 0 c).arrAt_in 6 rfl _).trans ((hA c 6).trans (V_arg m c main_arg7 (by decide)))), ((h c).1 7).trans (((dats 0 c).arrAt_in 7 rfl _).trans ((hA c 7).trans (V_arg m c main_arg8 (by decide))))⟩) h

/-- The last-point test on words, as arithmetic of the numbers they are. -/
theorem last_word (k n : ℕ) (ht : k < n) (hA : n + 2 < 2 ^ 31) : k0_cond2 (BitVec.ofNat 32 k) (BitVec.ofNat 32 n) = 1#1 ↔ k + 1 = n := by
  have hs : Scalar.subi (BitVec.ofNat 32 n) 1#32 = BitVec.ofNat 32 (n - 1) := by
    show BitVec.ofNat 32 n - 1#32 = _
    apply BitVec.eq_of_toNat_eq
    rw [BitVec.toNat_sub, BitVec.toNat_ofNat, BitVec.toNat_ofNat, BitVec.toNat_ofNat]
    omega
  simp only [k0_cond2, hs]
  word_cmp

/-- The body's last-point condition holds at the last point only. -/
theorem last_iff (hO : Ok m) (t : Fin (cfgM m hO).N) :
    k0_cond2 (BitVec.ofNat 32 ((gr m).coords t 0).val) (BitVec.ofNat 32 (bnd m 0)) = 1#1 ↔ t.val + 1 = (cfgM m hO).N := by
  have hN : (cfgM m hO).N = bnd m 0 := gr_N _
  have ht : t.val < bnd m 0 := lt_of_lt_of_eq t.isLt hN
  have hA : bnd m 0 + 2 < 2 ^ 31 := by have := hO.1; unfold Pipeline.Grid.Admits at this; rwa [gr_N] at this
  have hc : ((gr m).coords t 0).val = t.val := coords_zero (bnd m) t
  have key : k0_cond2 (BitVec.ofNat 32 ((gr m).coords t 0).val) (BitVec.ofNat 32 (bnd m 0)) = 1#1 ↔ t.val + 1 = bnd m 0 := by
    rw [hc]; exact last_word t.val (bnd m 0) ht hA
  exact key.trans ⟨fun h => h.trans hN.symm, fun h => h.trans hN⟩

/-- Window 8 is written back at the last point only. -/
theorem flush_iff (hO : Ok m) (t : Fin (cfgM m hO).N) : ((cfgM m hO).win 8).flush t = true ↔ t.val + 1 = (cfgM m hO).N := by
  have h : ((cfgM m hO).win 8).flush t = true ↔ t.val % (cfgM m hO).N = (cfgM m hO).N - 1 :=
    Pipeline.Window.flush_const ((cfgM m hO).win 8) rfl (fun _ _ => rfl) (n := (cfgM m hO).N) (m := (cfgM m hO).N - 1) rfl (by have := t.isLt; omega) t
  rw [h, Nat.mod_eq_of_lt t.isLt]; have := t.isLt; omega

/-- Where the body does not store into the output's buffer, the pipeline's table calls the output idle and does
    not write it back; at the last point it is live. -/
theorem idle_of (hO : Ok m) (t : Fin (cfgM m hO).N) (h : ¬ t.val + 1 = (cfgM m hO).N) : (cfgM m hO).idle 8 ((cfgM m hO).grid.coords t) = true := by
  have h1 := mt (last_iff m hO t).mp h
  show (!(k0_cond2 (BitVec.ofNat 32 ((gr m).coords t 0).val) (BitVec.ofNat 32 (bnd m 0)) == 1#1)) = true
  rw [Bool.not_eq_true', beq_eq_false_iff_ne]; exact h1
theorem noFlush_of (hO : Ok m) (t : Fin (cfgM m hO).N) (h : ¬ t.val + 1 = (cfgM m hO).N) : ((cfgM m hO).win 8).flush t = false := by
  rw [← Bool.not_eq_true]; exact mt (flush_iff m hO t).mp h
theorem live_of (hO : Ok m) (t : Fin (cfgM m hO).N) (h : t.val + 1 = (cfgM m hO).N) : (cfgM m hO).idle 8 ((cfgM m hO).grid.coords t) = false := by
  have h1 := (last_iff m hO t).mpr h
  show (!(k0_cond2 (BitVec.ofNat 32 ((gr m).coords t 0).val) (BitVec.ofNat 32 (bnd m 0)) == 1#1)) = false
  rw [h1]; rfl

end Cert.Kernel.Body

end
-- ==== Proof.Kernel.RunOwns.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.Indep
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref held at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  obtain ⟨b, rfl, rfl, rfl, hm⟩ := h
  cases hm
  have hX : (Memref.isWhole_whole b).unread X = X := ((Memref.isWhole_whole b).eq_unread (f := X) (View.read_whole _ _)).symm
  rw [owns_whole]
  exact congrArg (fun f => (pt c (Memref.whole b) f : sProp 𝕄)) hX.symm

attribute [local irreducible] kernelRun

/-- The body's run over whole memrefs held at given contents. -/
theorem run_owns (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole)
    (f1 : Bf (F := F) c M1) (x2 : Vec F S32x2816 .bf16) (x3 : Vec F S32x256 .f32) (x4 : Vec F S1x1408x4096 .i8) (x5 : Vec F S1x22x4096 .bf16) (x6 : Vec F S1x22x2048 .i8) (x7 : Vec F S1x1024x2816 .i8) (x8 : Vec F S1x16x2816 .bf16) (x9 : Vec F S1x16x1408 .i8) (x10 : Vec F S32x2816 .bf16) (f12 : Bf (F := F) c M12) (E : Set ℕ) (Q : PUnit → sProp 𝕄) :
    iprop(hf c M1 f1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ f, pt c M11 f) ∗ pt c M12 f12
      ∗ (iprop(hf c M1 f1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ f11, pt c M10 (kernelRun (F := F) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) (h10.unread x10) f11 f12).1.1 ∗ pt c M12 (kernelRun (F := F) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) (h10.unread x10) f11 f12).1.2.2) ∗ (∃ f, pt c M11 f)) -∗ Q ⟨⟩))
    ⊢ wp Idealize.ShloMosaic.frame (wpE (defs₀ (F := F)) Variants.none c none) E (cc0_moe b i arg0 M1 h1 M2 h2 M3 h3 M4 h4 M5 h5 M6 h6 M7 h7 M8 h8 M9 h9 M10 h10 M11 h11 M12 h12) Q := by
  rw [owns_pt c M2 h2, owns_pt c M3 h3, owns_pt c M4 h4, owns_pt c M5 h5, owns_pt c M6 h6, owns_pt c M7 h7, owns_pt c M8 h8, owns_pt c M9 h9, owns_pt c M10 h10]
  iintro ⟨H1, H2, H3, H4, H5, H6, H7, H8, H9, H10, ⟨%f11, H11⟩, H12, Hk⟩
  iapply ((kernelRun (F := F) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) (h10.unread x10) f11 f12).2 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10 H12]
  · iexists f11
    isplitl [H10]; · iexact H10
    iexact H12
  iexists _; iexact H11

end Cert.Kernel.Body

end
-- ==== Proof.Kernel.At.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.RunOwns
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun

abbrev ms0 (hO : Ok m) (t : Fin (cfgM m hO).N) : Memref sig .tc .vmem S32x2816 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S32x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1408x4096 .i8 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x22x4096 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x22x2048 .i8 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x2816 .i8 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x16x2816 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x16x1408 .i8 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S32x2816 .bf16 := spec0_8.stage ((cfgM m hO).slots t 8)
abbrev hs8 (hO : Ok m) (t : Fin (cfgM m hO).N) : (ms8 m hO t).IsWhole := hstage0_8 (((cfgM m hO).slots t 8).cast nbuf0_8)
abbrev scH : Memref sig .tc .vmem S32x2048 .bf16 := Memref.whole cc0_scratch0
abbrev scA : Memref sig .tc .vmem S32x2816 .f32 := Memref.whole cc0_scratch1

/-- Point `t`'s coordinate as the word the body is handed. -/
abbrev wordAt (hO : Ok m) (t : Fin (cfgM m hO).N) : BitVec 32 := BitVec.ofNat 32 ((gr m).coords t 0).val

/-- The body as the pipeline calls it at point `t`. -/
abbrev bodyAt (hO : Ok m) (t : Fin (cfgM m hO).N) : Prog (TpuEff nD τ sig (Elt F) Λ₀ .tc) PUnit :=
  cc0_moe (bnd m) (Pipeline.Grid.Coords.static grid0 ((gr m).coords t)) (wordAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)

theorem chkAt (hO : Ok m) (t : Fin (cfgM m hO).N) : k0_chk1 (wordAt m hO t) := hO.2.1 ((gr m).coords t)

/-- Window 0's block at point `t`. -/
def xw0 (hO : Ok m) (c : Dev nD) (t : Fin (cfgM m hO).N) : Vec F S32x2816 .bf16 := iblk m hO c 0 t
/-- Window 1's block at point `t`. -/
def xw1 (hO : Ok m) (c : Dev nD) (t : Fin (cfgM m hO).N) : Vec F S32x256 .f32 := iblk m hO c 1 t
/-- Window 2's block at point `t`. -/
def xw2 (hO : Ok m) (c : Dev nD) (t : Fin (cfgM m hO).N) : Vec F S1x1408x4096 .i8 := iblk m hO c 2 t
/-- Window 3's block at point `t`. -/
def xw3 (hO : Ok m) (c : Dev nD) (t : Fin (cfgM m hO).N) : Vec F S1x22x4096 .bf16 := iblk m hO c 3 t
/-- Window 4's block at point `t`. -/
def xw4 (hO : Ok m) (c : Dev nD) (t : Fin (cfgM m hO).N) : Vec F S1x22x2048 .i8 := iblk m hO c 4 t
/-- Window 5's block at point `t`. -/
def xw5 (hO : Ok m) (c : Dev nD) (t : Fin (cfgM m hO).N) : Vec F S1x1024x2816 .i8 := iblk m hO c 5 t
/-- Window 6's block at point `t`. -/
def xw6 (hO : Ok m) (c : Dev nD) (t : Fin (cfgM m hO).N) : Vec F S1x16x2816 .bf16 := iblk m hO c 6 t
/-- Window 7's block at point `t`. -/
def xw7 (hO : Ok m) (c : Dev nD) (t : Fin (cfgM m hO).N) : Vec F S1x16x1408 .i8 := iblk m hO c 7 t

/-- What the body's run at point `t` leaves in the output's buffer and the two scratch buffers. -/
def runAt (hO : Ok m) (c : Dev nD) (t : Fin (cfgM m hO).N) (f10 : Bf (F := F) c (ms8 m hO t)) (f11 : Bf (F := F) c scH) (f12 : Bf (F := F) c scA) :
    Bf (F := F) c (ms8 m hO t) × Bf (F := F) c scH × Bf (F := F) c scA :=
  (kernelRun (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) ((hs0 m hO t).unread (xw0 m hO c t)) ((hs1 m hO t).unread (xw1 m hO c t)) ((hs2 m hO t).unread (xw2 m hO c t)) ((hs3 m hO t).unread (xw3 m hO c t)) ((hs4 m hO t).unread (xw4 m hO c t)) ((hs5 m hO t).unread (xw5 m hO c t)) ((hs6 m hO t).unread (xw6 m hO c t)) ((hs7 m hO t).unread (xw7 m hO c t)) f10 f11 f12).1

theorem runAt_indep (hO : Ok m) (c : Dev nD) (t : Fin (cfgM m hO).N) (f10 f10' : Bf (F := F) c (ms8 m hO t)) (f11 f11' : Bf (F := F) c scH) (f12 f12' : Bf (F := F) c scA)
    (h : f12 = f12' ∨ first (wordAt m hO t)) : (runAt m hO c t f10 f11 f12).2.2 = (runAt m hO c t f10' f11' f12').2.2
    ∧ (last (wordAt m hO t) (bnd m) → (ms8 m hO t).view.read (Elt F) (runAt m hO c t f10 f11 f12).1 = (ms8 m hO t).view.read (Elt F) (runAt m hO c t f10' f11' f12').1) := by
  unfold runAt
  exact run_indep (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) ((hs0 m hO t).unread (xw0 m hO c t)) ((hs1 m hO t).unread (xw1 m hO c t)) ((hs2 m hO t).unread (xw2 m hO c t)) ((hs3 m hO t).unread (xw3 m hO c t)) ((hs4 m hO t).unread (xw4 m hO c t)) ((hs5 m hO t).unread (xw5 m hO c t)) ((hs6 m hO t).unread (xw6 m hO c t)) ((hs7 m hO t).unread (xw7 m hO c t)) f10 f10' f11 f11' f12 f12' h

theorem runAt_idle (hO : Ok m) (c : Dev nD) (t : Fin (cfgM m hO).N) (f10 : Bf (F := F) c (ms8 m hO t)) (f11 : Bf (F := F) c scH) (f12 : Bf (F := F) c scA)
    (h : ¬ last (wordAt m hO t) (bnd m)) : (runAt m hO c t f10 f11 f12).1 = f10 := by
  unfold runAt
  have e := run_out (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) ((hs0 m hO t).unread (xw0 m hO c t)) ((hs1 m hO t).unread (xw1 m hO c t)) ((hs2 m hO t).unread (xw2 m hO c t)) ((hs3 m hO t).unread (xw3 m hO c t)) ((hs4 m hO t).unread (xw4 m hO c t)) ((hs5 m hO t).unread (xw5 m hO c t)) ((hs6 m hO t).unread (xw6 m hO c t)) ((hs7 m hO t).unread (xw7 m hO c t)) f10 f11 f12
  rw [dif_neg h] at e
  exact e

theorem runAt_owns (hO : Ok m) (c : Dev nD) (t : Fin (cfgM m hO).N) (x10 : Vec F S32x2816 .bf16) (f12 : Bf (F := F) c scA) (E : Set ℕ) (Q : PUnit → sProp 𝕄) :
    iprop(hf c tbM1 (tbl m 1) ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ owns (c : Thread nD τ) (ms8 m hO t) fullShare x10 ∗ (∃ f, pt c scH f) ∗ pt c scA f12
      ∗ (iprop(hf c tbM1 (tbl m 1) ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ f11, pt c (ms8 m hO t) (runAt m hO c t ((hs8 m hO t).unread x10) f11 f12).1 ∗ pt c scA (runAt m hO c t ((hs8 m hO t).unread x10) f11 f12).2.2) ∗ (∃ f, pt c scH f)) -∗ Q ⟨⟩))
    ⊢ wp Idealize.ShloMosaic.frame (wpE (defs₀ (F := F)) Variants.none c none) E (bodyAt m hO t) Q := by
  unfold runAt
  exact run_owns (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) (xw0 m hO c t) (xw1 m hO c t) (xw2 m hO c t) (xw3 m hO c t) (xw4 m hO c t) (xw5 m hO c t) (xw6 m hO c t) (xw7 m hO c t) x10 f12 E Q

end Cert.Kernel.Body

end
-- ==== Proof.Kernel.Inv.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.At
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] runAt

/-- What the accumulator holds before point `n` (before the first, what the launch's memory has there). -/
def accAt (hO : Ok m) (c : Dev nD) : ℕ → Bf (F := F) c scA
  | 0 => m ((c : Thread nD τ).loc cc0_scratch1)
  | n + 1 => if h : n < (cfgM m hO).N then
      (runAt m hO c ⟨n, h⟩ (ms8 m hO ⟨n, h⟩).view.junk (m ((c : Thread nD τ).loc cc0_scratch0)) (accAt hO c n)).2.2
    else accAt hO c n

theorem accAt_succ (hO : Ok m) (c : Dev nD) (n : ℕ) (h : n < (cfgM m hO).N) : accAt m hO c (n + 1) =
    (runAt m hO c ⟨n, h⟩ (ms8 m hO ⟨n, h⟩).view.junk (m ((c : Thread nD τ).loc cc0_scratch0)) (accAt m hO c n)).2.2 := by
  rw [accAt, dif_pos h]

/-- What the output's buffer holds after the last point's body. -/
def outAt (hO : Ok m) (c : Dev nD) (t : Fin (cfgM m hO).N) : Vec F S32x2816 .bf16 :=
  (ms8 m hO t).view.read (Elt F) (runAt m hO c t (ms8 m hO t).view.junk (m ((c : Thread nD τ).loc cc0_scratch0)) (accAt m hO c t.val)).1

/-- Contents of the accumulator from which point `t`'s body leaves what `accAt` and `outAt` say. -/
def Good (hO : Ok m) (c : Dev nD) (t : Fin (cfgM m hO).N) (f12 : Bf (F := F) c scA) : Prop :=
  ∀ f10 f11, (runAt m hO c t f10 f11 f12).2.2 = accAt m hO c (t.val + 1)
    ∧ (t.val + 1 = (cfgM m hO).N → (ms8 m hO t).view.read (Elt F) (runAt m hO c t f10 f11 f12).1 = outAt m hO c t)

theorem acc_good (hO : Ok m) (c : Dev nD) (t : Fin (cfgM m hO).N) (f12 : Bf (F := F) c scA) (h : Good m hO c t f12) (f10 : Bf (F := F) c (ms8 m hO t)) (f11 : Bf (F := F) c scH) :
    (runAt m hO c t f10 f11 f12).2.2 = accAt m hO c (t.val + 1) := (h f10 f11).1

theorem good_of (hO : Ok m) (c : Dev nD) (t : Fin (cfgM m hO).N) (f12 : Bf (F := F) c scA) (h : f12 = accAt m hO c t.val ∨ t.val = 0) : Good m hO c t f12 := by
  intro f10 f11
  have h' : f12 = accAt m hO c t.val ∨ first (wordAt m hO t) := by
    refine h.imp id fun h0 => ?_
    have hc : ((gr m).coords t 0).val = t.val := coords_zero (bnd m) t
    unfold wordAt; rw [hc, h0]; rfl
  have key := runAt_indep m hO c t f10 (ms8 m hO t).view.junk f11 (m ((c : Thread nD τ).loc cc0_scratch0)) f12 (accAt m hO c t.val) h'
  refine ⟨key.1.trans ?_, fun hl => key.2 ((last_iff m hO t).mpr hl)⟩
  rw [accAt_succ m hO c t.val t.isLt]

end Cert.Kernel.Body

end
-- ==== Proof.Kernel.Phi.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.Inv
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

/-- What the launch hands the region besides the windows, buffer by buffer. -/
theorem PhiA_eq (c : Dev nD) :
    (Pipeline.ΦA spec0 c : sProp 𝕄) = iprop(iprop((∃ f, pt c scH f) ∗ (∃ f, pt c scA f)) ∗ (∃ r, prngReg c r)) := by
  unfold Pipeline.ΦA; rw [scopedRest0_eq]; try rfl
theorem PhiT_eq (c : Dev nD) : (Pipeline.ΦT pre0 (tbl m) c : sProp 𝕄)
    = iprop(((c : Thread nD τ).loc (pre0.ref 0) ↦{fullShare.right} tbl m 0) ∗ hf c tbM1 (tbl m 1)) := by
  unfold Pipeline.ΦT Pipeline.prefHeld
  exact bigSep_univ_eq_bigSepL [(0 : Fin 2), (1 : Fin 2)] (by decide) (by decide) _

/-- The region's invariant before point `n`. -/
def Phi (hO : Ok m) (c : Dev nD) : (n : ℕ) → sProp 𝕄
  | 0 => iprop(Pipeline.ΦA spec0 c ∗ Pipeline.ΦT pre0 (tbl m) c)
  | n + 1 => iprop(iprop(iprop((∃ f, pt c scH f) ∗ pt c scA (accAt m hO c (n + 1))) ∗ (∃ r, prngReg c r)) ∗ Pipeline.ΦT pre0 (tbl m) c)

/-- Before any point the accumulator holds contents from which the body leaves what `accAt` says. -/
theorem Phi_good (hO : Ok m) (c : Dev nD) (t : Fin (cfgM m hO).N) : Phi m hO c t.val ⊢
    iprop(iprop(iprop((∃ f, pt c scH f) ∗ (∃ f, ⌜Good m hO c t f⌝ ∗ pt c scA f)) ∗ (∃ r, prngReg c r)) ∗ Pipeline.ΦT pre0 (tbl m) c) := by
  obtain ⟨n, hn⟩ := t
  cases n with
  | zero =>
    show iprop(Pipeline.ΦA spec0 c ∗ Pipeline.ΦT pre0 (tbl m) c) ⊢ _
    rw [PhiA_eq]
    iintro ⟨⟨⟨HH, ⟨%f, HA⟩⟩, Hg⟩, HT⟩
    isplitr [HT]
    · isplitr [Hg]
      · isplitl [HH]; · iexact HH
        iexists f
        isplitr; · ipureintro; exact good_of m hO c _ f (Or.inr rfl)
        iexact HA
      iexact Hg
    iexact HT
  | succ n =>
    show iprop(iprop(iprop((∃ f, pt c scH f) ∗ pt c scA (accAt m hO c (n + 1))) ∗ (∃ r, prngReg c r)) ∗ Pipeline.ΦT pre0 (tbl m) c) ⊢ _
    iintro ⟨⟨⟨HH, HA⟩, Hg⟩, HT⟩
    isplitr [HT]
    · isplitr [Hg]
      · isplitl [HH]; · iexact HH
        iexists _
        isplitr; · ipureintro; exact good_of m hO c ⟨n + 1, hn⟩ _ (Or.inl rfl)
        iexact HA
      iexact Hg
    iexact HT

/-- The pipeline's proof data: each input's buffer at its block after every point, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => xw0 m hO c t
    | ⟨1, _⟩ => xw1 m hO c t
    | ⟨2, _⟩ => xw2 m hO c t
    | ⟨3, _⟩ => xw3 m hO c t
    | ⟨4, _⟩ => xw4 m hO c t
    | ⟨5, _⟩ => xw5 m hO c t
    | ⟨6, _⟩ => xw6 m hO c t
    | ⟨7, _⟩ => xw7 m hO c t
    | ⟨8, _⟩ => outAt m hO c t
  Φ t := Phi m hO c t.val
  q _ := fullShare
  owed _ := 0

end Cert.Kernel.Body

end
-- ==== Proof.Kernel.Leaves.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.Phi
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

/-- What the body leaves in window `w`'s buffer at point `t` (`Dat.leavesExact`), as one term. -/
def leavesAt {cfg : Cfg sig Λ₀} {c : Dev nD} (dat : Dat τ (Elt F) Unit ℕ (UR sig nD τ) ℕ cfg c) (w : Fin cfg.W) (t : Fin cfg.N) : sProp 𝕄 := dat.leavesExact w t

/-- The body obligation from its windows' buffers, each as one term. -/
theorem obligation_of {cfg : Cfg sig Λ₀} {c : Dev nD} (dat : Dat τ (Elt F) Unit ℕ (UR sig nD τ) ℕ cfg c)
    (h : ∀ t : Fin cfg.N, iprop(dat.Φ t.castSucc ∗ dat.owesAt () t.castSucc ∗ bigSep Finset.univ fun w : Fin cfg.W =>
          iprop(∃ d, owns (c : Thread nD τ) ((cfg.win w).stage (cfg.slots t w)) fullShare (dat.before w t d)))
      ⊢ wp Idealize.ShloMosaic.frame (wpE (defs₀ (F := F)) Variants.none c none) Set.univ (defs₀ .tc cfg.body (cfg.bodyArgs t (cfg.slots t)))
        fun _ => iprop(dat.Φ t.succ ∗ dat.owesAt () t.succ ∗ bigSep Finset.univ fun w : Fin cfg.W => leavesAt dat w t)) :
    BodyObligation dat (defs₀ (F := F)) Variants.none () Set.univ := h

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = xw0 m hO c t := by dsimp only [dats]; try rfl
theorem before_0 (hO : Ok m) (c : Dev nD) (t : Fin (cfgM m hO).N) (d) : (dats m hO 0 c).before 0 t d = xw0 m hO c t :=
  before_0_of m hO (dats m hO 0 c) (A_eq m hO c 0) (after_0 m hO c) t d
theorem after_1 (hO : Ok m) (c : Dev nD) (t : Fin (cfgM m hO).N) : (dats m hO 0 c).after 1 t = xw1 m hO c t := by dsimp only [dats]; try rfl
theorem before_1 (hO : Ok m) (c : Dev nD) (t : Fin (cfgM m hO).N) (d) : (dats m hO 0 c).before 1 t d = xw1 m hO c t :=
  before_1_of m hO (dats m hO 0 c) (A_eq m hO c 1) (after_1 m hO c) t d
theorem after_2 (hO : Ok m) (c : Dev nD) (t : Fin (cfgM m hO).N) : (dats m hO 0 c).after 2 t = xw2 m hO c t := by dsimp only [dats]; try rfl
theorem before_2 (hO : Ok m) (c : Dev nD) (t : Fin (cfgM m hO).N) (d) : (dats m hO 0 c).before 2 t d = xw2 m hO c t :=
  before_2_of m hO (dats m hO 0 c) (A_eq m hO c 2) (after_2 m hO c) t d
theorem after_3 (hO : Ok m) (c : Dev nD) (t : Fin (cfgM m hO).N) : (dats m hO 0 c).after 3 t = xw3 m hO c t := by dsimp only [dats]; try rfl
theorem before_3 (hO : Ok m) (c : Dev nD) (t : Fin (cfgM m hO).N) (d) : (dats m hO 0 c).before 3 t d = xw3 m hO c t :=
  before_3_of m hO (dats m hO 0 c) (A_eq m hO c 3) (after_3 m hO c) t d
theorem after_4 (hO : Ok m) (c : Dev nD) (t : Fin (cfgM m hO).N) : (dats m hO 0 c).after 4 t = xw4 m hO c t := by dsimp only [dats]; try rfl
theorem before_4 (hO : Ok m) (c : Dev nD) (t : Fin (cfgM m hO).N) (d) : (dats m hO 0 c).before 4 t d = xw4 m hO c t :=
  before_4_of m hO (dats m hO 0 c) (A_eq m hO c 4) (after_4 m hO c) t d
theorem after_5 (hO : Ok m) (c : Dev nD) (t : Fin (cfgM m hO).N) : (dats m hO 0 c).after 5 t = xw5 m hO c t := by dsimp only [dats]; try rfl
theorem before_5 (hO : Ok m) (c : Dev nD) (t : Fin (cfgM m hO).N) (d) : (dats m hO 0 c).before 5 t d = xw5 m hO c t :=
  before_5_of m hO (dats m hO 0 c) (A_eq m hO c 5) (after_5 m hO c) t d
theorem after_6 (hO : Ok m) (c : Dev nD) (t : Fin (cfgM m hO).N) : (dats m hO 0 c).after 6 t = xw6 m hO c t := by dsimp only [dats]; try rfl
theorem before_6 (hO : Ok m) (c : Dev nD) (t : Fin (cfgM m hO).N) (d) : (dats m hO 0 c).before 6 t d = xw6 m hO c t :=
  before_6_of m hO (dats m hO 0 c) (A_eq m hO c 6) (after_6 m hO c) t d
theorem after_7 (hO : Ok m) (c : Dev nD) (t : Fin (cfgM m hO).N) : (dats m hO 0 c).after 7 t = xw7 m hO c t := by dsimp only [dats]; try rfl
theorem before_7 (hO : Ok m) (c : Dev nD) (t : Fin (cfgM m hO).N) (d) : (dats m hO 0 c).before 7 t d = xw7 m hO c t :=
  before_7_of m hO (dats m hO 0 c) (A_eq m hO c 7) (after_7 m hO c) t d
theorem after_8 (hO : Ok m) (c : Dev nD) (t : Fin (cfgM m hO).N) : (dats m hO 0 c).after 8 t = outAt m hO c t := by dsimp only [dats]; try rfl

theorem pre_0 (hO : Ok m) (c : Dev nD) (t : Fin (cfgM m hO).N) :
    (iprop(∃ d, owns (c : Thread nD τ) (((cfgM m hO).win 0).stage ((cfgM m hO).slots t 0)) fullShare ((dats m hO 0 c).before 0 t d)) : sProp 𝕄) ⊢ owns (c : Thread nD τ) (ms0 m hO t) fullShare (xw0 m hO c t) := by
  iintro ⟨%d, H⟩
  rw [before_0]
  iexact H
theorem leaves_0 (hO : Ok m) (c : Dev nD) (t : Fin (cfgM m hO).N) :
    owns (c : Thread nD τ) (ms0 m hO t) fullShare (xw0 m hO c t) ⊢ (leavesAt (dats m hO 0 c) 0 t : sProp 𝕄) := by
  unfold leavesAt Dat.leavesExact
  rw [show (cfgM m hO).idle 0 ((cfgM m hO).grid.coords t) = false from rfl, after_0]
  exact .rfl
theorem pre_1 (hO : Ok m) (c : Dev nD) (t : Fin (cfgM m hO).N) :
    (iprop(∃ d, owns (c : Thread nD τ) (((cfgM m hO).win 1).stage ((cfgM m hO).slots t 1)) fullShare ((dats m hO 0 c).before 1 t d)) : sProp 𝕄) ⊢ owns (c : Thread nD τ) (ms1 m hO t) fullShare (xw1 m hO c t) := by
  iintro ⟨%d, H⟩
  rw [before_1]
  iexact H
theorem leaves_1 (hO : Ok m) (c : Dev nD) (t : Fin (cfgM m hO).N) :
    owns (c : Thread nD τ) (ms1 m hO t) fullShare (xw1 m hO c t) ⊢ (leavesAt (dats m hO 0 c) 1 t : sProp 𝕄) := by
  unfold leavesAt Dat.leavesExact
  rw [show (cfgM m hO).idle 1 ((cfgM m hO).grid.coords t) = false from rfl, after_1]
  exact .rfl
theorem pre_2 (hO : Ok m) (c : Dev nD) (t : Fin (cfgM m hO).N) :
    (iprop(∃ d, owns (c : Thread nD τ) (((cfgM m hO).win 2).stage ((cfgM m hO).slots t 2)) fullShare ((dats m hO 0 c).before 2 t d)) : sProp 𝕄) ⊢ owns (c : Thread nD τ) (ms2 m hO t) fullShare (xw2 m hO c t) := by
  iintro ⟨%d, H⟩
  rw [before_2]
  iexact H
theorem leaves_2 (hO : Ok m) (c : Dev nD) (t : Fin (cfgM m hO).N) :
    owns (c : Thread nD τ) (ms2 m hO t) fullShare (xw2 m hO c t) ⊢ (leavesAt (dats m hO 0 c) 2 t : sProp 𝕄) := by
  unfold leavesAt Dat.leavesExact
  rw [show (cfgM m hO).idle 2 ((cfgM m hO).grid.coords t) = false from rfl, after_2]
  exact .rfl
theorem pre_3 (hO : Ok m) (c : Dev nD) (t : Fin (cfgM m hO).N) :
    (iprop(∃ d, owns (c : Thread nD τ) (((cfgM m hO).win 3).stage ((cfgM m hO).slots t 3)) fullShare ((dats m hO 0 c).before 3 t d)) : sProp 𝕄) ⊢ owns (c : Thread nD τ) (ms3 m hO t) fullShare (xw3 m hO c t) := by
  iintro ⟨%d, H⟩
  rw [before_3]
  iexact H
theorem leaves_3 (hO : Ok m) (c : Dev nD) (t : Fin (cfgM m hO).N) :
    owns (c : Thread nD τ) (ms3 m hO t) fullShare (xw3 m hO c t) ⊢ (leavesAt (dats m hO 0 c) 3 t : sProp 𝕄) := by
  unfold leavesAt Dat.leavesExact
  rw [show (cfgM m hO).idle 3 ((cfgM m hO).grid.coords t) = false from rfl, after_3]
  exact .rfl
theorem pre_4 (hO : Ok m) (c : Dev nD) (t : Fin (cfgM m hO).N) :
    (iprop(∃ d, owns (c : Thread nD τ) (((cfgM m hO).win 4).stage ((cfgM m hO).slots t 4)) fullShare ((dats m hO 0 c).before 4 t d)) : sProp 𝕄) ⊢ owns (c : Thread nD τ) (ms4 m hO t) fullShare (xw4 m hO c t) := by
  iintro ⟨%d, H⟩
  rw [before_4]
  iexact H
theorem leaves_4 (hO : Ok m) (c : Dev nD) (t : Fin (cfgM m hO).N) :
    owns (c : Thread nD τ) (ms4 m hO t) fullShare (xw4 m hO c t) ⊢ (leavesAt (dats m hO 0 c) 4 t : sProp 𝕄) := by
  unfold leavesAt Dat.leavesExact
  rw [show (cfgM m hO).idle 4 ((cfgM m hO).grid.coords t) = false from rfl, after_4]
  exact .rfl
theorem pre_5 (hO : Ok m) (c : Dev nD) (t : Fin (cfgM m hO).N) :
    (iprop(∃ d, owns (c : Thread nD τ) (((cfgM m hO).win 5).stage ((cfgM m hO).slots t 5)) fullShare ((dats m hO 0 c).before 5 t d)) : sProp 𝕄) ⊢ owns (c : Thread nD τ) (ms5 m hO t) fullShare (xw5 m hO c t) := by
  iintro ⟨%d, H⟩
  rw [before_5]
  iexact H
theorem leaves_5 (hO : Ok m) (c : Dev nD) (t : Fin (cfgM m hO).N) :
    owns (c : Thread nD τ) (ms5 m hO t) fullShare (xw5 m hO c t) ⊢ (leavesAt (dats m hO 0 c) 5 t : sProp 𝕄) := by
  unfold leavesAt Dat.leavesExact
  rw [show (cfgM m hO).idle 5 ((cfgM m hO).grid.coords t) = false from rfl, after_5]
  exact .rfl
theorem pre_6 (hO : Ok m) (c : Dev nD) (t : Fin (cfgM m hO).N) :
    (iprop(∃ d, owns (c : Thread nD τ) (((cfgM m hO).win 6).stage ((cfgM m hO).slots t 6)) fullShare ((dats m hO 0 c).before 6 t d)) : sProp 𝕄) ⊢ owns (c : Thread nD τ) (ms6 m hO t) fullShare (xw6 m hO c t) := by
  iintro ⟨%d, H⟩
  rw [before_6]
  iexact H
theorem leaves_6 (hO : Ok m) (c : Dev nD) (t : Fin (cfgM m hO).N) :
    owns (c : Thread nD τ) (ms6 m hO t) fullShare (xw6 m hO c t) ⊢ (leavesAt (dats m hO 0 c) 6 t : sProp 𝕄) := by
  unfold leavesAt Dat.leavesExact
  rw [show (cfgM m hO).idle 6 ((cfgM m hO).grid.coords t) = false from rfl, after_6]
  exact .rfl
theorem pre_7 (hO : Ok m) (c : Dev nD) (t : Fin (cfgM m hO).N) :
    (iprop(∃ d, owns (c : Thread nD τ) (((cfgM m hO).win 7).stage ((cfgM m hO).slots t 7)) fullShare ((dats m hO 0 c).before 7 t d)) : sProp 𝕄) ⊢ owns (c : Thread nD τ) (ms7 m hO t) fullShare (xw7 m hO c t) := by
  iintro ⟨%d, H⟩
  rw [before_7]
  iexact H
theorem leaves_7 (hO : Ok m) (c : Dev nD) (t : Fin (cfgM m hO).N) :
    owns (c : Thread nD τ) (ms7 m hO t) fullShare (xw7 m hO c t) ⊢ (leavesAt (dats m hO 0 c) 7 t : sProp 𝕄) := by
  unfold leavesAt Dat.leavesExact
  rw [show (cfgM m hO).idle 7 ((cfgM m hO).grid.coords t) = false from rfl, after_7]
  exact .rfl

theorem leaves_8 (hO : Ok m) (c : Dev nD) (t : Fin (cfgM m hO).N) (d : Vec F S32x2816 .bf16) (f11 : Bf (F := F) c scH) (f12 : Bf (F := F) c scA) (hg : Good m hO c t f12) :
      (pt c (ms8 m hO t) (runAt m hO c t ((hs8 m hO t).unread ((dats m hO 0 c).before 8 t d)) f11 f12).1 : sProp 𝕄) ⊢ leavesAt (dats m hO 0 c) 8 t := by
    unfold leavesAt
    by_cases hl : t.val + 1 = (cfgM m hO).N
    · unfold Good at hg
      have h2 := (hg ((hs8 m hO t).unread ((dats m hO 0 c).before 8 t d)) f11).2 hl
      unfold Dat.leavesExact
      rw [live_of m hO t hl, after_8, ← h2]
      generalize (runAt m hO c t ((hs8 m hO t).unread ((dats m hO 0 c).before 8 t d)) f11 f12).1 = g
      refine BIBase.Entails.trans ?_ (Entails.of_eq (owns_pt c (ms8 m hO t) (hs8 m hO t) _).symm)
      rw [Memref.IsWhole.unread_read]
    · rw [Dat.leavesExact_idle (dats m hO 0 c) 8 t (idle_of m hO t hl) (noFlush_of m hO t hl)]
      rw [runAt_idle m hO c t _ f11 f12 (mt (last_iff m hO t).mp hl)]
      iintro H
      iexists d
      have e2 : (pt c (ms8 m hO t) ((hs8 m hO t).unread ((dats m hO 0 c).before 8 t d)) : sProp 𝕄) ⊢ owns (c : Thread nD τ) (ms8 m hO t) fullShare ((dats m hO 0 c).before 8 t d) :=
        Entails.of_eq (owns_pt c (ms8 m hO t) (hs8 m hO t) _).symm
      iapply e2
      iexact H

end Cert.Kernel.Body

end
-- ==== Proof.Kernel.Core.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.Leaves
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

set_option maxHeartbeats 1600000 in
/-- The body at any point of the grid, from its buffers at the windows' blocks. -/
theorem sound_core (hO : Ok m) (c : Dev nD) (t : Fin (cfgM m hO).N) {α : Type} (O L8 : sProp 𝕄) (y : α → Vec F S32x2816 .bf16)
    (h8 : ∀ d f11 f12, Good m hO c t f12 → (pt c (ms8 m hO t) (runAt m hO c t ((hs8 m hO t).unread (y d)) f11 f12).1 : sProp 𝕄) ⊢ L8) :
    iprop(Phi m hO c t.val ∗ O ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ d, owns (c : Thread nD τ) (ms8 m hO t) fullShare (y d)))
    ⊢ wp Idealize.ShloMosaic.frame (wpE (defs₀ (F := F)) Variants.none c none) Set.univ (bodyAt m hO t)
      (fun _ => iprop(Phi m hO c (t.val + 1) ∗ O ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ L8)) := by
  have hgd := Phi_good m hO c t
  rw [show Phi m hO c (t.val + 1) = iprop(iprop(iprop((∃ f, pt c scH f) ∗ pt c scA (accAt m hO c (t.val + 1))) ∗ (∃ r, prngReg c r)) ∗ Pipeline.ΦT pre0 (tbl m) c) from rfl]
  rw [PhiT_eq] at hgd ⊢
  iintro ⟨HP, Ho, H0, H1, H2, H3, H4, H5, H6, H7, ⟨%d, H8⟩⟩
  ihave HP2 := hgd $$ HP
  icases HP2 with ⟨⟨⟨HH, ⟨%f12, %hg, HA⟩⟩, Hg⟩, HT0, HT1⟩
  iapply (runAt_owns m hO c t (y d) f12 Set.univ _)
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HH]; · iexact HH
  isplitl [HA]; · iexact HA
  iintro ⟨HT1, H0, H1, H2, H3, H4, H5, H6, H7, ⟨%f11, H8, HA⟩, HH⟩
  isplitl [HH HA Hg HT0 HT1]
  · isplitr [HT0 HT1]
    · isplitr [Hg]
      · isplitl [HH]; · iexact HH
        rw [← acc_good m hO c t f12 hg ((hs8 m hO t).unread (y d)) f11]
        iexact HA
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (h8 d f11 f12 hg)
  iexact H8

end Cert.Kernel.Body

end
-- ==== Proof.Kernel.Sound.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.Core
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

theorem owes_eq (hO : Ok m) (c : Dev nD) (t : Fin (cfgM m hO).N) : ((dats m hO 0 c).owesAt () t.succ : sProp 𝕄) = (dats m hO 0 c).owesAt () t.castSucc := by
  have h1 : (dats m hO 0 c).owed t.succ = (dats m hO 0 c).owed t.castSucc := by dsimp only [dats]
  have h2 : (dats m hO 0 c).bound () t.succ = (dats m hO 0 c).bound () t.castSucc := by unfold Dat.bound; dsimp only [dats]
  unfold Dat.owesAt
  rw [h1, h2]
theorem phi_succ (hO : Ok m) (c : Dev nD) (t : Fin (cfgM m hO).N) : ((dats m hO 0 c).Φ t.succ : sProp 𝕄) = Phi m hO c (t.val + 1) := by
  dsimp only [dats]; rw [Fin.val_succ]
theorem phi_castSucc (hO : Ok m) (c : Dev nD) (t : Fin (cfgM m hO).N) : ((dats m hO 0 c).Φ t.castSucc : sProp 𝕄) = Phi m hO c t.val := by
  dsimp only [dats]; rw [Fin.val_castSucc]
theorem phi_zero (hO : Ok m) (c : Dev nD) : ((dats m hO 0 c).Φ 0 : sProp 𝕄) = iprop(Pipeline.ΦA spec0 c ∗ Pipeline.ΦT pre0 (tbl m) c) := by
  dsimp only [dats]; rw [Fin.val_zero]; rfl
theorem phi_last (hO : Ok m) (c : Dev nD) : ((dats m hO 0 c).Φ (Fin.last (cfgM m hO).N) : sProp 𝕄) = Phi m hO c (cfgM m hO).N := by
  dsimp only [dats]; rw [Fin.val_last]

theorem pre_all (hO : Ok m) (c : Dev nD) (t : Fin (cfgM m hO).N) : iprop((dats m hO 0 c).Φ t.castSucc ∗ (dats m hO 0 c).owesAt () t.castSucc ∗ (∃ d, owns (c : Thread nD τ) (((cfgM m hO).win 0).stage ((cfgM m hO).slots t 0)) fullShare ((dats m hO 0 c).before 0 t d)) ∗ (∃ d, owns (c : Thread nD τ) (((cfgM m hO).win 1).stage ((cfgM m hO).slots t 1)) fullShare ((dats m hO 0 c).before 1 t d)) ∗ (∃ d, owns (c : Thread nD τ) (((cfgM m hO).win 2).stage ((cfgM m hO).slots t 2)) fullShare ((dats m hO 0 c).before 2 t d)) ∗ (∃ d, owns (c : Thread nD τ) (((cfgM m hO).win 3).stage ((cfgM m hO).slots t 3)) fullShare ((dats m hO 0 c).before 3 t d)) ∗ (∃ d, owns (c : Thread nD τ) (((cfgM m hO).win 4).stage ((cfgM m hO).slots t 4)) fullShare ((dats m hO 0 c).before 4 t d)) ∗ (∃ d, owns (c : Thread nD τ) (((cfgM m hO).win 5).stage ((cfgM m hO).slots t 5)) fullShare ((dats m hO 0 c).before 5 t d)) ∗ (∃ d, owns (c : Thread nD τ) (((cfgM m hO).win 6).stage ((cfgM m hO).slots t 6)) fullShare ((dats m hO 0 c).before 6 t d)) ∗ (∃ d, owns (c : Thread nD τ) (((cfgM m hO).win 7).stage ((cfgM m hO).slots t 7)) fullShare ((dats m hO 0 c).before 7 t d)) ∗ (∃ d, owns (c : Thread nD τ) (((cfgM m hO).win 8).stage ((cfgM m hO).slots t 8)) fullShare ((dats m hO 0 c).before 8 t d))) ⊢ iprop(Phi m hO c t.val ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ d, owns (c : Thread nD τ) (ms8 m hO t) fullShare ((dats m hO 0 c).before 8 t d))) := by
  rw [phi_castSucc]
  exact BIClass.sep_mono .rfl (BIClass.sep_mono .rfl (BIClass.sep_mono (pre_0 m hO c t) (BIClass.sep_mono (pre_1 m hO c t) (BIClass.sep_mono (pre_2 m hO c t) (BIClass.sep_mono (pre_3 m hO c t) (BIClass.sep_mono (pre_4 m hO c t) (BIClass.sep_mono (pre_5 m hO c t) (BIClass.sep_mono (pre_6 m hO c t) (BIClass.sep_mono (pre_7 m hO c t) .rfl)))))))))
theorem mid_all (hO : Ok m) (c : Dev nD) (t : Fin (cfgM m hO).N) : iprop(Phi m hO c t.val ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ d, owns (c : Thread nD τ) (ms8 m hO t) fullShare ((dats m hO 0 c).before 8 t d))) ⊢ wp Idealize.ShloMosaic.frame (wpE (defs₀ (F := F)) Variants.none c none) Set.univ (bodyAt m hO t) (fun _ => iprop(Phi m hO c (t.val + 1) ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ leavesAt (dats m hO 0 c) 8 t)) :=
  sound_core m hO c t _ _ (fun d => (dats m hO 0 c).before 8 t d) (leaves_8 m hO c t)
theorem leaves_all (hO : Ok m) (c : Dev nD) (t : Fin (cfgM m hO).N) (A B L8 : sProp 𝕄) : iprop(A ∗ B ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ L8) ⊢ iprop(A ∗ B ∗ leavesAt (dats m hO 0 c) 0 t ∗ leavesAt (dats m hO 0 c) 1 t ∗ leavesAt (dats m hO 0 c) 2 t ∗ leavesAt (dats m hO 0 c) 3 t ∗ leavesAt (dats m hO 0 c) 4 t ∗ leavesAt (dats m hO 0 c) 5 t ∗ leavesAt (dats m hO 0 c) 6 t ∗ leavesAt (dats m hO 0 c) 7 t ∗ L8) :=
  BIClass.sep_mono .rfl (BIClass.sep_mono .rfl (BIClass.sep_mono (leaves_0 m hO c t) (BIClass.sep_mono (leaves_1 m hO c t) (BIClass.sep_mono (leaves_2 m hO c t) (BIClass.sep_mono (leaves_3 m hO c t) (BIClass.sep_mono (leaves_4 m hO c t) (BIClass.sep_mono (leaves_5 m hO c t) (BIClass.sep_mono (leaves_6 m hO c t) (BIClass.sep_mono (leaves_7 m hO c t) .rfl)))))))))
theorem post_all (hO : Ok m) (c : Dev nD) (t : Fin (cfgM m hO).N) : iprop(Phi m hO c (t.val + 1) ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ leavesAt (dats m hO 0 c) 8 t) ⊢ iprop((dats m hO 0 c).Φ t.succ ∗ (dats m hO 0 c).owesAt () t.succ ∗ leavesAt (dats m hO 0 c) 0 t ∗ leavesAt (dats m hO 0 c) 1 t ∗ leavesAt (dats m hO 0 c) 2 t ∗ leavesAt (dats m hO 0 c) 3 t ∗ leavesAt (dats m hO 0 c) 4 t ∗ leavesAt (dats m hO 0 c) 5 t ∗ leavesAt (dats m hO 0 c) 6 t ∗ leavesAt (dats m hO 0 c) 7 t ∗ leavesAt (dats m hO 0 c) 8 t) := by
  rw [owes_eq, phi_succ]
  exact leaves_all m hO c t (Phi m hO c (t.val + 1)) ((dats m hO 0 c).owesAt () t.castSucc) (leavesAt (dats m hO 0 c) 8 t)

/-- The body at any point of the grid. -/
theorem sound_body (hO : Ok m) (c : Dev nD) (t : Fin (cfgM m hO).N) : iprop((dats m hO 0 c).Φ t.castSucc ∗ (dats m hO 0 c).owesAt () t.castSucc ∗ (∃ d, owns (c : Thread nD τ) (((cfgM m hO).win 0).stage ((cfgM m hO).slots t 0)) fullShare ((dats m hO 0 c).before 0 t d)) ∗ (∃ d, owns (c : Thread nD τ) (((cfgM m hO).win 1).stage ((cfgM m hO).slots t 1)) fullShare ((dats m hO 0 c).before 1 t d)) ∗ (∃ d, owns (c : Thread nD τ) (((cfgM m hO).win 2).stage ((cfgM m hO).slots t 2)) fullShare ((dats m hO 0 c).before 2 t d)) ∗ (∃ d, owns (c : Thread nD τ) (((cfgM m hO).win 3).stage ((cfgM m hO).slots t 3)) fullShare ((dats m hO 0 c).before 3 t d)) ∗ (∃ d, owns (c : Thread nD τ) (((cfgM m hO).win 4).stage ((cfgM m hO).slots t 4)) fullShare ((dats m hO 0 c).before 4 t d)) ∗ (∃ d, owns (c : Thread nD τ) (((cfgM m hO).win 5).stage ((cfgM m hO).slots t 5)) fullShare ((dats m hO 0 c).before 5 t d)) ∗ (∃ d, owns (c : Thread nD τ) (((cfgM m hO).win 6).stage ((cfgM m hO).slots t 6)) fullShare ((dats m hO 0 c).before 6 t d)) ∗ (∃ d, owns (c : Thread nD τ) (((cfgM m hO).win 7).stage ((cfgM m hO).slots t 7)) fullShare ((dats m hO 0 c).before 7 t d)) ∗ (∃ d, owns (c : Thread nD τ) (((cfgM m hO).win 8).stage ((cfgM m hO).slots t 8)) fullShare ((dats m hO 0 c).before 8 t d))) ⊢ wp Idealize.ShloMosaic.frame (wpE (defs₀ (F := F)) Variants.none c none) Set.univ (bodyAt m hO t) (fun _ => iprop((dats m hO 0 c).Φ t.succ ∗ (dats m hO 0 c).owesAt () t.succ ∗ leavesAt (dats m hO 0 c) 0 t ∗ leavesAt (dats m hO 0 c) 1 t ∗ leavesAt (dats m hO 0 c) 2 t ∗ leavesAt (dats m hO 0 c) 3 t ∗ leavesAt (dats m hO 0 c) 4 t ∗ leavesAt (dats m hO 0 c) 5 t ∗ leavesAt (dats m hO 0 c) 6 t ∗ leavesAt (dats m hO 0 c) 7 t ∗ leavesAt (dats m hO 0 c) 8 t)) :=
  (pre_all m hO c t).trans ((mid_all m hO c t).trans (wp_mono _ _ _ fun _ => post_all m hO c t))

/-- The body table's row at point `t`'s slots is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

attribute [local irreducible] leavesAt in
theorem body_obligation (hO : Ok m) (c : Dev nD) : BodyObligation (dats (F := F) m hO 0 c) (defs₀ (F := F)) Variants.none () Set.univ := by
  refine obligation_of _ fun t => ?_
  rw [bigSep_W0, bigSep_W0, defs₀_row m hO]
  exact sound_body m hO c t

end Cert.Kernel.Body

end
-- ==== Proof.Kernel.Frame.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.Kernel.Sound
public import proofs.«01_k».proof.Proof.Kernel.Host

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

theorem hin (hO : Ok m) (c : Dev nD) : iprop(Pipeline.ΦA spec0 c ∗ Pipeline.ΦT pre0 (tbl m) c) ⊢ (dats m hO 0 c).Φ 0 := by
  rw [phi_zero]

/-- Before any point, and after the last, the invariant gives back what the launch handed it. -/
theorem Phi_out (hO : Ok m) (c : Dev nD) (n : ℕ) : Phi m hO c n ⊢ Pipeline.ΦA spec0 c := by
  cases n with
  | zero =>
    show iprop(Pipeline.ΦA spec0 c ∗ Pipeline.ΦT pre0 (tbl m) c) ⊢ _
    iintro ⟨H, -⟩
    iexact H
  | succ n =>
    show iprop(iprop(iprop((∃ f, pt c scH f) ∗ pt c scA (accAt m hO c (n + 1))) ∗ (∃ r, prngReg c r)) ∗ Pipeline.ΦT pre0 (tbl m) c) ⊢ _
    rw [PhiA_eq]
    iintro ⟨⟨⟨HH, HA⟩, Hg⟩, -⟩
    isplitl [HH HA]
    · isplitl [HH]
      · iexact HH
      iexists _; iexact HA
    iexact Hg

theorem hout (hO : Ok m) (c : Dev nD) : (dats m hO 0 c).Φ (Fin.last (cfgM m hO).N) ⊢ Pipeline.ΦA spec0 c := by
  rw [phi_last]; exact Phi_out m hO c _

set_option backward.isDefEq.respectTransparency.types false in
/-- The launch: every run ends with the pipeline's arrays at what the proof data says and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame claim, under the tables' side condition: every run ends with the arguments unchanged and every
    semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ hO (dats m hO) (A_eq m hO) (run_main m ρ hO)) ((θ_run defs _ _).mono (fun _ h => h.2) (run_main_quiescent m ρ hO))

end Cert.Kernel.Body

end
-- ==== Proof.Math.Elist.lean ====
/-
  The list of experts in use, as jnp's reductions compute it from the mask of the experts that some token chose:
  how many there are, and the expert at each place of the list, in increasing order.
-/
module

public import Idealize.ShloMosaic.Lib.Routing.Ops

@[expose] public section

noncomputable section

namespace Cert.Elist

open Idealize.ShloMosaic Idealize.ShloMosaic.Routing Idealize.ShloMosaic.ValueIdx
open scoped Classical

/-- Expert `n` is in use: its bit of the mask is set. -/
def Used (act : IVec (shape1 32) 1) (n : ℕ) : Prop := ∃ h : n < 32, act (ix1 ⟨n, h⟩) = 1#1

/-- How many experts below `n` are in use. -/
def rank (act : IVec (shape1 32) 1) (n : ℕ) : ℕ := Nat.count (Used act) n

theorem rank_le (act : IVec (shape1 32) 1) (n : ℕ) : rank act n ≤ n := Nat.count_le _

theorem rank_succ {act : IVec (shape1 32) 1} {n : ℕ} (h : Used act n) : rank act (n + 1) = rank act n + 1 := by
  unfold rank; rw [Nat.count_succ, if_pos h]

theorem extui_bit (act : IVec (shape1 32) 1) (hw : 1 < 32) (i : Fin 32) :
    extui 32 act hw (ix1 i) = BitVec.ofNat 32 (if Used act i.val then 1 else 0) := by
  show (act (ix1 i)).setWidth 32 = _
  have hu : Used act i.val ↔ act (ix1 i) = 1#1 := ⟨fun ⟨_, h⟩ => h, fun h => ⟨i.isLt, h⟩⟩
  rcases BitVec.eq_zero_or_eq_one (act (ix1 i)) with h | h
  · rw [if_neg (fun hh => by rw [hu.mp hh] at h; exact absurd h (by decide)), h]; rfl
  · rw [if_pos (hu.mpr h), h]; rfl

/-- The number of experts in use, as printed. -/
theorem nactive (act : IVec (shape1 32) 1) (hw : 1 < 32) (h : (shape1 32).ReducesTo [0] shape0) (hu : 0 < shape0.numel) :
    Host.reduce IntOp.addi (extui 32 act hw) (constantI shape0 32 0#32) h hu ix0 = BitVec.ofNat 32 (rank act 32) := by
  rw [reduce_sum _ (fun n => if Used act n then 1 else 0) (extui_bit act hw) h hu, sum_map_ite]
  rfl

/-- The running count of the experts in use, as printed. -/
theorem running (act : IVec (shape1 32) 1) (hw : 1 < 32) (init : IVec shape0 32) (hinit : init ix0 = 0#32)
    (h : (shape1 32).ReduceWindows (![32] : Fin 1 → Nat) ![1] ![31] ![0] (shape1 32)) (hu : 0 < shape0.numel) (e : Fin 32) :
    Host.reduceWindow IntOp.addi ![32] ![1] ![31] ![0] (extui 32 act hw) init h hu (ix1 e) = BitVec.ofNat 32 (rank act (e.val + 1)) := by
  rw [cumsum1 (by norm_num) _ (fun n => if Used act n then 1 else 0) (extui_bit act hw) init hinit h hu e, sum_map_ite]
  rfl

/-- Expert `e` is the one at place `j` of the list. -/
def At (act : IVec (shape1 32) 1) (e j : ℕ) : Prop := Used act e ∧ rank act e = j

theorem At.unique {act : IVec (shape1 32) 1} {e e' j : ℕ} (h : At act e j) (h' : At act e' j) : e = e' :=
  Nat.count_injective h.1 h'.1 (h.2.trans h'.2.symm)

/-- The list as jnp's sum over the matrix of «expert `e` at place `j`» computes it: from entries that hold `e` where that is
    so and zero elsewhere, the sum at `j` is the expert there. -/
theorem list_at (act : IVec (shape1 32) 1) (x : IVec (shape2 32 32) 32)
    (hx : ∀ e j : Fin 32, x (ix2 e j) = if At act e.val j.val then BitVec.ofNat 32 e.val else 0#32)
    (h : (shape2 32 32).ReducesTo [0] (shape1 32)) (hu : 0 < shape0.numel) (j : Fin 32) :
    (Host.reduce IntOp.addi x (constantI shape0 32 0#32) h hu (ix1 j)).toNat = ∑ e : Fin 32, if At act e.val j.val then e.val else 0 := by
  rw [Host.reduce_eq_fold]
  have hdrop : ∀ i : (shape2 32 32).Idx, h.drop i = ix1 j ↔ i 1 = j := by
    intro i
    have hv : (h.drop i 0 : Nat) = i 1 := Shape.ReducesTo.drop_apply_val h i 0
    constructor
    · intro e; rw [e] at hv; exact Fin.ext hv.symm
    · intro e; funext b; have hb : b = 0 := Subsingleton.elim _ _; subst hb; exact Fin.ext (by rw [hv, e])
  have hback : ∀ i : (shape2 32 32).Idx, i 1 = j → ix2 (i 0) j = i := fun i h1 => by
    funext b; match b with
    | ⟨0, _⟩ => rfl
    | ⟨1, _⟩ => exact h1.symm
  have hval : ∀ e : Fin 32, (x (ix2 e j)).toNat = if At act e.val j.val then e.val else 0 := fun e => by
    rw [hx]; split
    · rw [BitVec.toNat_ofNat]; exact Nat.mod_eq_of_lt (by have := e.isLt; omega)
    · rfl
  have hsum : ∑ i ∈ Finset.univ.filter (fun i : (shape2 32 32).Idx => h.drop i = ix1 j), (x i).toNat
      = ∑ e : Fin 32, if At act e.val j.val then e.val else 0 := by
    refine Finset.sum_bij' (fun i _ => i 0) (fun p _ => ix2 p j) (fun _ _ => Finset.mem_univ _)
      (fun p _ => Finset.mem_filter.2 ⟨Finset.mem_univ _, (hdrop _).2 rfl⟩)
      (fun i hi => hback i ((hdrop i).1 (Finset.mem_filter.1 hi).2)) (fun _ _ => rfl) ?_
    intro i hi
    exact (congrArg (fun k => (x k).toNat) (hback i ((hdrop i).1 (Finset.mem_filter.1 hi).2)).symm).trans (hval (i 0))
  have hlt : ∑ e : Fin 32, (if At act e.val j.val then e.val else 0) < 2 ^ 32 := by
    refine lt_of_le_of_lt (Finset.sum_le_card_nsmul _ _ 32 fun e _ => ?_) (by simp)
    split
    · exact e.isLt.le
    · exact Nat.zero_le _
  show (Finset.fold IntOp.addi 0#32 x _).toNat = _
  rw [StableHlo.Predicate.toNat_fold_addi _ _ (by rw [hsum]; exact hlt), hsum]

/-- The expert at its place. -/
theorem sum_at {act : IVec (shape1 32) 1} {e : Fin 32} {j : ℕ} (h : At act e.val j) : (∑ e : Fin 32, if At act e.val j then e.val else 0) = e.val := by
  rw [Finset.sum_eq_single e (fun b _ hb => if_neg fun hh => hb (Fin.ext (hh.unique h))) (fun hh => absurd (Finset.mem_univ _) hh), if_pos h]

/-- Every entry of the list is an expert. -/
theorem sum_lt (act : IVec (shape1 32) 1) (j : ℕ) : (∑ e : Fin 32, if At act e.val j then e.val else 0) < 32 := by
  by_cases h : ∃ e : Fin 32, At act e.val j
  · obtain ⟨e, he⟩ := h
    rw [sum_at he]; exact e.isLt
  · rw [Finset.sum_eq_zero fun e _ => if_neg fun hh => h ⟨e, hh⟩]; norm_num

/-- An entry of the matrix as printed: the bit of `e` and «the running count less one is `j`». -/
theorem at_iff (act : IVec (shape1 32) 1) (e j : Fin 32) :
    At act e.val j.val ↔ act (ix1 e) = 1#1 ∧ BitVec.ofNat 32 (rank act (e.val + 1)) - 1#32 = BitVec.ofNat 32 j.val := by
  have hu : Used act e.val ↔ act (ix1 e) = 1#1 := ⟨fun ⟨_, h⟩ => h, fun h => ⟨e.isLt, h⟩⟩
  unfold At
  rw [hu]
  refine and_congr_right fun ha => ?_
  have hr := rank_le act e.val
  have he := e.isLt
  have hj := j.isLt
  rw [rank_succ (hu.mpr ha)]
  constructor
  · intro h; rw [h]; apply BitVec.eq_of_toNat_eq; simp only [BitVec.toNat_sub, BitVec.toNat_ofNat]; omega
  · intro h
    have := congrArg BitVec.toNat h
    simp only [BitVec.toNat_sub, BitVec.toNat_ofNat] at this
    omega

end Cert.Elist
-- ==== Proof.Kernel.Tables.lean ====
/-
  The two prefetched tables — the number of experts in use and the list of them — as the host operations compute
  them, and that they keep every window's blocks inside its array.
-/
module

public import proofs.«01_k».proof.Proof.Kernel.Host
public import proofs.«01_k».proof.Proof.Math.Elist
public import Idealize.ShloMosaic.Lib.StableHlo.ReadAt
public import Idealize.ShloMosaic.Lib.PairWhole

@[expose] public section

set_option maxRecDepth 16384

noncomputable section

namespace Cert.Kernel.Body

open Cert.Kernel Cert.Kernel.Gen
open Idealize.ShloMosaic Idealize.ShloMosaic.TcCoe Idealize.ShloMosaic.Tactic
open Idealize.ShloMosaic.Routing (shape0 shape1 shape2)
open Cert.Elist

variable {F : FTy → Type} [FloatOps F]

variable (m : (ℓ : Loc nD τ sig) → Buf (Elt F) ℓ)

/-- The mask of the experts that some token chose. -/
def act : IVec S32 1 := (V m 0 main_v11 : (⟨S32, .i1⟩ : BufTy).Contents (Elt F))

theorem v13 : V m 0 main_v13 = Host.reduce IntOp.addi (extui 32 (act m) natLt_1_32) (constantI S_ 32 0#32) reducesTo_S32_S_d0 h_S_ := by
  unfold act V
  simp only [List.flatten_cons, List.flatten_nil, List.append_nil, List.cons_append, List.nil_append]
  after_reads_simp

/-- The matrix «expert `e` at place `j`» that the host sums. -/
def places (a : IVec S32 1) : IVec S32x32 32 :=
  select (andi (broadcastInDim S32x32 ![0,1] bcast_S32x1_S32x32_0_1 (broadcastInDim S32x1 ![0] bcast_S32_S32x1_0 a))
    (cmpi CmpIPredicate.eq
      (broadcastInDim S32x32 ![0,1] bcast_S32x1_S32x32_0_1 (broadcastInDim S32x1 ![0] bcast_S32_S32x1_0
        (subi (Host.reduceWindow IntOp.addi ![32] ![1] ![31] ![0] (extui 32 a natLt_1_32) (broadcastInDim S_ ![] bcast_S_S_ (constantI S_ 32 0#32)) reduceWindows_S32_S32_w32s1p31_0 h_S_)
          (broadcastInDim S32 ![] bcast_S_S32 (constantI S_ 32 1#32)))))
      (broadcastInDim S32x32 ![0,1] bcast_S1x32_S32x32_0_1 (broadcastInDim S1x32 ![1] bcast_S32_S1x32_1 (iotaInDim S32 32 0)))))
    (broadcastInDim S32x32 ![0,1] bcast_S32x1_S32x32_0_1 (broadcastInDim S32x1 ![0] bcast_S32_S32x1_0 (iotaInDim S32 32 0)))
    (broadcastInDim S32x32 ![] bcast_S_S32x32 (id (constantI S_ 32 0#32)))

theorem v29 (j : S32.Idx) : V m 0 main_v29 j = Host.reduce IntOp.addi (places (act m)) (constantI S_ 32 0#32) reducesTo_S32x32_S32_d0 h_S_ j := by
  unfold places act V
  simp only [List.flatten_cons, List.flatten_nil, List.append_nil, List.cons_append, List.nil_append]
  after_reads_at

attribute [local irreducible] StableHlo.after

/-- The index of a vector of 32, of a scalar, of a matrix of 32 by 32. -/
abbrev i1 (e : Fin 32) : S32.Idx := ValueIdx.ix1 e
abbrev i0 : S_.Idx := ValueIdx.ix0
abbrev i2 (e j : Fin 32) : S32x32.Idx := ValueIdx.ix2 e j

/-- A vector along the rows of the matrix reads its row's entry, -/
theorem rows_at {α : Type} (x : S32.Idx → α) (e j : Fin 32) :
    broadcastInDim S32x32 ![0,1] bcast_S32x1_S32x32_0_1 (broadcastInDim S32x1 ![0] bcast_S32_S32x1_0 x) (i2 e j) = x (i1 e) := by
  refine congrArg x (funext fun b => ?_)
  match b with
  | ⟨0, _⟩ => rfl

/-- and one along its columns its column's. -/
theorem cols_at {α : Type} (x : S32.Idx → α) (e j : Fin 32) :
    broadcastInDim S32x32 ![0,1] bcast_S1x32_S32x32_0_1 (broadcastInDim S1x32 ![1] bcast_S32_S1x32_1 x) (i2 e j) = x (i1 j) := by
  refine congrArg x (funext fun b => ?_)
  match b with
  | ⟨0, _⟩ => rfl

/-- An entry of a matrix built so, of its vectors' entries. -/
theorem entry_at (a : IVec S32 1) (x y z : IVec S32 32) (w : IVec S32x32 32) (e j : Fin 32) :
    select (andi (broadcastInDim S32x32 ![0,1] bcast_S32x1_S32x32_0_1 (broadcastInDim S32x1 ![0] bcast_S32_S32x1_0 a))
      (cmpi CmpIPredicate.eq (broadcastInDim S32x32 ![0,1] bcast_S32x1_S32x32_0_1 (broadcastInDim S32x1 ![0] bcast_S32_S32x1_0 x))
        (broadcastInDim S32x32 ![0,1] bcast_S1x32_S32x32_0_1 (broadcastInDim S1x32 ![1] bcast_S32_S1x32_1 y))))
      (broadcastInDim S32x32 ![0,1] bcast_S32x1_S32x32_0_1 (broadcastInDim S32x1 ![0] bcast_S32_S32x1_0 z)) w (i2 e j)
    = if a (i1 e) = 1#1 ∧ x (i1 e) = y (i1 j) then z (i1 e) else w (i2 e j) := by
  have ha := rows_at a e j
  have hx := rows_at x e j
  have hy := cols_at y e j
  have hz := rows_at z e j
  simp only [select, andi, cmpi]
  rw [ha, hx, hy, hz]
  have hd : (x (i1 e) == y (i1 j)) = decide (x (i1 e) = y (i1 j)) := rfl
  unfold IntOp.andi IntOp.cmpi Scalar.select
  rw [hd]
  rcases BitVec.eq_zero_or_eq_one (a (i1 e)) with h | h <;>
    by_cases hc : x (i1 e) = y (i1 j) <;>
    simp [h, hc]

open scoped Classical in
/-- The matrix holds `e` where expert `e` is at place `j`, zero elsewhere. -/
theorem places_at (a : IVec S32 1) (e j : Fin 32) : places a (i2 e j) = if At a e.val j.val then BitVec.ofNat 32 e.val else 0#32 := by
  have hrun := running a natLt_1_32 (broadcastInDim S_ ![] bcast_S_S_ (constantI S_ 32 0#32)) rfl reduceWindows_S32_S32_w32s1p31_0 h_S_ e
  unfold places
  rw [entry_at]
  refine if_congr ?_ rfl rfl
  rw [at_iff, ← hrun]
  rfl

theorem nact : (V m 0 main_v13 i0 : BitVec 32) = BitVec.ofNat 32 (rank (act m) 32) := by
  rw [v13]; exact nactive (act m) _ _ _

open scoped Classical in
theorem elist (j : Fin 32) : (V m 0 main_v29 (i1 j) : BitVec 32).toNat = ∑ e : Fin 32, if At (act m) e.val j.val then e.val else 0 := by
  rw [v29]; exact list_at (act m) _ (places_at (act m)) _ _ j

/-- How many experts are in use. -/
def nAct : Nat := rank (act m) 32

theorem nAct_le : nAct m ≤ 32 := rank_le _ _

/-- The table of the experts, and the number of points. -/
theorem tbl_list : tbl m 1 = (V m 0 main_v29 : S32.Idx → BitVec 32) := by unfold tbl; rfl
theorem tbl_num : tbl m 0 = (V m 0 main_v13 : S_.Idx → BitVec 32) := by unfold tbl; rfl

theorem bnd_of (pf : pre0.Contents (Elt F)) (f : S_.Idx → BitVec 32) (h : pf 0 = f) : dynb0 pf 0 = (f i0).toNat := by
  subst h
  unfold dynb0
  exact congrArg (fun i => BitVec.toNat (pf 0 i : BitVec 32)) (funext fun a => a.elim0)

theorem bnd_eq : dynb0 (tbl m) 0 = nAct m := by
  refine (bnd_of _ _ (tbl_num m)).trans ((congrArg BitVec.toNat (nact m)).trans ?_)
  rw [BitVec.toNat_ofNat]
  have := nAct_le m
  exact Nat.mod_eq_of_lt (by unfold nAct at this; omega)

theorem elist_lt (j : S32.Idx) : (V m 0 main_v29 j : BitVec 32).toNat < 32 := by
  have hj : j = i1 (j 0) := funext fun b => by match b with | ⟨0, _⟩ => rfl
  rw [hj]; exact lt_of_eq_of_lt (elist m (j 0)) (sum_lt _ _)

theorem coord_lt (i : (grid0.at (dynb0 (tbl m))).Coords) : (i 0).val < nAct m := by
  have h := (i 0).isLt
  rw [← bnd_eq]
  exact lt_of_lt_of_eq h (grid0.boundAt_of_dyn_true (b := dynb0 (tbl m)) (a := (0 : Fin 1)) rfl)

theorem list_lt (off : Fin 1 → Nat) : BitVec.toNat ((tbl m).atD 1 off : BitVec 32) < 32 := by
  unfold Pipeline.Prefetch.Contents.atD
  split
  · rw [tbl_list]; exact elist_lt m _
  · exact Nat.zero_lt_succ _

theorem admits : grid0.Admits (dynb0 (tbl m)) := by
  unfold Pipeline.Grid.Admits
  rw [gr_N, bnd_eq]
  have := nAct_le m
  omega

/-- One of 32 slabs is a block inside its array, of whole rows. -/
theorem block3 (p q : Nat) (e : EltTy) (n : Nat) (hn : n < 32) :
    ∃ h : (∀ a, ((![n, 0, 0] : Fin 3 → Nat) a + 1) * (⟨3, ![1, p, q]⟩ : Shape).size a ≤ (⟨3, ![32, p, q]⟩ : Shape).size a),
      e.bits = 32 ∨ (Rect.block (s := ⟨3, ![32, p, q]⟩) (⟨3, ![1, p, q]⟩ : Shape).size ![n, 0, 0] h).WholeWords e.packing := by
  refine ⟨fun a => ?_, .inr (Rect.WholeRows.wholeWords (Rect.wholeRows_unit (show 2 ≤ 3 by decide) ?_ ?_) _)⟩
  · match a with
    | ⟨0, _⟩ => show (n + 1) * 1 ≤ 32; omega
    | ⟨1, _⟩ => show (0 + 1) * p ≤ p; omega
    | ⟨2, _⟩ => show (0 + 1) * q ≤ q; omega
  · show 0 * p = 0; exact Nat.zero_mul p
  · rfl

/-- The whole of a matrix is a block inside it, of whole rows. -/
theorem block2 (p q : Nat) (e : EltTy) :
    ∃ h : (∀ a, ((![0, 0] : Fin 2 → Nat) a + 1) * (⟨2, ![p, q]⟩ : Shape).size a ≤ (⟨2, ![p, q]⟩ : Shape).size a),
      e.bits = 32 ∨ (Rect.block (s := ⟨2, ![p, q]⟩) (⟨2, ![p, q]⟩ : Shape).size ![0, 0] h).WholeWords e.packing := by
  refine ⟨fun a => ?_, .inr (Rect.WholeRows.wholeWords (Rect.wholeRows_unit (show 2 ≤ 2 by decide) ?_ ?_) _)⟩
  · match a with
    | ⟨0, _⟩ => show (0 + 1) * p ≤ p; omega
    | ⟨1, _⟩ => show (0 + 1) * q ≤ q; omega
  · show 0 * p = 0; exact Nat.zero_mul p
  · rfl

/-- The tables keep every block inside its array, whatever the arguments. -/
theorem ok : Ok m := by
  unfold Ok ok0
  refine ⟨admits m, fun i a => ?_, fun i => ?_, fun i => ?_, fun i => ?_, fun i => ?_, fun i => ?_, fun i => ?_, fun i => ?_, fun i => ?_, fun i => ?_⟩
  · have h := coord_lt m i
    have hle := nAct_le m
    match a with
    | ⟨0, _⟩ =>
      show (BitVec.ofNat 32 (i 0).val).toNat + 1 ≤ 32
      rw [BitVec.toNat_ofNat]
      have := Nat.mod_le (i 0).val (2 ^ 32)
      omega
  · exact block2 32 2816 .bf16
  · exact block2 32 256 .f32
  · exact block3 1408 4096 .i8 _ (list_lt m _)
  · exact block3 22 4096 .bf16 _ (list_lt m _)
  · exact block3 22 2048 .i8 _ (list_lt m _)
  · exact block3 1024 2816 .i8 _ (list_lt m _)
  · exact block3 16 2816 .bf16 _ (list_lt m _)
  · exact block3 16 1408 .i8 _ (list_lt m _)
  · exact block2 32 2816 .bf16

end Cert.Kernel.Body
-- ==== Proof.KernelIdeal.Body.lean ====
/-
  The kernel's body, run once for every grid point: from its buffers held whole it terminates without fault,
  hands every input buffer back unchanged, and leaves in the scratch buffers and in the output's buffer the
  contents that the run computes. The contents are found by the run (`kernelRun`'s witness).
-/
module

public import proofs.«01_k».proof.Proof.Gen.KernelIdeal.Skeleton
public import Idealize.ShloMosaic.Lib.Exec
public import Idealize.ShloMosaic.Lib.Tactic
public import Idealize.ShloMosaic.Lib.Pipeline.Frame

@[expose] public section

set_option maxRecDepth 16384

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f
/-- The same, held for reading only, at half the full share. -/
abbrev hf (c : Dev nD) {sp : Space} {S : Shape} {e : EltTy} (M : Memref sig .tc sp S e) (f : Bf (F := F) c M) : sProp 𝕄 :=
  M.view.loc (c : Thread nD τ) ↦{fullShare.right} f

/-- What the body leaves in the output's buffer, in `h` and in the accumulator, WITH the proof that it does. -/
noncomputable def kernelRun (c : Dev nD) (b : grid0.Bounds) (i : grid0.Static) (arg0 : BitVec 32) (hchk : k0_chk1 arg0)
    (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) :
    { W : Bf (F := F) c M10 × Bf (F := F) c M11 × Bf (F := F) c M12 //
      ∀ (E : Set ℕ) (Q : PUnit → sProp 𝕄),
        iprop(hf c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12
          ∗ (iprop(hf c M1 f1 ∗ pt c M2 f2 ∗ pt c M3 f3 ∗ pt c M4 f4 ∗ pt c M5 f5 ∗ pt c M6 f6 ∗ pt c M7 f7 ∗ pt c M8 f8 ∗ pt c M9 f9 ∗ pt c M10 W.1 ∗ pt c M11 W.2.1 ∗ pt c M12 W.2.2) -∗ Q ⟨⟩))
        ⊢ wp frame (wpE (defs₀ (F := F)) Variants.none c none) E (cc0_moe b i arg0 M1 h1 M2 h2 M3 h3 M4 h4 M5 h5 M6 h6 M7 h7 M8 h8 M9 h9 M10 h10 M11 h11 M12 h12) Q } := by
  refine ⟨⟨?_, ?_, ?_⟩, fun E Q => ?run⟩
  case run =>
    iintro ⟨H1, H2, H3, H4, H5, H6, H7, H8, H9, H10, H11, H12, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Body

end
-- ==== Proof.KernelIdeal.Indep.lean ====
/-
  What the body leaves in the accumulator and in the output's buffer, restated, and what it does not depend on.
-/
module

public import proofs.«01_k».proof.Proof.KernelIdeal.Body
public import Idealize.ShloMosaic.Lib.Ring

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition under which the body zeroes the accumulator: the first grid point. -/
abbrev first (arg0 : BitVec 32) : Prop := kernelRun.sl.v2 arg0 = 1#1
/-- The condition under which the body stores the output: the last grid point. -/
abbrev last (arg0 : BitVec 32) (b : grid0.Bounds) : Prop := k0_cond2 arg0 (BitVec.ofNat 32 (b 0)) = 1#1

/-- Writing pieces that cover a whole buffer leaves the same contents whatever it held. -/
theorem writes_whole_eq {c : Dev nD} {sp : Space} {S : Shape} {e : EltTy} (M : Memref sig .tc sp S e) (h : M.IsWhole) (f f' : Bf (F := F) c M)
    (L : List (View.Piece (Elt F) S e)) (hL : ∀ y, ∃ pc ∈ L, y ∈ pc.1.set) :
    M.view.writes (Elt F) f L = M.view.writes (Elt F) f' L :=
  h.read_bijective.1 (View.read_writes_of_cover M.view f M.view f' L hL)

/-- One piece on the whole rectangle covers a buffer. -/
theorem cover_whole (p : Vec F S32x2816 .f32) (y : S32x2816.Idx) : ∃ pc ∈ ([⟨Rect.unit ![0, 0] S32x2816.size inb_S32x2816_S32x2816_0_0, p⟩] : List (View.Piece (Elt F) S32x2816 .f32)), y ∈ pc.1.set :=
  View.cover_of_tiledL _ S32x2816.size (by sl_kernel_rfl) y
theorem cover_whole' (p : Vec F S32x2816 .bf16) (y : S32x2816.Idx) : ∃ pc ∈ ([⟨Rect.unit ![0, 0] S32x2816.size inb_S32x2816_S32x2816_0_0, p⟩] : List (View.Piece (Elt F) S32x2816 .bf16)), y ∈ pc.1.set :=
  View.cover_of_tiledL _ S32x2816.size (by sl_kernel_rfl) y

/-- The contents the run finds for the accumulator, for `h` and for the output's buffer. -/
theorem run_acc (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12) :
    (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.2.2 = M12.view.writes (Elt F) M12.view.junk (kernelRun.sl.H12_11 c arg0 hchk M1 M2 M3 M4 M5 M6 M7 M8 M9 M11 M12 f1 f2 f3 f4 f5 f6 f7 f8 f9 f12) := by
  unfold kernelRun; rfl
theorem run_out (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (f10 : Bf (F := F) c M10) (f11 : Bf (F := F) c M11) (f12 : Bf (F := F) c M12) :
    (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.1 = if hc : k0_cond2 arg0 (BitVec.ofNat 32 (b 0)) = 1#1 then
      M10.view.writes (Elt F) f10 [⟨Rect.unit ![0, 0] S32x2816.size inb_S32x2816_S32x2816_0_0, k0_pay999 (kernelRun.sl.v12554 c arg0 hchk M1 M2 M3 M4 M5 M6 M7 M8 M9 M11 M12 f1 f2 f3 f4 f5 f6 f7 f8 f9 f12)⟩] else f10 := by
  unfold kernelRun; rfl

attribute [local irreducible] kernelRun

/-- What the body leaves does not depend on what it found in `h` and in the output's buffer, nor, at the first
    point, on what it found in the accumulator. -/
theorem run_indep (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9)
    (f10 f10' : Bf (F := F) c M10) (f11 f11' : Bf (F := F) c M11) (f12 f12' : Bf (F := F) c M12) (h : f12 = f12' ∨ first arg0) :
    (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.2.2 = (kernelRun (F := F) c b i arg0 hchk M1 h1 M2 h2 M3 h3 M4 h4 M5 h5 M6 h6 M7 h7 M8 h8 M9 h9 M10 h10 M11 h11 M12 h12 f1 f2 f3 f4 f5 f6 f7 f8 f9 f10' f11' f12').1.2.2
    ∧ (last arg0 b → M10.view.read (Elt F) (kernelRun (F := F) c b i arg0 hchk M1 h1 M2 h2 M3 h3 M4 h4 M5 h5 M6 h6 M7 h7 M8 h8 M9 h9 M10 h10 M11 h11 M12 h12 f1 f2 f3 f4 f5 f6 f7 f8 f9 f10 f11 f12).1.1 = M10.view.read (Elt F) (kernelRun (F := F) c b i arg0 hchk M1 h1 M2 h2 M3 h3 M4 h4 M5 h5 M6 h6 M7 h7 M8 h8 M9 h9 M10 h10 M11 h11 M12 h12 f1 f2 f3 f4 f5 f6 f7 f8 f9 f10' f11' f12').1.1) := by
  have hg : (if hc : kernelRun.sl.v2 arg0 = 1#1 then M12.view.writes (Elt F) f12 [⟨Rect.unit ![0, 0] S32x2816.size inb_S32x2816_S32x2816_0_0, k0_pay1⟩] else f12)
      = (if hc : kernelRun.sl.v2 arg0 = 1#1 then M12.view.writes (Elt F) f12' [⟨Rect.unit ![0, 0] S32x2816.size inb_S32x2816_S32x2816_0_0, k0_pay1⟩] else f12') := by
    rcases h with rfl | h
    · rfl
    · rw [dif_pos h, dif_pos h]; exact writes_whole_eq M12 h12 f12 f12' _ (cover_whole _)
  have ev8098 : kernelRun.sl.v8098 c arg0 M12 f12 = kernelRun.sl.v8098 c arg0 M12 f12' := by
    delta kernelRun.sl.v8098; rw [hg]
  have ev8542 : kernelRun.sl.v8542 c arg0 M12 f12 = kernelRun.sl.v8542 c arg0 M12 f12' := by
    delta kernelRun.sl.v8542; rw [hg]
  have ev8986 : kernelRun.sl.v8986 c arg0 M12 f12 = kernelRun.sl.v8986 c arg0 M12 f12' := by
    delta kernelRun.sl.v8986; rw [hg]
  have ev9430 : kernelRun.sl.v9430 c arg0 M12 f12 = kernelRun.sl.v9430 c arg0 M12 f12' := by
    delta kernelRun.sl.v9430; rw [hg]
  have ev9874 : kernelRun.sl.v9874 c arg0 M12 f12 = kernelRun.sl.v9874 c arg0 M12 f12' := by
    delta kernelRun.sl.v9874; rw [hg]
  have ev10318 : kernelRun.sl.v10318 c arg0 M12 f12 = kernelRun.sl.v10318 c arg0 M12 f12' := by
    delta kernelRun.sl.v10318; rw [hg]
  have ev10762 : kernelRun.sl.v10762 c arg0 M12 f12 = kernelRun.sl.v10762 c arg0 M12 f12' := by
    delta kernelRun.sl.v10762; rw [hg]
  have ev11206 : kernelRun.sl.v11206 c arg0 M12 f12 = kernelRun.sl.v11206 c arg0 M12 f12' := by
    delta kernelRun.sl.v11206; rw [hg]
  have ev11650 : kernelRun.sl.v11650 c arg0 M12 f12 = kernelRun.sl.v11650 c arg0 M12 f12' := by
    delta kernelRun.sl.v11650; rw [hg]
  have ev12094 : kernelRun.sl.v12094 c arg0 M12 f12 = kernelRun.sl.v12094 c arg0 M12 f12' := by
    delta kernelRun.sl.v12094; rw [hg]
  have ev12538 : kernelRun.sl.v12538 c arg0 M12 f12 = kernelRun.sl.v12538 c arg0 M12 f12' := by
    delta kernelRun.sl.v12538; rw [hg]
  have eH12_1 : kernelRun.sl.H12_1 c arg0 hchk M1 M2 M3 M4 M5 M6 M7 M8 M9 M11 M12 f1 f2 f3 f4 f5 f6 f7 f8 f9 f12 = kernelRun.sl.H12_1 c arg0 hchk M1 M2 M3 M4 M5 M6 M7 M8 M9 M11 M12 f1 f2 f3 f4 f5 f6 f7 f8 f9 f12' := by
    delta kernelRun.sl.H12_1; rw [ev8098]
  have eH12_2 : kernelRun.sl.H12_2 c arg0 hchk M1 M2 M3 M4 M5 M6 M7 M8 M9 M11 M12 f1 f2 f3 f4 f5 f6 f7 f8 f9 f12 = kernelRun.sl.H12_2 c arg0 hchk M1 M2 M3 M4 M5 M6 M7 M8 M9 M11 M12 f1 f2 f3 f4 f5 f6 f7 f8 f9 f12' := by
    delta kernelRun.sl.H12_2; rw [ev8542, eH12_1]
  have eH12_3 : kernelRun.sl.H12_3 c arg0 hchk M1 M2 M3 M4 M5 M6 M7 M8 M9 M11 M12 f1 f2 f3 f4 f5 f6 f7 f8 f9 f12 = kernelRun.sl.H12_3 c arg0 hchk M1 M2 M3 M4 M5 M6 M7 M8 M9 M11 M12 f1 f2 f3 f4 f5 f6 f7 f8 f9 f12' := by
    delta kernelRun.sl.H12_3; rw [ev8986, eH12_2]
  have eH12_4 : kernelRun.sl.H12_4 c arg0 hchk M1 M2 M3 M4 M5 M6 M7 M8 M9 M11 M12 f1 f2 f3 f4 f5 f6 f7 f8 f9 f12 = kernelRun.sl.H12_4 c arg0 hchk M1 M2 M3 M4 M5 M6 M7 M8 M9 M11 M12 f1 f2 f3 f4 f5 f6 f7 f8 f9 f12' := by
    delta kernelRun.sl.H12_4; rw [ev9430, eH12_3]
  have eH12_5 : kernelRun.sl.H12_5 c arg0 hchk M1 M2 M3 M4 M5 M6 M7 M8 M9 M11 M12 f1 f2 f3 f4 f5 f6 f7 f8 f9 f12 = kernelRun.sl.H12_5 c arg0 hchk M1 M2 M3 M4 M5 M6 M7 M8 M9 M11 M12 f1 f2 f3 f4 f5 f6 f7 f8 f9 f12' := by
    delta kernelRun.sl.H12_5; rw [ev9874, eH12_4]
  have eH12_6 : kernelRun.sl.H12_6 c arg0 hchk M1 M2 M3 M4 M5 M6 M7 M8 M9 M11 M12 f1 f2 f3 f4 f5 f6 f7 f8 f9 f12 = kernelRun.sl.H12_6 c arg0 hchk M1 M2 M3 M4 M5 M6 M7 M8 M9 M11 M12 f1 f2 f3 f4 f5 f6 f7 f8 f9 f12' := by
    delta kernelRun.sl.H12_6; rw [ev10318, eH12_5]
  have eH12_7 : kernelRun.sl.H12_7 c arg0 hchk M1 M2 M3 M4 M5 M6 M7 M8 M9 M11 M12 f1 f2 f3 f4 f5 f6 f7 f8 f9 f12 = kernelRun.sl.H12_7 c arg0 hchk M1 M2 M3 M4 M5 M6 M7 M8 M9 M11 M12 f1 f2 f3 f4 f5 f6 f7 f8 f9 f12' := by
    delta kernelRun.sl.H12_7; rw [ev10762, eH12_6]
  have eH12_8 : kernelRun.sl.H12_8 c arg0 hchk M1 M2 M3 M4 M5 M6 M7 M8 M9 M11 M12 f1 f2 f3 f4 f5 f6 f7 f8 f9 f12 = kernelRun.sl.H12_8 c arg0 hchk M1 M2 M3 M4 M5 M6 M7 M8 M9 M11 M12 f1 f2 f3 f4 f5 f6 f7 f8 f9 f12' := by
    delta kernelRun.sl.H12_8; rw [ev11206, eH12_7]
  have eH12_9 : kernelRun.sl.H12_9 c arg0 hchk M1 M2 M3 M4 M5 M6 M7 M8 M9 M11 M12 f1 f2 f3 f4 f5 f6 f7 f8 f9 f12 = kernelRun.sl.H12_9 c arg0 hchk M1 M2 M3 M4 M5 M6 M7 M8 M9 M11 M12 f1 f2 f3 f4 f5 f6 f7 f8 f9 f12' := by
    delta kernelRun.sl.H12_9; rw [ev11650, eH12_8]
  have eH12_10 : kernelRun.sl.H12_10 c arg0 hchk M1 M2 M3 M4 M5 M6 M7 M8 M9 M11 M12 f1 f2 f3 f4 f5 f6 f7 f8 f9 f12 = kernelRun.sl.H12_10 c arg0 hchk M1 M2 M3 M4 M5 M6 M7 M8 M9 M11 M12 f1 f2 f3 f4 f5 f6 f7 f8 f9 f12' := by
    delta kernelRun.sl.H12_10; rw [ev12094, eH12_9]
  have eH12_11 : kernelRun.sl.H12_11 c arg0 hchk M1 M2 M3 M4 M5 M6 M7 M8 M9 M11 M12 f1 f2 f3 f4 f5 f6 f7 f8 f9 f12 = kernelRun.sl.H12_11 c arg0 hchk M1 M2 M3 M4 M5 M6 M7 M8 M9 M11 M12 f1 f2 f3 f4 f5 f6 f7 f8 f9 f12' := by
    delta kernelRun.sl.H12_11; rw [ev12538, eH12_10]
  refine ⟨?_, fun hl => ?_⟩
  · rw [run_acc, run_acc, eH12_11]
  · rw [run_out, run_out, dif_pos hl, dif_pos hl]
    delta kernelRun.sl.v12554
    rw [eH12_11]
    exact View.read_writes_of_cover M10.view _ M10.view _ _ (cover_whole' _)

end Cert.KernelIdeal.Body

end
-- ==== Proof.KernelIdeal.Host.lean ====
/-
  What the kernel's region finds when it is entered: the arrays and the prefetched tables after the host
  operations, the pipeline at those tables, the windows' blocks, where the output is written back; and the
  frame claim's conclusion read off a run of the region.
-/
module

public import proofs.«01_k».proof.Proof.Gen.KernelIdeal.Launch
public import Idealize.ShloMosaic.Lib.Pipeline.FrameBody
public import Idealize.ShloMosaic.Lib.Tactic
public import Idealize.ShloMosaic.Lib.WordCmp
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes an argument: the region finds each as launched. -/
theorem V_arg (c : Dev nD) (b : Ref sig .tc) (hb : b ∈ [main_arg0, main_arg1, main_arg2, main_arg3, main_arg4, main_arg5, main_arg6, main_arg7, main_arg8]) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    simp only [List.mem_cons, List.not_mem_nil, or_false] at hb
    rcases hb with rfl | rfl | rfl | rfl | rfl | rfl | rfl | rfl | rfl <;>
    · repeat' apply And.intro
      all_goals exact StableHlo.devRef_ne_of_ne (by decide)))

/-- The tables' contents when the region is entered. -/
def tbl : pre0.Contents (Elt F) := fun j => V m (0 : Dev nD) (pre0.ref j)
/-- There is one device: on every device the tables hold those contents. -/
theorem V_pre (c : Dev nD) (j : Fin 2) : V m c (pre0.ref j) = tbl m j := by
  obtain rfl : c = 0 := Subsingleton.elim _ _; rfl
/-- The pipeline's side condition of the tables' contents. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)
/-- The run-time bound of the grid, and the grid at it. -/
abbrev bnd : grid0.Bounds := dynb0 (tbl m)
abbrev gr : Pipeline.Grid := grid0.at (bnd m)

/-- The grid has as many points as its bound says, and a point's coordinate is the point. -/
theorem gr_N (b : grid0.Bounds) : (grid0.at b).N = b 0 := by
  unfold Pipeline.Grid.N; exact (Fin.prod_univ_one _).trans (grid0.boundAt_of_dyn_true (b := b) (a := (0 : Fin 1)) rfl)
theorem coords_zero (b : grid0.Bounds) (t : Fin (grid0.at b).N) : ((grid0.at b).coords t 0).val = t.val := by
  have h1 := Pipeline.Grid.coords_val (G := grid0.at b) t 0 (S := 1) rfl (grid0.boundAt_of_dyn_true (b := b) (a := (0 : Fin 1)) rfl)
  have h2 : t.val < b 0 := lt_of_lt_of_eq t.isLt (gr_N b)
  rw [h1, Nat.div_one, Nat.mod_eq_of_lt h2]

/-- The tables as the body is handed them. -/
abbrev tbM1 : Memref sig .tc .smem S32 .i32 := Memref.whole main_v29

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged after any run that leaves each input window's array, and every buffer that no
    window stages, as the region found it. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_arg m c main_arg0 (by decide)), ((h c).2 main_arg1 (by decide : main_arg1 ∈ Pipeline.restRefs sig spec0)).trans (V_arg m c main_arg1 (by decide)), ((h c).2 main_arg2 (by decide : main_arg2 ∈ Pipeline.restRefs sig spec0)).trans (V_arg m c main_arg2 (by decide)), ((h c).1 2).trans (((dats 0 c).arrAt_in 2 rfl _).trans ((hA c 2).trans (V_arg m c main_arg3 (by decide)))), ((h c).1 3).trans (((dats 0 c).arrAt_in 3 rfl _).trans ((hA c 3).trans (V_arg m c main_arg4 (by decide)))), ((h c).1 4).trans (((dats 0 c).arrAt_in 4 rfl _).trans ((hA c 4).trans (V_arg m c main_arg5 (by decide)))), ((h c).1 5).trans (((dats 0 c).arrAt_in 5 rfl _).trans ((hA c 5).trans (V_arg m c main_arg6 (by decide)))), ((h c).1 6).trans (((dats 0 c).arrAt_in 6 rfl _).trans ((hA c 6).trans (V_arg m c main_arg7 (by decide)))), ((h c).1 7).trans (((dats 0 c).arrAt_in 7 rfl _).trans ((hA c 7).trans (V_arg m c main_arg8 (by decide))))⟩) h

/-- The last-point test on words, as arithmetic of the numbers they are. -/
theorem last_word (k n : ℕ) (ht : k < n) (hA : n + 2 < 2 ^ 31) : k0_cond2 (BitVec.ofNat 32 k) (BitVec.ofNat 32 n) = 1#1 ↔ k + 1 = n := by
  have hs : Scalar.subi (BitVec.ofNat 32 n) 1#32 = BitVec.ofNat 32 (n - 1) := by
    show BitVec.ofNat 32 n - 1#32 = _
    apply BitVec.eq_of_toNat_eq
    rw [BitVec.toNat_sub, BitVec.toNat_ofNat, BitVec.toNat_ofNat, BitVec.toNat_ofNat]
    omega
  simp only [k0_cond2, hs]
  word_cmp

/-- The body's last-point condition holds at the last point only. -/
theorem last_iff (hO : Ok m) (t : Fin (cfgM m hO).N) :
    k0_cond2 (BitVec.ofNat 32 ((gr m).coords t 0).val) (BitVec.ofNat 32 (bnd m 0)) = 1#1 ↔ t.val + 1 = (cfgM m hO).N := by
  have hN : (cfgM m hO).N = bnd m 0 := gr_N _
  have ht : t.val < bnd m 0 := lt_of_lt_of_eq t.isLt hN
  have hA : bnd m 0 + 2 < 2 ^ 31 := by have := hO.1; unfold Pipeline.Grid.Admits at this; rwa [gr_N] at this
  have hc : ((gr m).coords t 0).val = t.val := coords_zero (bnd m) t
  have key : k0_cond2 (BitVec.ofNat 32 ((gr m).coords t 0).val) (BitVec.ofNat 32 (bnd m 0)) = 1#1 ↔ t.val + 1 = bnd m 0 := by
    rw [hc]; exact last_word t.val (bnd m 0) ht hA
  exact key.trans ⟨fun h => h.trans hN.symm, fun h => h.trans hN⟩

/-- Window 8 is written back at the last point only. -/
theorem flush_iff (hO : Ok m) (t : Fin (cfgM m hO).N) : ((cfgM m hO).win 8).flush t = true ↔ t.val + 1 = (cfgM m hO).N := by
  have h : ((cfgM m hO).win 8).flush t = true ↔ t.val % (cfgM m hO).N = (cfgM m hO).N - 1 :=
    Pipeline.Window.flush_const ((cfgM m hO).win 8) rfl (fun _ _ => rfl) (n := (cfgM m hO).N) (m := (cfgM m hO).N - 1) rfl (by have := t.isLt; omega) t
  rw [h, Nat.mod_eq_of_lt t.isLt]; have := t.isLt; omega

/-- Where the body does not store into the output's buffer, the pipeline's table calls the output idle and does
    not write it back; at the last point it is live. -/
theorem idle_of (hO : Ok m) (t : Fin (cfgM m hO).N) (h : ¬ t.val + 1 = (cfgM m hO).N) : (cfgM m hO).idle 8 ((cfgM m hO).grid.coords t) = true := by
  have h1 := mt (last_iff m hO t).mp h
  show (!(k0_cond2 (BitVec.ofNat 32 ((gr m).coords t 0).val) (BitVec.ofNat 32 (bnd m 0)) == 1#1)) = true
  rw [Bool.not_eq_true', beq_eq_false_iff_ne]; exact h1
theorem noFlush_of (hO : Ok m) (t : Fin (cfgM m hO).N) (h : ¬ t.val + 1 = (cfgM m hO).N) : ((cfgM m hO).win 8).flush t = false := by
  rw [← Bool.not_eq_true]; exact mt (flush_iff m hO t).mp h
theorem live_of (hO : Ok m) (t : Fin (cfgM m hO).N) (h : t.val + 1 = (cfgM m hO).N) : (cfgM m hO).idle 8 ((cfgM m hO).grid.coords t) = false := by
  have h1 := (last_iff m hO t).mpr h
  show (!(k0_cond2 (BitVec.ofNat 32 ((gr m).coords t 0).val) (BitVec.ofNat 32 (bnd m 0)) == 1#1)) = false
  rw [h1]; rfl

end Cert.KernelIdeal.Body

end
-- ==== Proof.KernelIdeal.RunOwns.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.Indep
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref held at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = pt c M (h.unread X) := by
  obtain ⟨b, rfl, rfl, rfl, hm⟩ := h
  cases hm
  have hX : (Memref.isWhole_whole b).unread X = X := ((Memref.isWhole_whole b).eq_unread (f := X) (View.read_whole _ _)).symm
  rw [owns_whole]
  exact congrArg (fun f => (pt c (Memref.whole b) f : sProp 𝕄)) hX.symm

attribute [local irreducible] kernelRun

/-- The body's run over whole memrefs held at given contents. -/
theorem run_owns (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole)
    (f1 : Bf (F := F) c M1) (x2 : Vec F S32x2816 .bf16) (x3 : Vec F S32x256 .f32) (x4 : Vec F S1x1408x4096 .i8) (x5 : Vec F S1x22x4096 .bf16) (x6 : Vec F S1x22x2048 .i8) (x7 : Vec F S1x1024x2816 .i8) (x8 : Vec F S1x16x2816 .bf16) (x9 : Vec F S1x16x1408 .i8) (x10 : Vec F S32x2816 .bf16) (f12 : Bf (F := F) c M12) (E : Set ℕ) (Q : PUnit → sProp 𝕄) :
    iprop(hf c M1 f1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ owns (c : Thread nD τ) M10 fullShare x10 ∗ (∃ f, pt c M11 f) ∗ pt c M12 f12
      ∗ (iprop(hf c M1 f1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare x9 ∗ (∃ f11, pt c M10 (kernelRun (F := F) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) (h10.unread x10) f11 f12).1.1 ∗ pt c M12 (kernelRun (F := F) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) (h10.unread x10) f11 f12).1.2.2) ∗ (∃ f, pt c M11 f)) -∗ Q ⟨⟩))
    ⊢ wp Idealize.ShloMosaic.frame (wpE (defs₀ (F := F)) Variants.none c none) E (cc0_moe b i arg0 M1 h1 M2 h2 M3 h3 M4 h4 M5 h5 M6 h6 M7 h7 M8 h8 M9 h9 M10 h10 M11 h11 M12 h12) Q := by
  rw [owns_pt c M2 h2, owns_pt c M3 h3, owns_pt c M4 h4, owns_pt c M5 h5, owns_pt c M6 h6, owns_pt c M7 h7, owns_pt c M8 h8, owns_pt c M9 h9, owns_pt c M10 h10]
  iintro ⟨H1, H2, H3, H4, H5, H6, H7, H8, H9, H10, ⟨%f11, H11⟩, H12, Hk⟩
  iapply ((kernelRun (F := F) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) (h10.unread x10) f11 f12).2 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10 H12]
  · iexists f11
    isplitl [H10]; · iexact H10
    iexact H12
  iexists _; iexact H11

end Cert.KernelIdeal.Body

end
-- ==== Proof.KernelIdeal.At.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.RunOwns
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun

abbrev ms0 (hO : Ok m) (t : Fin (cfgM m hO).N) : Memref sig .tc .vmem S32x2816 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S32x256 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1408x4096 .i8 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x22x4096 .bf16 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x22x2048 .i8 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S1x1024x2816 .i8 := spec0_5.stage ((cfgM m hO).slots t 5)
abbrev hs5 (hO : Ok m) (t : Fin (cfgM m hO).N) : (ms5 m hO t).IsWhole := hstage0_5 (((cfgM m hO).slots t 5).cast nbuf0_5)
abbrev ms6 (hO : Ok m) (t : Fin (cfgM m hO).N) : Memref sig .tc .vmem S1x16x2816 .bf16 := spec0_6.stage ((cfgM m hO).slots t 6)
abbrev hs6 (hO : Ok m) (t : Fin (cfgM m hO).N) : (ms6 m hO t).IsWhole := hstage0_6 (((cfgM m hO).slots t 6).cast nbuf0_6)
abbrev ms7 (hO : Ok m) (t : Fin (cfgM m hO).N) : Memref sig .tc .vmem S1x16x1408 .i8 := spec0_7.stage ((cfgM m hO).slots t 7)
abbrev hs7 (hO : Ok m) (t : Fin (cfgM m hO).N) : (ms7 m hO t).IsWhole := hstage0_7 (((cfgM m hO).slots t 7).cast nbuf0_7)
abbrev ms8 (hO : Ok m) (t : Fin (cfgM m hO).N) : Memref sig .tc .vmem S32x2816 .bf16 := spec0_8.stage ((cfgM m hO).slots t 8)
abbrev hs8 (hO : Ok m) (t : Fin (cfgM m hO).N) : (ms8 m hO t).IsWhole := hstage0_8 (((cfgM m hO).slots t 8).cast nbuf0_8)
abbrev scH : Memref sig .tc .vmem S32x2048 .bf16 := Memref.whole cc0_scratch0
abbrev scA : Memref sig .tc .vmem S32x2816 .f32 := Memref.whole cc0_scratch1

/-- Point `t`'s coordinate as the word the body is handed. -/
abbrev wordAt (hO : Ok m) (t : Fin (cfgM m hO).N) : BitVec 32 := BitVec.ofNat 32 ((gr m).coords t 0).val

/-- The body as the pipeline calls it at point `t`. -/
abbrev bodyAt (hO : Ok m) (t : Fin (cfgM m hO).N) : Prog (TpuEff nD τ sig (Elt F) Λ₀ .tc) PUnit :=
  cc0_moe (bnd m) (Pipeline.Grid.Coords.static grid0 ((gr m).coords t)) (wordAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)

theorem chkAt (hO : Ok m) (t : Fin (cfgM m hO).N) : k0_chk1 (wordAt m hO t) := hO.2.1 ((gr m).coords t)

/-- Window 0's block at point `t`. -/
def xw0 (hO : Ok m) (c : Dev nD) (t : Fin (cfgM m hO).N) : Vec F S32x2816 .bf16 := iblk m hO c 0 t
/-- Window 1's block at point `t`. -/
def xw1 (hO : Ok m) (c : Dev nD) (t : Fin (cfgM m hO).N) : Vec F S32x256 .f32 := iblk m hO c 1 t
/-- Window 2's block at point `t`. -/
def xw2 (hO : Ok m) (c : Dev nD) (t : Fin (cfgM m hO).N) : Vec F S1x1408x4096 .i8 := iblk m hO c 2 t
/-- Window 3's block at point `t`. -/
def xw3 (hO : Ok m) (c : Dev nD) (t : Fin (cfgM m hO).N) : Vec F S1x22x4096 .bf16 := iblk m hO c 3 t
/-- Window 4's block at point `t`. -/
def xw4 (hO : Ok m) (c : Dev nD) (t : Fin (cfgM m hO).N) : Vec F S1x22x2048 .i8 := iblk m hO c 4 t
/-- Window 5's block at point `t`. -/
def xw5 (hO : Ok m) (c : Dev nD) (t : Fin (cfgM m hO).N) : Vec F S1x1024x2816 .i8 := iblk m hO c 5 t
/-- Window 6's block at point `t`. -/
def xw6 (hO : Ok m) (c : Dev nD) (t : Fin (cfgM m hO).N) : Vec F S1x16x2816 .bf16 := iblk m hO c 6 t
/-- Window 7's block at point `t`. -/
def xw7 (hO : Ok m) (c : Dev nD) (t : Fin (cfgM m hO).N) : Vec F S1x16x1408 .i8 := iblk m hO c 7 t

/-- What the body's run at point `t` leaves in the output's buffer and the two scratch buffers. -/
def runAt (hO : Ok m) (c : Dev nD) (t : Fin (cfgM m hO).N) (f10 : Bf (F := F) c (ms8 m hO t)) (f11 : Bf (F := F) c scH) (f12 : Bf (F := F) c scA) :
    Bf (F := F) c (ms8 m hO t) × Bf (F := F) c scH × Bf (F := F) c scA :=
  (kernelRun (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) ((hs0 m hO t).unread (xw0 m hO c t)) ((hs1 m hO t).unread (xw1 m hO c t)) ((hs2 m hO t).unread (xw2 m hO c t)) ((hs3 m hO t).unread (xw3 m hO c t)) ((hs4 m hO t).unread (xw4 m hO c t)) ((hs5 m hO t).unread (xw5 m hO c t)) ((hs6 m hO t).unread (xw6 m hO c t)) ((hs7 m hO t).unread (xw7 m hO c t)) f10 f11 f12).1

theorem runAt_indep (hO : Ok m) (c : Dev nD) (t : Fin (cfgM m hO).N) (f10 f10' : Bf (F := F) c (ms8 m hO t)) (f11 f11' : Bf (F := F) c scH) (f12 f12' : Bf (F := F) c scA)
    (h : f12 = f12' ∨ first (wordAt m hO t)) : (runAt m hO c t f10 f11 f12).2.2 = (runAt m hO c t f10' f11' f12').2.2
    ∧ (last (wordAt m hO t) (bnd m) → (ms8 m hO t).view.read (Elt F) (runAt m hO c t f10 f11 f12).1 = (ms8 m hO t).view.read (Elt F) (runAt m hO c t f10' f11' f12').1) := by
  unfold runAt
  exact run_indep (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) ((hs0 m hO t).unread (xw0 m hO c t)) ((hs1 m hO t).unread (xw1 m hO c t)) ((hs2 m hO t).unread (xw2 m hO c t)) ((hs3 m hO t).unread (xw3 m hO c t)) ((hs4 m hO t).unread (xw4 m hO c t)) ((hs5 m hO t).unread (xw5 m hO c t)) ((hs6 m hO t).unread (xw6 m hO c t)) ((hs7 m hO t).unread (xw7 m hO c t)) f10 f10' f11 f11' f12 f12' h

theorem runAt_idle (hO : Ok m) (c : Dev nD) (t : Fin (cfgM m hO).N) (f10 : Bf (F := F) c (ms8 m hO t)) (f11 : Bf (F := F) c scH) (f12 : Bf (F := F) c scA)
    (h : ¬ last (wordAt m hO t) (bnd m)) : (runAt m hO c t f10 f11 f12).1 = f10 := by
  unfold runAt
  have e := run_out (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) ((hs0 m hO t).unread (xw0 m hO c t)) ((hs1 m hO t).unread (xw1 m hO c t)) ((hs2 m hO t).unread (xw2 m hO c t)) ((hs3 m hO t).unread (xw3 m hO c t)) ((hs4 m hO t).unread (xw4 m hO c t)) ((hs5 m hO t).unread (xw5 m hO c t)) ((hs6 m hO t).unread (xw6 m hO c t)) ((hs7 m hO t).unread (xw7 m hO c t)) f10 f11 f12
  rw [dif_neg h] at e
  exact e

theorem runAt_owns (hO : Ok m) (c : Dev nD) (t : Fin (cfgM m hO).N) (x10 : Vec F S32x2816 .bf16) (f12 : Bf (F := F) c scA) (E : Set ℕ) (Q : PUnit → sProp 𝕄) :
    iprop(hf c tbM1 (tbl m 1) ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ owns (c : Thread nD τ) (ms8 m hO t) fullShare x10 ∗ (∃ f, pt c scH f) ∗ pt c scA f12
      ∗ (iprop(hf c tbM1 (tbl m 1) ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ f11, pt c (ms8 m hO t) (runAt m hO c t ((hs8 m hO t).unread x10) f11 f12).1 ∗ pt c scA (runAt m hO c t ((hs8 m hO t).unread x10) f11 f12).2.2) ∗ (∃ f, pt c scH f)) -∗ Q ⟨⟩))
    ⊢ wp Idealize.ShloMosaic.frame (wpE (defs₀ (F := F)) Variants.none c none) E (bodyAt m hO t) Q := by
  unfold runAt
  exact run_owns (F := F) c (bnd m) (Pipeline.Grid.Coords.static grid0 ((gr m).coords t)) (wordAt m hO t) (chkAt m hO t) tbM1 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) (ms6 m hO t) (hs6 m hO t) (ms7 m hO t) (hs7 m hO t) (ms8 m hO t) (hs8 m hO t) scH (Memref.isWhole_whole _) scA (Memref.isWhole_whole _)
    (tbl m 1) (xw0 m hO c t) (xw1 m hO c t) (xw2 m hO c t) (xw3 m hO c t) (xw4 m hO c t) (xw5 m hO c t) (xw6 m hO c t) (xw7 m hO c t) x10 f12 E Q

end Cert.KernelIdeal.Body

end
-- ==== Proof.KernelIdeal.Inv.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.At
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] runAt

/-- What the accumulator holds before point `n` (before the first, what the launch's memory has there). -/
def accAt (hO : Ok m) (c : Dev nD) : ℕ → Bf (F := F) c scA
  | 0 => m ((c : Thread nD τ).loc cc0_scratch1)
  | n + 1 => if h : n < (cfgM m hO).N then
      (runAt m hO c ⟨n, h⟩ (ms8 m hO ⟨n, h⟩).view.junk (m ((c : Thread nD τ).loc cc0_scratch0)) (accAt hO c n)).2.2
    else accAt hO c n

theorem accAt_succ (hO : Ok m) (c : Dev nD) (n : ℕ) (h : n < (cfgM m hO).N) : accAt m hO c (n + 1) =
    (runAt m hO c ⟨n, h⟩ (ms8 m hO ⟨n, h⟩).view.junk (m ((c : Thread nD τ).loc cc0_scratch0)) (accAt m hO c n)).2.2 := by
  rw [accAt, dif_pos h]

/-- What the output's buffer holds after the last point's body. -/
def outAt (hO : Ok m) (c : Dev nD) (t : Fin (cfgM m hO).N) : Vec F S32x2816 .bf16 :=
  (ms8 m hO t).view.read (Elt F) (runAt m hO c t (ms8 m hO t).view.junk (m ((c : Thread nD τ).loc cc0_scratch0)) (accAt m hO c t.val)).1

/-- Contents of the accumulator from which point `t`'s body leaves what `accAt` and `outAt` say. -/
def Good (hO : Ok m) (c : Dev nD) (t : Fin (cfgM m hO).N) (f12 : Bf (F := F) c scA) : Prop :=
  ∀ f10 f11, (runAt m hO c t f10 f11 f12).2.2 = accAt m hO c (t.val + 1)
    ∧ (t.val + 1 = (cfgM m hO).N → (ms8 m hO t).view.read (Elt F) (runAt m hO c t f10 f11 f12).1 = outAt m hO c t)

theorem acc_good (hO : Ok m) (c : Dev nD) (t : Fin (cfgM m hO).N) (f12 : Bf (F := F) c scA) (h : Good m hO c t f12) (f10 : Bf (F := F) c (ms8 m hO t)) (f11 : Bf (F := F) c scH) :
    (runAt m hO c t f10 f11 f12).2.2 = accAt m hO c (t.val + 1) := (h f10 f11).1

theorem good_of (hO : Ok m) (c : Dev nD) (t : Fin (cfgM m hO).N) (f12 : Bf (F := F) c scA) (h : f12 = accAt m hO c t.val ∨ t.val = 0) : Good m hO c t f12 := by
  intro f10 f11
  have h' : f12 = accAt m hO c t.val ∨ first (wordAt m hO t) := by
    refine h.imp id fun h0 => ?_
    have hc : ((gr m).coords t 0).val = t.val := coords_zero (bnd m) t
    unfold wordAt; rw [hc, h0]; rfl
  have key := runAt_indep m hO c t f10 (ms8 m hO t).view.junk f11 (m ((c : Thread nD τ).loc cc0_scratch0)) f12 (accAt m hO c t.val) h'
  refine ⟨key.1.trans ?_, fun hl => key.2 ((last_iff m hO t).mpr hl)⟩
  rw [accAt_succ m hO c t.val t.isLt]

end Cert.KernelIdeal.Body

end
-- ==== Proof.KernelIdeal.Phi.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.Inv
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

/-- What the launch hands the region besides the windows, buffer by buffer. -/
theorem PhiA_eq (c : Dev nD) :
    (Pipeline.ΦA spec0 c : sProp 𝕄) = iprop(iprop((∃ f, pt c scH f) ∗ (∃ f, pt c scA f)) ∗ (∃ r, prngReg c r)) := by
  unfold Pipeline.ΦA; rw [scopedRest0_eq]; try rfl
theorem PhiT_eq (c : Dev nD) : (Pipeline.ΦT pre0 (tbl m) c : sProp 𝕄)
    = iprop(((c : Thread nD τ).loc (pre0.ref 0) ↦{fullShare.right} tbl m 0) ∗ hf c tbM1 (tbl m 1)) := by
  unfold Pipeline.ΦT Pipeline.prefHeld
  exact bigSep_univ_eq_bigSepL [(0 : Fin 2), (1 : Fin 2)] (by decide) (by decide) _

/-- The region's invariant before point `n`. -/
def Phi (hO : Ok m) (c : Dev nD) : (n : ℕ) → sProp 𝕄
  | 0 => iprop(Pipeline.ΦA spec0 c ∗ Pipeline.ΦT pre0 (tbl m) c)
  | n + 1 => iprop(iprop(iprop((∃ f, pt c scH f) ∗ pt c scA (accAt m hO c (n + 1))) ∗ (∃ r, prngReg c r)) ∗ Pipeline.ΦT pre0 (tbl m) c)

/-- Before any point the accumulator holds contents from which the body leaves what `accAt` says. -/
theorem Phi_good (hO : Ok m) (c : Dev nD) (t : Fin (cfgM m hO).N) : Phi m hO c t.val ⊢
    iprop(iprop(iprop((∃ f, pt c scH f) ∗ (∃ f, ⌜Good m hO c t f⌝ ∗ pt c scA f)) ∗ (∃ r, prngReg c r)) ∗ Pipeline.ΦT pre0 (tbl m) c) := by
  obtain ⟨n, hn⟩ := t
  cases n with
  | zero =>
    show iprop(Pipeline.ΦA spec0 c ∗ Pipeline.ΦT pre0 (tbl m) c) ⊢ _
    rw [PhiA_eq]
    iintro ⟨⟨⟨HH, ⟨%f, HA⟩⟩, Hg⟩, HT⟩
    isplitr [HT]
    · isplitr [Hg]
      · isplitl [HH]; · iexact HH
        iexists f
        isplitr; · ipureintro; exact good_of m hO c _ f (Or.inr rfl)
        iexact HA
      iexact Hg
    iexact HT
  | succ n =>
    show iprop(iprop(iprop((∃ f, pt c scH f) ∗ pt c scA (accAt m hO c (n + 1))) ∗ (∃ r, prngReg c r)) ∗ Pipeline.ΦT pre0 (tbl m) c) ⊢ _
    iintro ⟨⟨⟨HH, HA⟩, Hg⟩, HT⟩
    isplitr [HT]
    · isplitr [Hg]
      · isplitl [HH]; · iexact HH
        iexists _
        isplitr; · ipureintro; exact good_of m hO c ⟨n + 1, hn⟩ _ (Or.inl rfl)
        iexact HA
      iexact Hg
    iexact HT

/-- The pipeline's proof data: each input's buffer at its block after every point, the output's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => xw0 m hO c t
    | ⟨1, _⟩ => xw1 m hO c t
    | ⟨2, _⟩ => xw2 m hO c t
    | ⟨3, _⟩ => xw3 m hO c t
    | ⟨4, _⟩ => xw4 m hO c t
    | ⟨5, _⟩ => xw5 m hO c t
    | ⟨6, _⟩ => xw6 m hO c t
    | ⟨7, _⟩ => xw7 m hO c t
    | ⟨8, _⟩ => outAt m hO c t
  Φ t := Phi m hO c t.val
  q _ := fullShare
  owed _ := 0

end Cert.KernelIdeal.Body

end
-- ==== Proof.KernelIdeal.Leaves.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.Phi
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

/-- What the body leaves in window `w`'s buffer at point `t` (`Dat.leavesExact`), as one term. -/
def leavesAt {cfg : Cfg sig Λ₀} {c : Dev nD} (dat : Dat τ (Elt F) Unit ℕ (UR sig nD τ) ℕ cfg c) (w : Fin cfg.W) (t : Fin cfg.N) : sProp 𝕄 := dat.leavesExact w t

/-- The body obligation from its windows' buffers, each as one term. -/
theorem obligation_of {cfg : Cfg sig Λ₀} {c : Dev nD} (dat : Dat τ (Elt F) Unit ℕ (UR sig nD τ) ℕ cfg c)
    (h : ∀ t : Fin cfg.N, iprop(dat.Φ t.castSucc ∗ dat.owesAt () t.castSucc ∗ bigSep Finset.univ fun w : Fin cfg.W =>
          iprop(∃ d, owns (c : Thread nD τ) ((cfg.win w).stage (cfg.slots t w)) fullShare (dat.before w t d)))
      ⊢ wp Idealize.ShloMosaic.frame (wpE (defs₀ (F := F)) Variants.none c none) Set.univ (defs₀ .tc cfg.body (cfg.bodyArgs t (cfg.slots t)))
        fun _ => iprop(dat.Φ t.succ ∗ dat.owesAt () t.succ ∗ bigSep Finset.univ fun w : Fin cfg.W => leavesAt dat w t)) :
    BodyObligation dat (defs₀ (F := F)) Variants.none () Set.univ := h

theorem A_eq (hO : Ok m) (c : Dev nD) (w : Fin (cfgM m hO).W) : (dats m hO 0 c).A w = V m c (Pipeline.arrRef spec0 w) := by
  dsimp only [dats]
theorem after_0 (hO : Ok m) (c : Dev nD) (t : Fin (cfgM m hO).N) : (dats m hO 0 c).after 0 t = xw0 m hO c t := by dsimp only [dats]; try rfl
theorem before_0 (hO : Ok m) (c : Dev nD) (t : Fin (cfgM m hO).N) (d) : (dats m hO 0 c).before 0 t d = xw0 m hO c t :=
  before_0_of m hO (dats m hO 0 c) (A_eq m hO c 0) (after_0 m hO c) t d
theorem after_1 (hO : Ok m) (c : Dev nD) (t : Fin (cfgM m hO).N) : (dats m hO 0 c).after 1 t = xw1 m hO c t := by dsimp only [dats]; try rfl
theorem before_1 (hO : Ok m) (c : Dev nD) (t : Fin (cfgM m hO).N) (d) : (dats m hO 0 c).before 1 t d = xw1 m hO c t :=
  before_1_of m hO (dats m hO 0 c) (A_eq m hO c 1) (after_1 m hO c) t d
theorem after_2 (hO : Ok m) (c : Dev nD) (t : Fin (cfgM m hO).N) : (dats m hO 0 c).after 2 t = xw2 m hO c t := by dsimp only [dats]; try rfl
theorem before_2 (hO : Ok m) (c : Dev nD) (t : Fin (cfgM m hO).N) (d) : (dats m hO 0 c).before 2 t d = xw2 m hO c t :=
  before_2_of m hO (dats m hO 0 c) (A_eq m hO c 2) (after_2 m hO c) t d
theorem after_3 (hO : Ok m) (c : Dev nD) (t : Fin (cfgM m hO).N) : (dats m hO 0 c).after 3 t = xw3 m hO c t := by dsimp only [dats]; try rfl
theorem before_3 (hO : Ok m) (c : Dev nD) (t : Fin (cfgM m hO).N) (d) : (dats m hO 0 c).before 3 t d = xw3 m hO c t :=
  before_3_of m hO (dats m hO 0 c) (A_eq m hO c 3) (after_3 m hO c) t d
theorem after_4 (hO : Ok m) (c : Dev nD) (t : Fin (cfgM m hO).N) : (dats m hO 0 c).after 4 t = xw4 m hO c t := by dsimp only [dats]; try rfl
theorem before_4 (hO : Ok m) (c : Dev nD) (t : Fin (cfgM m hO).N) (d) : (dats m hO 0 c).before 4 t d = xw4 m hO c t :=
  before_4_of m hO (dats m hO 0 c) (A_eq m hO c 4) (after_4 m hO c) t d
theorem after_5 (hO : Ok m) (c : Dev nD) (t : Fin (cfgM m hO).N) : (dats m hO 0 c).after 5 t = xw5 m hO c t := by dsimp only [dats]; try rfl
theorem before_5 (hO : Ok m) (c : Dev nD) (t : Fin (cfgM m hO).N) (d) : (dats m hO 0 c).before 5 t d = xw5 m hO c t :=
  before_5_of m hO (dats m hO 0 c) (A_eq m hO c 5) (after_5 m hO c) t d
theorem after_6 (hO : Ok m) (c : Dev nD) (t : Fin (cfgM m hO).N) : (dats m hO 0 c).after 6 t = xw6 m hO c t := by dsimp only [dats]; try rfl
theorem before_6 (hO : Ok m) (c : Dev nD) (t : Fin (cfgM m hO).N) (d) : (dats m hO 0 c).before 6 t d = xw6 m hO c t :=
  before_6_of m hO (dats m hO 0 c) (A_eq m hO c 6) (after_6 m hO c) t d
theorem after_7 (hO : Ok m) (c : Dev nD) (t : Fin (cfgM m hO).N) : (dats m hO 0 c).after 7 t = xw7 m hO c t := by dsimp only [dats]; try rfl
theorem before_7 (hO : Ok m) (c : Dev nD) (t : Fin (cfgM m hO).N) (d) : (dats m hO 0 c).before 7 t d = xw7 m hO c t :=
  before_7_of m hO (dats m hO 0 c) (A_eq m hO c 7) (after_7 m hO c) t d
theorem after_8 (hO : Ok m) (c : Dev nD) (t : Fin (cfgM m hO).N) : (dats m hO 0 c).after 8 t = outAt m hO c t := by dsimp only [dats]; try rfl

theorem pre_0 (hO : Ok m) (c : Dev nD) (t : Fin (cfgM m hO).N) :
    (iprop(∃ d, owns (c : Thread nD τ) (((cfgM m hO).win 0).stage ((cfgM m hO).slots t 0)) fullShare ((dats m hO 0 c).before 0 t d)) : sProp 𝕄) ⊢ owns (c : Thread nD τ) (ms0 m hO t) fullShare (xw0 m hO c t) := by
  iintro ⟨%d, H⟩
  rw [before_0]
  iexact H
theorem leaves_0 (hO : Ok m) (c : Dev nD) (t : Fin (cfgM m hO).N) :
    owns (c : Thread nD τ) (ms0 m hO t) fullShare (xw0 m hO c t) ⊢ (leavesAt (dats m hO 0 c) 0 t : sProp 𝕄) := by
  unfold leavesAt Dat.leavesExact
  rw [show (cfgM m hO).idle 0 ((cfgM m hO).grid.coords t) = false from rfl, after_0]
  exact .rfl
theorem pre_1 (hO : Ok m) (c : Dev nD) (t : Fin (cfgM m hO).N) :
    (iprop(∃ d, owns (c : Thread nD τ) (((cfgM m hO).win 1).stage ((cfgM m hO).slots t 1)) fullShare ((dats m hO 0 c).before 1 t d)) : sProp 𝕄) ⊢ owns (c : Thread nD τ) (ms1 m hO t) fullShare (xw1 m hO c t) := by
  iintro ⟨%d, H⟩
  rw [before_1]
  iexact H
theorem leaves_1 (hO : Ok m) (c : Dev nD) (t : Fin (cfgM m hO).N) :
    owns (c : Thread nD τ) (ms1 m hO t) fullShare (xw1 m hO c t) ⊢ (leavesAt (dats m hO 0 c) 1 t : sProp 𝕄) := by
  unfold leavesAt Dat.leavesExact
  rw [show (cfgM m hO).idle 1 ((cfgM m hO).grid.coords t) = false from rfl, after_1]
  exact .rfl
theorem pre_2 (hO : Ok m) (c : Dev nD) (t : Fin (cfgM m hO).N) :
    (iprop(∃ d, owns (c : Thread nD τ) (((cfgM m hO).win 2).stage ((cfgM m hO).slots t 2)) fullShare ((dats m hO 0 c).before 2 t d)) : sProp 𝕄) ⊢ owns (c : Thread nD τ) (ms2 m hO t) fullShare (xw2 m hO c t) := by
  iintro ⟨%d, H⟩
  rw [before_2]
  iexact H
theorem leaves_2 (hO : Ok m) (c : Dev nD) (t : Fin (cfgM m hO).N) :
    owns (c : Thread nD τ) (ms2 m hO t) fullShare (xw2 m hO c t) ⊢ (leavesAt (dats m hO 0 c) 2 t : sProp 𝕄) := by
  unfold leavesAt Dat.leavesExact
  rw [show (cfgM m hO).idle 2 ((cfgM m hO).grid.coords t) = false from rfl, after_2]
  exact .rfl
theorem pre_3 (hO : Ok m) (c : Dev nD) (t : Fin (cfgM m hO).N) :
    (iprop(∃ d, owns (c : Thread nD τ) (((cfgM m hO).win 3).stage ((cfgM m hO).slots t 3)) fullShare ((dats m hO 0 c).before 3 t d)) : sProp 𝕄) ⊢ owns (c : Thread nD τ) (ms3 m hO t) fullShare (xw3 m hO c t) := by
  iintro ⟨%d, H⟩
  rw [before_3]
  iexact H
theorem leaves_3 (hO : Ok m) (c : Dev nD) (t : Fin (cfgM m hO).N) :
    owns (c : Thread nD τ) (ms3 m hO t) fullShare (xw3 m hO c t) ⊢ (leavesAt (dats m hO 0 c) 3 t : sProp 𝕄) := by
  unfold leavesAt Dat.leavesExact
  rw [show (cfgM m hO).idle 3 ((cfgM m hO).grid.coords t) = false from rfl, after_3]
  exact .rfl
theorem pre_4 (hO : Ok m) (c : Dev nD) (t : Fin (cfgM m hO).N) :
    (iprop(∃ d, owns (c : Thread nD τ) (((cfgM m hO).win 4).stage ((cfgM m hO).slots t 4)) fullShare ((dats m hO 0 c).before 4 t d)) : sProp 𝕄) ⊢ owns (c : Thread nD τ) (ms4 m hO t) fullShare (xw4 m hO c t) := by
  iintro ⟨%d, H⟩
  rw [before_4]
  iexact H
theorem leaves_4 (hO : Ok m) (c : Dev nD) (t : Fin (cfgM m hO).N) :
    owns (c : Thread nD τ) (ms4 m hO t) fullShare (xw4 m hO c t) ⊢ (leavesAt (dats m hO 0 c) 4 t : sProp 𝕄) := by
  unfold leavesAt Dat.leavesExact
  rw [show (cfgM m hO).idle 4 ((cfgM m hO).grid.coords t) = false from rfl, after_4]
  exact .rfl
theorem pre_5 (hO : Ok m) (c : Dev nD) (t : Fin (cfgM m hO).N) :
    (iprop(∃ d, owns (c : Thread nD τ) (((cfgM m hO).win 5).stage ((cfgM m hO).slots t 5)) fullShare ((dats m hO 0 c).before 5 t d)) : sProp 𝕄) ⊢ owns (c : Thread nD τ) (ms5 m hO t) fullShare (xw5 m hO c t) := by
  iintro ⟨%d, H⟩
  rw [before_5]
  iexact H
theorem leaves_5 (hO : Ok m) (c : Dev nD) (t : Fin (cfgM m hO).N) :
    owns (c : Thread nD τ) (ms5 m hO t) fullShare (xw5 m hO c t) ⊢ (leavesAt (dats m hO 0 c) 5 t : sProp 𝕄) := by
  unfold leavesAt Dat.leavesExact
  rw [show (cfgM m hO).idle 5 ((cfgM m hO).grid.coords t) = false from rfl, after_5]
  exact .rfl
theorem pre_6 (hO : Ok m) (c : Dev nD) (t : Fin (cfgM m hO).N) :
    (iprop(∃ d, owns (c : Thread nD τ) (((cfgM m hO).win 6).stage ((cfgM m hO).slots t 6)) fullShare ((dats m hO 0 c).before 6 t d)) : sProp 𝕄) ⊢ owns (c : Thread nD τ) (ms6 m hO t) fullShare (xw6 m hO c t) := by
  iintro ⟨%d, H⟩
  rw [before_6]
  iexact H
theorem leaves_6 (hO : Ok m) (c : Dev nD) (t : Fin (cfgM m hO).N) :
    owns (c : Thread nD τ) (ms6 m hO t) fullShare (xw6 m hO c t) ⊢ (leavesAt (dats m hO 0 c) 6 t : sProp 𝕄) := by
  unfold leavesAt Dat.leavesExact
  rw [show (cfgM m hO).idle 6 ((cfgM m hO).grid.coords t) = false from rfl, after_6]
  exact .rfl
theorem pre_7 (hO : Ok m) (c : Dev nD) (t : Fin (cfgM m hO).N) :
    (iprop(∃ d, owns (c : Thread nD τ) (((cfgM m hO).win 7).stage ((cfgM m hO).slots t 7)) fullShare ((dats m hO 0 c).before 7 t d)) : sProp 𝕄) ⊢ owns (c : Thread nD τ) (ms7 m hO t) fullShare (xw7 m hO c t) := by
  iintro ⟨%d, H⟩
  rw [before_7]
  iexact H
theorem leaves_7 (hO : Ok m) (c : Dev nD) (t : Fin (cfgM m hO).N) :
    owns (c : Thread nD τ) (ms7 m hO t) fullShare (xw7 m hO c t) ⊢ (leavesAt (dats m hO 0 c) 7 t : sProp 𝕄) := by
  unfold leavesAt Dat.leavesExact
  rw [show (cfgM m hO).idle 7 ((cfgM m hO).grid.coords t) = false from rfl, after_7]
  exact .rfl

theorem leaves_8 (hO : Ok m) (c : Dev nD) (t : Fin (cfgM m hO).N) (d : Vec F S32x2816 .bf16) (f11 : Bf (F := F) c scH) (f12 : Bf (F := F) c scA) (hg : Good m hO c t f12) :
      (pt c (ms8 m hO t) (runAt m hO c t ((hs8 m hO t).unread ((dats m hO 0 c).before 8 t d)) f11 f12).1 : sProp 𝕄) ⊢ leavesAt (dats m hO 0 c) 8 t := by
    unfold leavesAt
    by_cases hl : t.val + 1 = (cfgM m hO).N
    · unfold Good at hg
      have h2 := (hg ((hs8 m hO t).unread ((dats m hO 0 c).before 8 t d)) f11).2 hl
      unfold Dat.leavesExact
      rw [live_of m hO t hl, after_8, ← h2]
      generalize (runAt m hO c t ((hs8 m hO t).unread ((dats m hO 0 c).before 8 t d)) f11 f12).1 = g
      refine BIBase.Entails.trans ?_ (Entails.of_eq (owns_pt c (ms8 m hO t) (hs8 m hO t) _).symm)
      rw [Memref.IsWhole.unread_read]
    · rw [Dat.leavesExact_idle (dats m hO 0 c) 8 t (idle_of m hO t hl) (noFlush_of m hO t hl)]
      rw [runAt_idle m hO c t _ f11 f12 (mt (last_iff m hO t).mp hl)]
      iintro H
      iexists d
      have e2 : (pt c (ms8 m hO t) ((hs8 m hO t).unread ((dats m hO 0 c).before 8 t d)) : sProp 𝕄) ⊢ owns (c : Thread nD τ) (ms8 m hO t) fullShare ((dats m hO 0 c).before 8 t d) :=
        Entails.of_eq (owns_pt c (ms8 m hO t) (hs8 m hO t) _).symm
      iapply e2
      iexact H

end Cert.KernelIdeal.Body

end
-- ==== Proof.KernelIdeal.Core.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.Leaves
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

set_option maxHeartbeats 1600000 in
/-- The body at any point of the grid, from its buffers at the windows' blocks. -/
theorem sound_core (hO : Ok m) (c : Dev nD) (t : Fin (cfgM m hO).N) {α : Type} (O L8 : sProp 𝕄) (y : α → Vec F S32x2816 .bf16)
    (h8 : ∀ d f11 f12, Good m hO c t f12 → (pt c (ms8 m hO t) (runAt m hO c t ((hs8 m hO t).unread (y d)) f11 f12).1 : sProp 𝕄) ⊢ L8) :
    iprop(Phi m hO c t.val ∗ O ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ d, owns (c : Thread nD τ) (ms8 m hO t) fullShare (y d)))
    ⊢ wp Idealize.ShloMosaic.frame (wpE (defs₀ (F := F)) Variants.none c none) Set.univ (bodyAt m hO t)
      (fun _ => iprop(Phi m hO c (t.val + 1) ∗ O ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ L8)) := by
  have hgd := Phi_good m hO c t
  rw [show Phi m hO c (t.val + 1) = iprop(iprop(iprop((∃ f, pt c scH f) ∗ pt c scA (accAt m hO c (t.val + 1))) ∗ (∃ r, prngReg c r)) ∗ Pipeline.ΦT pre0 (tbl m) c) from rfl]
  rw [PhiT_eq] at hgd ⊢
  iintro ⟨HP, Ho, H0, H1, H2, H3, H4, H5, H6, H7, ⟨%d, H8⟩⟩
  ihave HP2 := hgd $$ HP
  icases HP2 with ⟨⟨⟨HH, ⟨%f12, %hg, HA⟩⟩, Hg⟩, HT0, HT1⟩
  iapply (runAt_owns m hO c t (y d) f12 Set.univ _)
  isplitl [HT1]; · iexact HT1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HH]; · iexact HH
  isplitl [HA]; · iexact HA
  iintro ⟨HT1, H0, H1, H2, H3, H4, H5, H6, H7, ⟨%f11, H8, HA⟩, HH⟩
  isplitl [HH HA Hg HT0 HT1]
  · isplitr [HT0 HT1]
    · isplitr [Hg]
      · isplitl [HH]; · iexact HH
        rw [← acc_good m hO c t f12 hg ((hs8 m hO t).unread (y d)) f11]
        iexact HA
      iexact Hg
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iapply (h8 d f11 f12 hg)
  iexact H8

end Cert.KernelIdeal.Body

end
-- ==== Proof.KernelIdeal.Sound.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.Core
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

theorem owes_eq (hO : Ok m) (c : Dev nD) (t : Fin (cfgM m hO).N) : ((dats m hO 0 c).owesAt () t.succ : sProp 𝕄) = (dats m hO 0 c).owesAt () t.castSucc := by
  have h1 : (dats m hO 0 c).owed t.succ = (dats m hO 0 c).owed t.castSucc := by dsimp only [dats]
  have h2 : (dats m hO 0 c).bound () t.succ = (dats m hO 0 c).bound () t.castSucc := by unfold Dat.bound; dsimp only [dats]
  unfold Dat.owesAt
  rw [h1, h2]
theorem phi_succ (hO : Ok m) (c : Dev nD) (t : Fin (cfgM m hO).N) : ((dats m hO 0 c).Φ t.succ : sProp 𝕄) = Phi m hO c (t.val + 1) := by
  dsimp only [dats]; rw [Fin.val_succ]
theorem phi_castSucc (hO : Ok m) (c : Dev nD) (t : Fin (cfgM m hO).N) : ((dats m hO 0 c).Φ t.castSucc : sProp 𝕄) = Phi m hO c t.val := by
  dsimp only [dats]; rw [Fin.val_castSucc]
theorem phi_zero (hO : Ok m) (c : Dev nD) : ((dats m hO 0 c).Φ 0 : sProp 𝕄) = iprop(Pipeline.ΦA spec0 c ∗ Pipeline.ΦT pre0 (tbl m) c) := by
  dsimp only [dats]; rw [Fin.val_zero]; rfl
theorem phi_last (hO : Ok m) (c : Dev nD) : ((dats m hO 0 c).Φ (Fin.last (cfgM m hO).N) : sProp 𝕄) = Phi m hO c (cfgM m hO).N := by
  dsimp only [dats]; rw [Fin.val_last]

theorem pre_all (hO : Ok m) (c : Dev nD) (t : Fin (cfgM m hO).N) : iprop((dats m hO 0 c).Φ t.castSucc ∗ (dats m hO 0 c).owesAt () t.castSucc ∗ (∃ d, owns (c : Thread nD τ) (((cfgM m hO).win 0).stage ((cfgM m hO).slots t 0)) fullShare ((dats m hO 0 c).before 0 t d)) ∗ (∃ d, owns (c : Thread nD τ) (((cfgM m hO).win 1).stage ((cfgM m hO).slots t 1)) fullShare ((dats m hO 0 c).before 1 t d)) ∗ (∃ d, owns (c : Thread nD τ) (((cfgM m hO).win 2).stage ((cfgM m hO).slots t 2)) fullShare ((dats m hO 0 c).before 2 t d)) ∗ (∃ d, owns (c : Thread nD τ) (((cfgM m hO).win 3).stage ((cfgM m hO).slots t 3)) fullShare ((dats m hO 0 c).before 3 t d)) ∗ (∃ d, owns (c : Thread nD τ) (((cfgM m hO).win 4).stage ((cfgM m hO).slots t 4)) fullShare ((dats m hO 0 c).before 4 t d)) ∗ (∃ d, owns (c : Thread nD τ) (((cfgM m hO).win 5).stage ((cfgM m hO).slots t 5)) fullShare ((dats m hO 0 c).before 5 t d)) ∗ (∃ d, owns (c : Thread nD τ) (((cfgM m hO).win 6).stage ((cfgM m hO).slots t 6)) fullShare ((dats m hO 0 c).before 6 t d)) ∗ (∃ d, owns (c : Thread nD τ) (((cfgM m hO).win 7).stage ((cfgM m hO).slots t 7)) fullShare ((dats m hO 0 c).before 7 t d)) ∗ (∃ d, owns (c : Thread nD τ) (((cfgM m hO).win 8).stage ((cfgM m hO).slots t 8)) fullShare ((dats m hO 0 c).before 8 t d))) ⊢ iprop(Phi m hO c t.val ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ d, owns (c : Thread nD τ) (ms8 m hO t) fullShare ((dats m hO 0 c).before 8 t d))) := by
  rw [phi_castSucc]
  exact BIClass.sep_mono .rfl (BIClass.sep_mono .rfl (BIClass.sep_mono (pre_0 m hO c t) (BIClass.sep_mono (pre_1 m hO c t) (BIClass.sep_mono (pre_2 m hO c t) (BIClass.sep_mono (pre_3 m hO c t) (BIClass.sep_mono (pre_4 m hO c t) (BIClass.sep_mono (pre_5 m hO c t) (BIClass.sep_mono (pre_6 m hO c t) (BIClass.sep_mono (pre_7 m hO c t) .rfl)))))))))
theorem mid_all (hO : Ok m) (c : Dev nD) (t : Fin (cfgM m hO).N) : iprop(Phi m hO c t.val ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ (∃ d, owns (c : Thread nD τ) (ms8 m hO t) fullShare ((dats m hO 0 c).before 8 t d))) ⊢ wp Idealize.ShloMosaic.frame (wpE (defs₀ (F := F)) Variants.none c none) Set.univ (bodyAt m hO t) (fun _ => iprop(Phi m hO c (t.val + 1) ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ leavesAt (dats m hO 0 c) 8 t)) :=
  sound_core m hO c t _ _ (fun d => (dats m hO 0 c).before 8 t d) (leaves_8 m hO c t)
theorem leaves_all (hO : Ok m) (c : Dev nD) (t : Fin (cfgM m hO).N) (A B L8 : sProp 𝕄) : iprop(A ∗ B ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ L8) ⊢ iprop(A ∗ B ∗ leavesAt (dats m hO 0 c) 0 t ∗ leavesAt (dats m hO 0 c) 1 t ∗ leavesAt (dats m hO 0 c) 2 t ∗ leavesAt (dats m hO 0 c) 3 t ∗ leavesAt (dats m hO 0 c) 4 t ∗ leavesAt (dats m hO 0 c) 5 t ∗ leavesAt (dats m hO 0 c) 6 t ∗ leavesAt (dats m hO 0 c) 7 t ∗ L8) :=
  BIClass.sep_mono .rfl (BIClass.sep_mono .rfl (BIClass.sep_mono (leaves_0 m hO c t) (BIClass.sep_mono (leaves_1 m hO c t) (BIClass.sep_mono (leaves_2 m hO c t) (BIClass.sep_mono (leaves_3 m hO c t) (BIClass.sep_mono (leaves_4 m hO c t) (BIClass.sep_mono (leaves_5 m hO c t) (BIClass.sep_mono (leaves_6 m hO c t) (BIClass.sep_mono (leaves_7 m hO c t) .rfl)))))))))
theorem post_all (hO : Ok m) (c : Dev nD) (t : Fin (cfgM m hO).N) : iprop(Phi m hO c (t.val + 1) ∗ (dats m hO 0 c).owesAt () t.castSucc ∗ owns (c : Thread nD τ) (ms0 m hO t) fullShare (xw0 m hO c t) ∗ owns (c : Thread nD τ) (ms1 m hO t) fullShare (xw1 m hO c t) ∗ owns (c : Thread nD τ) (ms2 m hO t) fullShare (xw2 m hO c t) ∗ owns (c : Thread nD τ) (ms3 m hO t) fullShare (xw3 m hO c t) ∗ owns (c : Thread nD τ) (ms4 m hO t) fullShare (xw4 m hO c t) ∗ owns (c : Thread nD τ) (ms5 m hO t) fullShare (xw5 m hO c t) ∗ owns (c : Thread nD τ) (ms6 m hO t) fullShare (xw6 m hO c t) ∗ owns (c : Thread nD τ) (ms7 m hO t) fullShare (xw7 m hO c t) ∗ leavesAt (dats m hO 0 c) 8 t) ⊢ iprop((dats m hO 0 c).Φ t.succ ∗ (dats m hO 0 c).owesAt () t.succ ∗ leavesAt (dats m hO 0 c) 0 t ∗ leavesAt (dats m hO 0 c) 1 t ∗ leavesAt (dats m hO 0 c) 2 t ∗ leavesAt (dats m hO 0 c) 3 t ∗ leavesAt (dats m hO 0 c) 4 t ∗ leavesAt (dats m hO 0 c) 5 t ∗ leavesAt (dats m hO 0 c) 6 t ∗ leavesAt (dats m hO 0 c) 7 t ∗ leavesAt (dats m hO 0 c) 8 t) := by
  rw [owes_eq, phi_succ]
  exact leaves_all m hO c t (Phi m hO c (t.val + 1)) ((dats m hO 0 c).owesAt () t.castSucc) (leavesAt (dats m hO 0 c) 8 t)

/-- The body at any point of the grid. -/
theorem sound_body (hO : Ok m) (c : Dev nD) (t : Fin (cfgM m hO).N) : iprop((dats m hO 0 c).Φ t.castSucc ∗ (dats m hO 0 c).owesAt () t.castSucc ∗ (∃ d, owns (c : Thread nD τ) (((cfgM m hO).win 0).stage ((cfgM m hO).slots t 0)) fullShare ((dats m hO 0 c).before 0 t d)) ∗ (∃ d, owns (c : Thread nD τ) (((cfgM m hO).win 1).stage ((cfgM m hO).slots t 1)) fullShare ((dats m hO 0 c).before 1 t d)) ∗ (∃ d, owns (c : Thread nD τ) (((cfgM m hO).win 2).stage ((cfgM m hO).slots t 2)) fullShare ((dats m hO 0 c).before 2 t d)) ∗ (∃ d, owns (c : Thread nD τ) (((cfgM m hO).win 3).stage ((cfgM m hO).slots t 3)) fullShare ((dats m hO 0 c).before 3 t d)) ∗ (∃ d, owns (c : Thread nD τ) (((cfgM m hO).win 4).stage ((cfgM m hO).slots t 4)) fullShare ((dats m hO 0 c).before 4 t d)) ∗ (∃ d, owns (c : Thread nD τ) (((cfgM m hO).win 5).stage ((cfgM m hO).slots t 5)) fullShare ((dats m hO 0 c).before 5 t d)) ∗ (∃ d, owns (c : Thread nD τ) (((cfgM m hO).win 6).stage ((cfgM m hO).slots t 6)) fullShare ((dats m hO 0 c).before 6 t d)) ∗ (∃ d, owns (c : Thread nD τ) (((cfgM m hO).win 7).stage ((cfgM m hO).slots t 7)) fullShare ((dats m hO 0 c).before 7 t d)) ∗ (∃ d, owns (c : Thread nD τ) (((cfgM m hO).win 8).stage ((cfgM m hO).slots t 8)) fullShare ((dats m hO 0 c).before 8 t d))) ⊢ wp Idealize.ShloMosaic.frame (wpE (defs₀ (F := F)) Variants.none c none) Set.univ (bodyAt m hO t) (fun _ => iprop((dats m hO 0 c).Φ t.succ ∗ (dats m hO 0 c).owesAt () t.succ ∗ leavesAt (dats m hO 0 c) 0 t ∗ leavesAt (dats m hO 0 c) 1 t ∗ leavesAt (dats m hO 0 c) 2 t ∗ leavesAt (dats m hO 0 c) 3 t ∗ leavesAt (dats m hO 0 c) 4 t ∗ leavesAt (dats m hO 0 c) 5 t ∗ leavesAt (dats m hO 0 c) 6 t ∗ leavesAt (dats m hO 0 c) 7 t ∗ leavesAt (dats m hO 0 c) 8 t)) :=
  (pre_all m hO c t).trans ((mid_all m hO c t).trans (wp_mono _ _ _ fun _ => post_all m hO c t))

/-- The body table's row at point `t`'s slots is the body there. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

attribute [local irreducible] leavesAt in
theorem body_obligation (hO : Ok m) (c : Dev nD) : BodyObligation (dats (F := F) m hO 0 c) (defs₀ (F := F)) Variants.none () Set.univ := by
  refine obligation_of _ fun t => ?_
  rw [bigSep_W0, bigSep_W0, defs₀_row m hO]
  exact sound_body m hO c t

end Cert.KernelIdeal.Body

end
-- ==== Proof.KernelIdeal.Frame.lean ====
/-
  The frame of the kernel: what the accumulator holds before each grid point, the body at any point of the
  grid, the launch, and the frame claim — the program terminates without fault, leaves its arguments unchanged
  and every semaphore at zero, whenever the tables it prefetches are admissible.
-/
module

public import proofs.«01_k».proof.Proof.KernelIdeal.Sound
public import proofs.«01_k».proof.Proof.KernelIdeal.Host

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernelRun
attribute [local irreducible] Good accAt outAt runAt

theorem hin (hO : Ok m) (c : Dev nD) : iprop(Pipeline.ΦA spec0 c ∗ Pipeline.ΦT pre0 (tbl m) c) ⊢ (dats m hO 0 c).Φ 0 := by
  rw [phi_zero]

/-- Before any point, and after the last, the invariant gives back what the launch handed it. -/
theorem Phi_out (hO : Ok m) (c : Dev nD) (n : ℕ) : Phi m hO c n ⊢ Pipeline.ΦA spec0 c := by
  cases n with
  | zero =>
    show iprop(Pipeline.ΦA spec0 c ∗ Pipeline.ΦT pre0 (tbl m) c) ⊢ _
    iintro ⟨H, -⟩
    iexact H
  | succ n =>
    show iprop(iprop(iprop((∃ f, pt c scH f) ∗ pt c scA (accAt m hO c (n + 1))) ∗ (∃ r, prngReg c r)) ∗ Pipeline.ΦT pre0 (tbl m) c) ⊢ _
    rw [PhiA_eq]
    iintro ⟨⟨⟨HH, HA⟩, Hg⟩, -⟩
    isplitl [HH HA]
    · isplitl [HH]
      · iexact HH
      iexists _; iexact HA
    iexact Hg

theorem hout (hO : Ok m) (c : Dev nD) : (dats m hO 0 c).Φ (Fin.last (cfgM m hO).N) ⊢ Pipeline.ΦA spec0 c := by
  rw [phi_last]; exact Phi_out m hO c _

set_option backward.isDefEq.respectTransparency.types false in
/-- The launch: every run ends with the pipeline's arrays at what the proof data says and every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The frame claim, under the tables' side condition: every run ends with the arguments unchanged and every
    semaphore at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  θ_run_and (frame_of m ρ hO (dats m hO) (A_eq m hO) (run_main m ρ hO)) ((θ_run defs _ _).mono (fun _ h => h.2) (run_main_quiescent m ρ hO))

end Cert.KernelIdeal.Body

end
-- ==== Proof.KernelIdeal.Tables.lean ====
/-
  The two prefetched tables — the number of experts in use and the list of them — as the host operations compute
  them, and that they keep every window's blocks inside its array.
-/
module

public import proofs.«01_k».proof.Proof.KernelIdeal.Host
public import proofs.«01_k».proof.Proof.Math.Elist
public import Idealize.ShloMosaic.Lib.StableHlo.ReadAt
public import Idealize.ShloMosaic.Lib.PairWhole

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.ShloMosaic.Routing (shape0 shape1 shape2)
open Cert.Elist

variable {F : FTy → Type} [FloatOps F]

variable (m : (ℓ : Loc nD τ sig) → Buf (Elt F) ℓ)

/-- The mask of the experts that some token chose. -/
def act : IVec S32 1 := (V m 0 main_v11 : (⟨S32, .i1⟩ : BufTy).Contents (Elt F))

theorem v13 : V m 0 main_v13 = Host.reduce IntOp.addi (extui 32 (act m) natLt_1_32) (constantI S_ 32 0#32) reducesTo_S32_S_d0 h_S_ := by
  unfold act V
  simp only [List.flatten_cons, List.flatten_nil, List.append_nil, List.cons_append, List.nil_append]
  after_reads_simp

/-- The matrix «expert `e` at place `j`» that the host sums. -/
def places (a : IVec S32 1) : IVec S32x32 32 :=
  select (andi (broadcastInDim S32x32 ![0,1] bcast_S32x1_S32x32_0_1 (broadcastInDim S32x1 ![0] bcast_S32_S32x1_0 a))
    (cmpi CmpIPredicate.eq
      (broadcastInDim S32x32 ![0,1] bcast_S32x1_S32x32_0_1 (broadcastInDim S32x1 ![0] bcast_S32_S32x1_0
        (subi (Host.reduceWindow IntOp.addi ![32] ![1] ![31] ![0] (extui 32 a natLt_1_32) (broadcastInDim S_ ![] bcast_S_S_ (constantI S_ 32 0#32)) reduceWindows_S32_S32_w32s1p31_0 h_S_)
          (broadcastInDim S32 ![] bcast_S_S32 (constantI S_ 32 1#32)))))
      (broadcastInDim S32x32 ![0,1] bcast_S1x32_S32x32_0_1 (broadcastInDim S1x32 ![1] bcast_S32_S1x32_1 (iotaInDim S32 32 0)))))
    (broadcastInDim S32x32 ![0,1] bcast_S32x1_S32x32_0_1 (broadcastInDim S32x1 ![0] bcast_S32_S32x1_0 (iotaInDim S32 32 0)))
    (broadcastInDim S32x32 ![] bcast_S_S32x32 (id (constantI S_ 32 0#32)))

theorem v29 (j : S32.Idx) : V m 0 main_v29 j = Host.reduce IntOp.addi (places (act m)) (constantI S_ 32 0#32) reducesTo_S32x32_S32_d0 h_S_ j := by
  unfold places act V
  simp only [List.flatten_cons, List.flatten_nil, List.append_nil, List.cons_append, List.nil_append]
  after_reads_at

attribute [local irreducible] StableHlo.after

/-- The index of a vector of 32, of a scalar, of a matrix of 32 by 32. -/
abbrev i1 (e : Fin 32) : S32.Idx := ValueIdx.ix1 e
abbrev i0 : S_.Idx := ValueIdx.ix0
abbrev i2 (e j : Fin 32) : S32x32.Idx := ValueIdx.ix2 e j

/-- A vector along the rows of the matrix reads its row's entry, -/
theorem rows_at {α : Type} (x : S32.Idx → α) (e j : Fin 32) :
    broadcastInDim S32x32 ![0,1] bcast_S32x1_S32x32_0_1 (broadcastInDim S32x1 ![0] bcast_S32_S32x1_0 x) (i2 e j) = x (i1 e) := by
  refine congrArg x (funext fun b => ?_)
  match b with
  | ⟨0, _⟩ => rfl

/-- and one along its columns its column's. -/
theorem cols_at {α : Type} (x : S32.Idx → α) (e j : Fin 32) :
    broadcastInDim S32x32 ![0,1] bcast_S1x32_S32x32_0_1 (broadcastInDim S1x32 ![1] bcast_S32_S1x32_1 x) (i2 e j) = x (i1 j) := by
  refine congrArg x (funext fun b => ?_)
  match b with
  | ⟨0, _⟩ => rfl

/-- An entry of a matrix built so, of its vectors' entries. -/
theorem entry_at (a : IVec S32 1) (x y z : IVec S32 32) (w : IVec S32x32 32) (e j : Fin 32) :
    select (andi (broadcastInDim S32x32 ![0,1] bcast_S32x1_S32x32_0_1 (broadcastInDim S32x1 ![0] bcast_S32_S32x1_0 a))
      (cmpi CmpIPredicate.eq (broadcastInDim S32x32 ![0,1] bcast_S32x1_S32x32_0_1 (broadcastInDim S32x1 ![0] bcast_S32_S32x1_0 x))
        (broadcastInDim S32x32 ![0,1] bcast_S1x32_S32x32_0_1 (broadcastInDim S1x32 ![1] bcast_S32_S1x32_1 y))))
      (broadcastInDim S32x32 ![0,1] bcast_S32x1_S32x32_0_1 (broadcastInDim S32x1 ![0] bcast_S32_S32x1_0 z)) w (i2 e j)
    = if a (i1 e) = 1#1 ∧ x (i1 e) = y (i1 j) then z (i1 e) else w (i2 e j) := by
  have ha := rows_at a e j
  have hx := rows_at x e j
  have hy := cols_at y e j
  have hz := rows_at z e j
  simp only [select, andi, cmpi]
  rw [ha, hx, hy, hz]
  have hd : (x (i1 e) == y (i1 j)) = decide (x (i1 e) = y (i1 j)) := rfl
  unfold IntOp.andi IntOp.cmpi Scalar.select
  rw [hd]
  rcases BitVec.eq_zero_or_eq_one (a (i1 e)) with h | h <;>
    by_cases hc : x (i1 e) = y (i1 j) <;>
    simp [h, hc]

open scoped Classical in
/-- The matrix holds `e` where expert `e` is at place `j`, zero elsewhere. -/
theorem places_at (a : IVec S32 1) (e j : Fin 32) : places a (i2 e j) = if At a e.val j.val then BitVec.ofNat 32 e.val else 0#32 := by
  have hrun := running a natLt_1_32 (broadcastInDim S_ ![] bcast_S_S_ (constantI S_ 32 0#32)) rfl reduceWindows_S32_S32_w32s1p31_0 h_S_ e
  unfold places
  rw [entry_at]
  refine if_congr ?_ rfl rfl
  rw [at_iff, ← hrun]
  rfl

theorem nact : (V m 0 main_v13 i0 : BitVec 32) = BitVec.ofNat 32 (rank (act m) 32) := by
  rw [v13]; exact nactive (act m) _ _ _

open scoped Classical in
theorem elist (j : Fin 32) : (V m 0 main_v29 (i1 j) : BitVec 32).toNat = ∑ e : Fin 32, if At (act m) e.val j.val then e.val else 0 := by
  rw [v29]; exact list_at (act m) _ (places_at (act m)) _ _ j

/-- How many experts are in use. -/
def nAct : Nat := rank (act m) 32

theorem nAct_le : nAct m ≤ 32 := rank_le _ _

/-- The table of the experts, and the number of points. -/
theorem tbl_list : tbl m 1 = (V m 0 main_v29 : S32.Idx → BitVec 32) := by unfold tbl; rfl
theorem tbl_num : tbl m 0 = (V m 0 main_v13 : S_.Idx → BitVec 32) := by unfold tbl; rfl

theorem bnd_of (pf : pre0.Contents (Elt F)) (f : S_.Idx → BitVec 32) (h : pf 0 = f) : dynb0 pf 0 = (f i0).toNat := by
  subst h
  unfold dynb0
  exact congrArg (fun i => BitVec.toNat (pf 0 i : BitVec 32)) (funext fun a => a.elim0)

theorem bnd_eq : dynb0 (tbl m) 0 = nAct m := by
  refine (bnd_of _ _ (tbl_num m)).trans ((congrArg BitVec.toNat (nact m)).trans ?_)
  rw [BitVec.toNat_ofNat]
  have := nAct_le m
  exact Nat.mod_eq_of_lt (by unfold nAct at this; omega)

theorem elist_lt (j : S32.Idx) : (V m 0 main_v29 j : BitVec 32).toNat < 32 := by
  have hj : j = i1 (j 0) := funext fun b => by match b with | ⟨0, _⟩ => rfl
  rw [hj]; exact lt_of_eq_of_lt (elist m (j 0)) (sum_lt _ _)

theorem coord_lt (i : (grid0.at (dynb0 (tbl m))).Coords) : (i 0).val < nAct m := by
  have h := (i 0).isLt
  rw [← bnd_eq]
  exact lt_of_lt_of_eq h (grid0.boundAt_of_dyn_true (b := dynb0 (tbl m)) (a := (0 : Fin 1)) rfl)

theorem list_lt (off : Fin 1 → Nat) : BitVec.toNat ((tbl m).atD 1 off : BitVec 32) < 32 := by
  unfold Pipeline.Prefetch.Contents.atD
  split
  · rw [tbl_list]; exact elist_lt m _
  · exact Nat.zero_lt_succ _

theorem admits : grid0.Admits (dynb0 (tbl m)) := by
  unfold Pipeline.Grid.Admits
  rw [gr_N, bnd_eq]
  have := nAct_le m
  omega

/-- One of 32 slabs is a block inside its array, of whole rows. -/
theorem block3 (p q : Nat) (e : EltTy) (n : Nat) (hn : n < 32) :
    ∃ h : (∀ a, ((![n, 0, 0] : Fin 3 → Nat) a + 1) * (⟨3, ![1, p, q]⟩ : Shape).size a ≤ (⟨3, ![32, p, q]⟩ : Shape).size a),
      e.bits = 32 ∨ (Rect.block (s := ⟨3, ![32, p, q]⟩) (⟨3, ![1, p, q]⟩ : Shape).size ![n, 0, 0] h).WholeWords e.packing := by
  refine ⟨fun a => ?_, .inr (Rect.WholeRows.wholeWords (Rect.wholeRows_unit (show 2 ≤ 3 by decide) ?_ ?_) _)⟩
  · match a with
    | ⟨0, _⟩ => show (n + 1) * 1 ≤ 32; omega
    | ⟨1, _⟩ => show (0 + 1) * p ≤ p; omega
    | ⟨2, _⟩ => show (0 + 1) * q ≤ q; omega
  · show 0 * p = 0; exact Nat.zero_mul p
  · rfl

/-- The whole of a matrix is a block inside it, of whole rows. -/
theorem block2 (p q : Nat) (e : EltTy) :
    ∃ h : (∀ a, ((![0, 0] : Fin 2 → Nat) a + 1) * (⟨2, ![p, q]⟩ : Shape).size a ≤ (⟨2, ![p, q]⟩ : Shape).size a),
      e.bits = 32 ∨ (Rect.block (s := ⟨2, ![p, q]⟩) (⟨2, ![p, q]⟩ : Shape).size ![0, 0] h).WholeWords e.packing := by
  refine ⟨fun a => ?_, .inr (Rect.WholeRows.wholeWords (Rect.wholeRows_unit (show 2 ≤ 2 by decide) ?_ ?_) _)⟩
  · match a with
    | ⟨0, _⟩ => show (0 + 1) * p ≤ p; omega
    | ⟨1, _⟩ => show (0 + 1) * q ≤ q; omega
  · show 0 * p = 0; exact Nat.zero_mul p
  · rfl

/-- The tables keep every block inside its array, whatever the arguments. -/
theorem ok : Ok m := by
  unfold Ok ok0
  refine ⟨admits m, fun i a => ?_, fun i => ?_, fun i => ?_, fun i => ?_, fun i => ?_, fun i => ?_, fun i => ?_, fun i => ?_, fun i => ?_, fun i => ?_⟩
  · have h := coord_lt m i
    have hle := nAct_le m
    match a with
    | ⟨0, _⟩ =>
      show (BitVec.ofNat 32 (i 0).val).toNat + 1 ≤ 32
      rw [BitVec.toNat_ofNat]
      have := Nat.mod_le (i 0).val (2 ^ 32)
      omega
  · exact block2 32 2816 .bf16
  · exact block2 32 256 .f32
  · exact block3 1408 4096 .i8 _ (list_lt m _)
  · exact block3 22 4096 .bf16 _ (list_lt m _)
  · exact block3 22 2048 .i8 _ (list_lt m _)
  · exact block3 1024 2816 .i8 _ (list_lt m _)
  · exact block3 16 2816 .bf16 _ (list_lt m _)
  · exact block3 16 1408 .i8 _ (list_lt m _)
  · exact block2 32 2816 .bf16

end Cert.KernelIdeal.Body
-- ==== Proof.Math.Mask.lean ====
/-
  The mask of the value claim: what it says of a token's expert ids.
-/
module

public import proofs.«01_k».proof.On_routed
public import Idealize.ShloMosaic.Lib.Pointwise
public import Idealize.ShloMosaic.Lib.Affine
public import Idealize.ShloMosaic.Lib.ReduceAll

@[expose] public section

set_option maxRecDepth 16384

noncomputable section
namespace Cert.On_routed
open Idealize.ShloMosaic Idealize.ShloMosaic.TcCoe Idealize.ShloMosaic.Tactic

/-- The side conditions the mask's operations state. -/
theorem facts : Facts where
  shapeCasts_S32x1x8_S32x8 := by decide
  bcast_S_S32x8 := by decide
  reducesTo_S32x8_S32_d1 := by decide
  h_S_ := by decide
  bcast_S8_S8x1_0 := by decide
  bcast_S8_S1x8_1 := by decide
  bcast_S8x1_S8x8_0_1 := by decide
  bcast_S1x8_S8x8_0_1 := by decide
  bcast_S32x8_S32x8x1_0_1 := by decide
  bcast_S32x8_S32x1x8_0_2 := by decide
  bcast_S32x8x1_S32x8x8_0_1_2 := by decide
  bcast_S32x1x8_S32x8x8_0_1_2 := by decide
  bcast_S8x8_S1x8x8_1_2 := by decide
  bcast_S1x8x8_S32x8x8_0_1_2 := by decide
  reducesTo_S32x8x8_S32_d1_2 := by decide
  bcast_S32_S32x1_0 := by decide
  bcast_S32x1_S32x2816_0_1 := by decide

variable [Facts]
open Facts

/-- Which ids are in range, -/
def inR (ids : IVec S32x1x8 32) : IVec S32x8 1 :=
  andi (cmpi .sge (shapeCast S32x8 ids shapeCasts_S32x1x8_S32x8) (broadcastInDim S32x8 ![] bcast_S_S32x8 (constantI S_ 32 0#32)))
    (cmpi .slt (shapeCast S32x8 ids shapeCasts_S32x1x8_S32x8) (broadcastInDim S32x8 ![] bcast_S_S32x8 (constantI S_ 32 32#32)))
/-- and which pairs of places do not name one expert twice. -/
def apart (ids : IVec S32x1x8 32) : IVec S32x8x8 1 :=
  noti (andi (cmpi .eq (broadcastInDim S32x8x8 ![0, 1, 2] bcast_S32x8x1_S32x8x8_0_1_2 (broadcastInDim S32x8x1 ![0, 1] bcast_S32x8_S32x8x1_0_1 (shapeCast S32x8 ids shapeCasts_S32x1x8_S32x8)))
      (broadcastInDim S32x8x8 ![0, 1, 2] bcast_S32x1x8_S32x8x8_0_1_2 (broadcastInDim S32x1x8 ![0, 2] bcast_S32x8_S32x1x8_0_2 (shapeCast S32x8 ids shapeCasts_S32x1x8_S32x8))))
    (broadcastInDim S32x8x8 ![0, 1, 2] bcast_S1x8x8_S32x8x8_0_1_2 (broadcastInDim S1x8x8 ![1, 2] bcast_S8x8_S1x8x8_1_2
      (cmpi .ne (broadcastInDim S8x8 ![0, 1] bcast_S8x1_S8x8_0_1 (broadcastInDim S8x1 ![0] bcast_S8_S8x1_0 (iotaInDim S8 32 0)))
        (broadcastInDim S8x8 ![0, 1] bcast_S1x8_S8x8_0_1 (broadcastInDim S1x8 ![1] bcast_S8_S1x8_1 (iotaInDim S8 32 0)))))))

theorem inR_at (ids : IVec S32x1x8 32) (t : Fin 32) (k : Fin 8) :
    inR ids (ix2 t k) = IntOp.andi (IntOp.cmpi .sge (ids (ix3 t 0 k)) 0#32) (IntOp.cmpi .slt (ids (ix3 t 0 k)) 32#32) := by
  unfold inR
  pointwise

theorem apart_at (ids : IVec S32x1x8 32) (t : Fin 32) (k l : Fin 8) :
    apart ids (ix3 t k l) = ~~~ (IntOp.andi (IntOp.cmpi .eq (ids (ix3 t 0 k)) (ids (ix3 t 0 l))) (IntOp.cmpi .ne (BitVec.ofNat 32 k.val) (BitVec.ofNat 32 l.val))) := by
  unfold apart
  pointwise

theorem mask_at (x0 : FVec Ideal S32x1x2816 .bf16) (ids : IVec S32x1x8 32) (x2 : FVec Ideal S32x1x8 .f32) (x3 : IVec S32x1408x4096 8) (x4 : FVec Ideal S32x22x4096 .bf16) (x5 : IVec S32x22x2048 8) (x6 : IVec S32x1024x2816 8) (x7 : FVec Ideal S32x16x2816 .bf16) (x8 : IVec S32x16x1408 8) (t : Fin 32) (n : Fin 2816) :
    fn (F := Ideal) x0 ids x2 x3 x4 x5 x6 x7 x8 (ix2 t n)
      = IntOp.andi (Host.reduce IntOp.andi (inR ids) (constantI S_ 1 1#1) reducesTo_S32x8_S32_d1 h_S_ (ValueIdx.ix1 t))
        (Host.reduce IntOp.andi (apart ids) (constantI S_ 1 1#1) reducesTo_S32x8x8_S32_d1_2 h_S_ (ValueIdx.ix1 t)) := by
  refine congrArg₂ IntOp.andi (congrArg _ ?_) (congrArg _ ?_)
  · funext a
    match a with
    | ⟨0, _⟩ => rfl
  · funext a
    match a with
    | ⟨0, _⟩ => rfl

theorem small_word (w : BitVec 32) (h0 : 0 ≤ w.toInt) (h1 : w.toInt < 32) : w.toNat < 32 := by
  rw [BitVec.toInt_eq_toNat_cond] at h0 h1
  have := w.isLt
  split at h0 <;> omega

/-- Where the mask is set, the token's ids are eight different experts. -/
theorem mask_ids (x0 : FVec Ideal S32x1x2816 .bf16) (ids : IVec S32x1x8 32) (x2 : FVec Ideal S32x1x8 .f32) (x3 : IVec S32x1408x4096 8) (x4 : FVec Ideal S32x22x4096 .bf16) (x5 : IVec S32x22x2048 8) (x6 : IVec S32x1024x2816 8) (x7 : FVec Ideal S32x16x2816 .bf16) (x8 : IVec S32x16x1408 8) (t : Fin 32) (n : Fin 2816)
    (h : fn (F := Ideal) x0 ids x2 x3 x4 x5 x6 x7 x8 (ix2 t n) = 1#1) :
    ∃ id : Fin 8 → Fin 32, Function.Injective id ∧ ∀ k, ids (ix3 t 0 k) = BitVec.ofNat 32 (id k).val := by
  rw [mask_at] at h
  obtain ⟨h1, h2⟩ := IntOp.andi_eq_one.mp h
  have a1 : ∀ k : Fin 8, (ids (ix3 t 0 k)).toNat < 32 := fun k => by
    have q := Host.reduce_andi_eq_one _ _ _ _ _ h1 (ix2 t k) (by funext a; match a with | ⟨0, _⟩ => rfl)
    rw [inR_at] at q
    obtain ⟨q0, q1⟩ := IntOp.andi_eq_one.mp q
    exact small_word _ (IntOp.cmpi_sge.mp q0) (IntOp.cmpi_slt.mp q1)
  refine ⟨fun k => ⟨(ids (ix3 t 0 k)).toNat, a1 k⟩, fun k l e => ?_, fun k => ?_⟩
  · have q := Host.reduce_andi_eq_one _ _ _ _ _ h2 (ix3 t k l) (by funext a; match a with | ⟨0, _⟩ => rfl)
    rw [apart_at] at q
    by_contra hne
    refine IntOp.not_eq_one.mp q (IntOp.andi_eq_one.mpr ⟨IntOp.cmpi_eq.mpr (BitVec.eq_of_toNat_eq (Fin.mk.inj e)), IntOp.cmpi_ne.mpr fun hh => hne (Fin.ext ?_)⟩)
    have := congrArg BitVec.toNat hh
    rw [BitVec.toNat_ofNat, BitVec.toNat_ofNat] at this
    have := k.isLt; have := l.isLt
    omega
  · show _ = BitVec.ofNat 32 (ids (ix3 t 0 k)).toNat
    rw [BitVec.ofNat_toNat, BitVec.setWidth_eq]

end Cert.On_routed
end
-- ==== Proof.KernelIdeal.Result.lean ====
/-
  The result array after the run: what the last grid point's body left in the output's buffer.
-/
module

public import proofs.«01_k».proof.Proof.KernelIdeal.Frame
public import Idealize.ShloMosaic.Lib.Pipeline.ValueKit.Geometry

@[expose] public section

set_option maxRecDepth 16384

noncomputable section
namespace Cert.KernelIdeal.Body
open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

attribute [local irreducible] StableHlo.after kernelRun runAt accAt outAt Good

/-- The output is written back once, whole, at the last point. -/
theorem whole_last (hO : Ok m) (s : Fin (cfgM m hO).N) (hl : s.val + 1 = (cfgM m hO).N) : ((cfgM m hO).win 8).WholeAt s := by
  refine ⟨(flush_iff m hO s).mpr hl, fun t h => Fin.ext ?_, fun a => ?_⟩
  · have := (flush_iff m hO t).mp h
    omega
  · match a with
    | ⟨0, _⟩ => exact ⟨rfl, rfl⟩
    | ⟨1, _⟩ => exact ⟨rfl, rfl⟩

/-- So the array ends as what the last point's body left. -/
theorem result (hO : Ok m) (c : Dev nD) (s : Fin (cfgM m hO).N) (hl : s.val + 1 = (cfgM m hO).N) :
    (dats m hO 0 c).arrAt 8 (cfgM m hO).N = (outAt m hO c s : S32x2816.Idx → F .bf16) := by
  refine Pipeline.Dat.arrAt_eq_of_after_last (dats m hO 0 c) 8 s (whole_last m hO s hl) _ (fun j => ?_) (Memref.isWhole_whole _)
  refine (congrFun (after_8 m hO c s) _).trans ?_
  rfl

end Cert.KernelIdeal.Body
end
-- ==== Proof.KernelIdeal.Clean.lean ====
/-
  The body's arithmetic in words of its own: a tile of weights from its codes, zeros and scales, a product of a block of the
  activations with it, the chains of such products, the hidden layer's block and the accumulator's.
-/
module

public import proofs.«01_k».proof.Proof.KernelIdeal.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- A tile's codes: each packed byte gives two rows, its low half and its high half. -/
def codes (p : Vec F S1x128x256 .i8) : FVec F S256x256 .bf16 := k0_pay3 p

/-- A row of zeros from the low halves of the packed ones, -/
def zLo (z : Vec F S1x1x256 .i8) : FVec F S1x256 .bf16 := k0_pay5 z

/-- and from the high halves. -/
def zHi (z : Vec F S1x1x256 .i8) : FVec F S1x256 .bf16 :=
  sitofp .bf16 (shrsi (extui 32 (shapeCast S1x256 z shapeCasts_S1x1x256_S1x256) natLt_8_32) (broadcast S1x256 4#32))

/-- The upper half of a tile of weights: codes less zeros, times scales; -/
def part0 (c : FVec F S256x256 .bf16) (z : FVec F S1x256 .bf16) (s : Vec F S1x1x256 .bf16) : FVec F S128x256 .bf16 :=
  mulf (subf (extractStridedSlice S128x256 ![0, 0] c slices_S256x256_o0_0_S128x256) (broadcastTo S128x256 z broadcasts_S1x256_S128x256))
    (broadcastTo S128x256 (shapeCast S1x256 s shapeCasts_S1x1x256_S1x256) broadcasts_S1x256_S128x256)

/-- the lower half; -/
def part1 (c : FVec F S256x256 .bf16) (z : FVec F S1x256 .bf16) (s : Vec F S1x1x256 .bf16) : FVec F S128x256 .bf16 :=
  mulf (subf (extractStridedSlice S128x256 ![128, 0] c slices_S256x256_o128_0_S128x256) (broadcastTo S128x256 z broadcasts_S1x256_S128x256))
    (broadcastTo S128x256 (shapeCast S1x256 s shapeCasts_S1x1x256_S1x256) broadcasts_S1x256_S128x256)

/-- the tile. -/
def tile (c : FVec F S256x256 .bf16) (z0 : FVec F S1x256 .bf16) (s0 : Vec F S1x1x256 .bf16) (z1 : FVec F S1x256 .bf16) (s1 : Vec F S1x1x256 .bf16) :
    FVec F S256x256 .bf16 :=
  concatenate S256x256 0 [⟨S128x256, part0 c z0 s0⟩, ⟨S128x256, part1 c z1 s1⟩] concatenates_S128x256_S128x256_S256x256_d0

/-- A block of activations times a tile. -/
def dot (x : FVec F S32x256 .bf16) (w : FVec F S256x256 .bf16) : FVec F S32x256 .f32 :=
  matmul dot_S32x256_S256x256_S32x256_1_0_0_1_n_n none x w (constant S32x256 .f32 0x00000000#32)

/-- The products of the first layer, summed from zero in order, -/
def chain11 (D : Fin 11 → FVec F S32x256 .f32) : FVec F S32x256 .f32 :=
  addf (addf (addf (addf (addf (addf (addf (addf (addf (addf (addf k0_pay2 (D 0)) (D 1)) (D 2)) (D 3)) (D 4)) (D 5)) (D 6)) (D 7)) (D 8)) (D 9)) (D 10)

/-- and of the second. -/
def chain8 (D : Fin 8 → FVec F S32x256 .f32) : FVec F S32x256 .f32 :=
  addf (addf (addf (addf (addf (addf (addf (addf k0_pay2 (D 0)) (D 1)) (D 2)) (D 3)) (D 4)) (D 5)) (D 6)) (D 7)

section
variable (c : Dev nD) (M2 : Memref sig .tc .vmem S32x2816 .bf16) (M4 : Memref sig .tc .vmem S1x1408x4096 .i8) (M5 : Memref sig .tc .vmem S1x22x4096 .bf16) (M6 : Memref sig .tc .vmem S1x22x2048 .i8)
  (f2 : Bf (F := F) c M2) (f4 : Bf (F := F) c M4) (f5 : Bf (F := F) c M5) (f6 : Bf (F := F) c M6)

/-- Columns of the activations. -/
def ldX (o : ℕ) (h : o + 256 ≤ 2816) : Vec F S32x256 .bf16 := View.readAt (Elt F) M2.view (Rect.unit ![0, o] S32x256.size (s := S32x2816) (fun a => by
  match a with
  | ⟨0, _⟩ => exact Nat.le_refl _
  | ⟨1, _⟩ => exact h)).toLoadRect f2
/-- A tile of the first layer's packed codes, -/
def ldP (r o : ℕ) (hr : r + 128 ≤ 1408) (h : o + 256 ≤ 4096) : Vec F S1x128x256 .i8 := View.readAt (Elt F) M4.view (Rect.unit ![0, r, o] S1x128x256.size (s := S1x1408x4096) (fun a => by
  match a with
  | ⟨0, _⟩ => exact Nat.le_refl _
  | ⟨1, _⟩ => exact hr
  | ⟨2, _⟩ => exact h)).toLoadRect f4
/-- of its scales -/
def ldS (r o : ℕ) (hr : r + 1 ≤ 22) (h : o + 256 ≤ 4096) : Vec F S1x1x256 .bf16 := View.readAt (Elt F) M5.view (Rect.unit ![0, r, o] S1x1x256.size (s := S1x22x4096) (fun a => by
  match a with
  | ⟨0, _⟩ => exact Nat.le_refl _
  | ⟨1, _⟩ => exact hr
  | ⟨2, _⟩ => exact h)).toLoadRect f5
/-- and of its packed zeros. -/
def ldZ (r o : ℕ) (hr : r + 1 ≤ 22) (h : o + 256 ≤ 2048) : Vec F S1x1x256 .i8 := View.readAt (Elt F) M6.view (Rect.unit ![0, r, o] S1x1x256.size (s := S1x22x2048) (fun a => by
  match a with
  | ⟨0, _⟩ => exact Nat.le_refl _
  | ⟨1, _⟩ => exact hr
  | ⟨2, _⟩ => exact h)).toLoadRect f6

theorem lt11 (k : Fin 11) : 256 * k.val + 256 ≤ 2816 := by have := k.isLt; omega
theorem lt11p (k : Fin 11) : 128 * k.val + 128 ≤ 1408 := by have := k.isLt; omega
theorem lt11a (k : Fin 11) : 2 * k.val + 1 ≤ 22 := by have := k.isLt; omega
theorem lt11b (k : Fin 11) : 2 * k.val + 1 + 1 ≤ 22 := by have := k.isLt; omega
theorem lt8 (j : Fin 8) : 256 * j.val + 256 ≤ 2048 := by have := j.isLt; omega
theorem lt8g (j : Fin 8) : 256 * j.val + 256 ≤ 4096 := by have := j.isLt; omega
theorem lt8u (j : Fin 8) : 2048 + 256 * j.val + 256 ≤ 4096 := by have := j.isLt; omega

/-- The gate's columns of block `j`, -/
def gateB (j : Fin 8) : FVec F S32x256 .f32 := chain11 fun k =>
  dot (shapeCast S32x256 (ldX c M2 f2 (256 * k.val) (lt11 k)) shapeCasts_S32x256_S32x256) (tile (codes (ldP c M4 f4 (128 * k.val) (256 * j.val) (lt11p k) (lt8g j)))
    (zLo (ldZ c M6 f6 (2 * k.val) (256 * j.val) (lt11a k) (lt8 j))) (ldS c M5 f5 (2 * k.val) (256 * j.val) (lt11a k) (lt8g j))
    (zLo (ldZ c M6 f6 (2 * k.val + 1) (256 * j.val) (lt11b k) (lt8 j))) (ldS c M5 f5 (2 * k.val + 1) (256 * j.val) (lt11b k) (lt8g j)))

/-- and the other factor's. -/
def upB (j : Fin 8) : FVec F S32x256 .f32 := chain11 fun k =>
  dot (shapeCast S32x256 (ldX c M2 f2 (256 * k.val) (lt11 k)) shapeCasts_S32x256_S32x256) (tile (codes (ldP c M4 f4 (128 * k.val) (2048 + 256 * j.val) (lt11p k) (lt8u j)))
    (zHi (ldZ c M6 f6 (2 * k.val) (256 * j.val) (lt11a k) (lt8 j))) (ldS c M5 f5 (2 * k.val) (2048 + 256 * j.val) (lt11a k) (lt8u j))
    (zHi (ldZ c M6 f6 (2 * k.val + 1) (256 * j.val) (lt11b k) (lt8 j))) (ldS c M5 f5 (2 * k.val + 1) (2048 + 256 * j.val) (lt11b k) (lt8u j)))

/-- Block `j` of the hidden layer. -/
def hidB (j : Fin 8) : FVec F S32x256 .bf16 :=
  shapeCast S32x256 (truncf .bf16 (mulf (mulf (gateB c M2 M4 M5 M6 f2 f4 f5 f6 j) (logistic (gateB c M2 M4 M5 M6 f2 f4 f5 f6 j))) (upB c M2 M4 M5 M6 f2 f4 f5 f6 j)) bitsLt_bf16_f32) shapeCasts_S32x256_S32x256
end

/-- A block of the accumulator: what stood there plus, where the token chose the expert, the product times the weight. -/
def accB (a : Vec F S32x256 .f32) (hit : IVec S32x1 1) (wt : FVec F S32x1 .f32) (y : FVec F S32x256 .f32) : FVec F S32x256 .f32 :=
  shapeCast S32x256 (addf a (select (broadcastTo S32x256 (shapeCast S32x1 hit shapeCasts_S32x1_S32x1) broadcasts_S32x1_S32x256)
    (mulf y (broadcastTo S32x256 wt broadcasts_S32x1_S32x256)) (broadcast S32x256 (Scalar.ofBits .f32 0x00000000#32)))) shapeCasts_S32x256_S32x256

/-- A sum of eight products of the hidden layer's blocks. -/
def down (h0 h1 h2 h3 h4 h5 h6 h7 : FVec F S32x256 .bf16) (w0 w1 w2 w3 w4 w5 w6 w7 : FVec F S256x256 .bf16) : FVec F S32x256 .f32 :=
  addf (addf (addf (addf (addf (addf (addf (addf k0_pay2 (dot h0 w0)) (dot h1 w1)) (dot h2 w2)) (dot h3 w3)) (dot h4 w4)) (dot h5 w5)) (dot h6 w6)) (dot h7 w7)

section
variable (c : Dev nD) (M7 : Memref sig .tc .vmem S1x1024x2816 .i8) (M8 : Memref sig .tc .vmem S1x16x2816 .bf16) (M9 : Memref sig .tc .vmem S1x16x1408 .i8)
  (f7 : Bf (F := F) c M7) (f8 : Bf (F := F) c M8) (f9 : Bf (F := F) c M9)

/-- A tile of the second layer's packed codes, -/
def ldP2 (r o : ℕ) (hr : r + 128 ≤ 1024) (h : o + 256 ≤ 2816) : Vec F S1x128x256 .i8 := View.readAt (Elt F) M7.view (Rect.unit ![0, r, o] S1x128x256.size (s := S1x1024x2816) (fun a => by
  match a with
  | ⟨0, _⟩ => exact Nat.le_refl _
  | ⟨1, _⟩ => exact hr
  | ⟨2, _⟩ => exact h)).toLoadRect f7
/-- of its scales -/
def ldS2 (r o : ℕ) (hr : r + 1 ≤ 16) (h : o + 256 ≤ 2816) : Vec F S1x1x256 .bf16 := View.readAt (Elt F) M8.view (Rect.unit ![0, r, o] S1x1x256.size (s := S1x16x2816) (fun a => by
  match a with
  | ⟨0, _⟩ => exact Nat.le_refl _
  | ⟨1, _⟩ => exact hr
  | ⟨2, _⟩ => exact h)).toLoadRect f8
/-- and of its packed zeros. -/
def ldZ2 (r o : ℕ) (hr : r + 1 ≤ 16) (h : o + 128 ≤ 1408) : Vec F S1x1x128 .i8 := View.readAt (Elt F) M9.view (Rect.unit ![0, r, o] S1x1x128.size (s := S1x16x1408) (fun a => by
  match a with
  | ⟨0, _⟩ => exact Nat.le_refl _
  | ⟨1, _⟩ => exact hr
  | ⟨2, _⟩ => exact h)).toLoadRect f9

/-- A group's zeros for the 128 columns from `128 p` on: the low halves of the packed ones in the first half of the columns, -/
def zLo2 (r p : ℕ) (hr : r + 1 ≤ 16) (h : 128 * p + 128 ≤ 1408) : IVec S1x128 32 :=
  andi (extui 32 (shapeCast S1x128 (ldZ2 c M9 f9 r (128 * p) hr h) shapeCasts_S1x1x128_S1x128) natLt_8_32) (broadcast S1x128 15#32)
/-- the high halves in the second. -/
def zHi2 (r p : ℕ) (hr : r + 1 ≤ 16) (h : 128 * p + 128 ≤ 1408) : IVec S1x128 32 :=
  shrsi (extui 32 (shapeCast S1x128 (ldZ2 c M9 f9 r (128 * p) hr h) shapeCasts_S1x1x128_S1x128) natLt_8_32) (broadcast S1x128 4#32)

/-- A group's zeros for two such runs of columns. -/
def z2 (a b : IVec S1x128 32) : FVec F S1x256 .bf16 := sitofp .bf16 (concatenate S1x256 1 [⟨S1x128, a⟩, ⟨S1x128, b⟩] concatenates_S1x128_S1x128_S1x256_d1)

/-- The second layer's tile of row block `k` in column block 0. -/
def tile2_0 (k : Fin 8) : FVec F S256x256 .bf16 := tile (codes (ldP2 c M7 f7 (128 * k.val) 0 (by have := k.isLt; omega) (by decide)))
  (z2 (zLo2 c M9 f9 (2 * k.val) 0 (by have := k.isLt; omega) (by decide)) (zLo2 c M9 f9 (2 * k.val) 1 (by have := k.isLt; omega) (by decide))) (ldS2 c M8 f8 (2 * k.val) 0 (by have := k.isLt; omega) (by decide))
  (z2 (zLo2 c M9 f9 (2 * k.val + 1) 0 (by have := k.isLt; omega) (by decide)) (zLo2 c M9 f9 (2 * k.val + 1) 1 (by have := k.isLt; omega) (by decide))) (ldS2 c M8 f8 (2 * k.val + 1) 0 (by have := k.isLt; omega) (by decide))

/-- The second layer's tile of row block `k` in column block 1. -/
def tile2_1 (k : Fin 8) : FVec F S256x256 .bf16 := tile (codes (ldP2 c M7 f7 (128 * k.val) 256 (by have := k.isLt; omega) (by decide)))
  (z2 (zLo2 c M9 f9 (2 * k.val) 2 (by have := k.isLt; omega) (by decide)) (zLo2 c M9 f9 (2 * k.val) 3 (by have := k.isLt; omega) (by decide))) (ldS2 c M8 f8 (2 * k.val) 256 (by have := k.isLt; omega) (by decide))
  (z2 (zLo2 c M9 f9 (2 * k.val + 1) 2 (by have := k.isLt; omega) (by decide)) (zLo2 c M9 f9 (2 * k.val + 1) 3 (by have := k.isLt; omega) (by decide))) (ldS2 c M8 f8 (2 * k.val + 1) 256 (by have := k.isLt; omega) (by decide))

/-- The second layer's tile of row block `k` in column block 2. -/
def tile2_2 (k : Fin 8) : FVec F S256x256 .bf16 := tile (codes (ldP2 c M7 f7 (128 * k.val) 512 (by have := k.isLt; omega) (by decide)))
  (z2 (zLo2 c M9 f9 (2 * k.val) 4 (by have := k.isLt; omega) (by decide)) (zLo2 c M9 f9 (2 * k.val) 5 (by have := k.isLt; omega) (by decide))) (ldS2 c M8 f8 (2 * k.val) 512 (by have := k.isLt; omega) (by decide))
  (z2 (zLo2 c M9 f9 (2 * k.val + 1) 4 (by have := k.isLt; omega) (by decide)) (zLo2 c M9 f9 (2 * k.val + 1) 5 (by have := k.isLt; omega) (by decide))) (ldS2 c M8 f8 (2 * k.val + 1) 512 (by have := k.isLt; omega) (by decide))

/-- The second layer's tile of row block `k` in column block 3. -/
def tile2_3 (k : Fin 8) : FVec F S256x256 .bf16 := tile (codes (ldP2 c M7 f7 (128 * k.val) 768 (by have := k.isLt; omega) (by decide)))
  (z2 (zLo2 c M9 f9 (2 * k.val) 6 (by have := k.isLt; omega) (by decide)) (zLo2 c M9 f9 (2 * k.val) 7 (by have := k.isLt; omega) (by decide))) (ldS2 c M8 f8 (2 * k.val) 768 (by have := k.isLt; omega) (by decide))
  (z2 (zLo2 c M9 f9 (2 * k.val + 1) 6 (by have := k.isLt; omega) (by decide)) (zLo2 c M9 f9 (2 * k.val + 1) 7 (by have := k.isLt; omega) (by decide))) (ldS2 c M8 f8 (2 * k.val + 1) 768 (by have := k.isLt; omega) (by decide))

/-- The second layer's tile of row block `k` in column block 4. -/
def tile2_4 (k : Fin 8) : FVec F S256x256 .bf16 := tile (codes (ldP2 c M7 f7 (128 * k.val) 1024 (by have := k.isLt; omega) (by decide)))
  (z2 (zLo2 c M9 f9 (2 * k.val) 8 (by have := k.isLt; omega) (by decide)) (zLo2 c M9 f9 (2 * k.val) 9 (by have := k.isLt; omega) (by decide))) (ldS2 c M8 f8 (2 * k.val) 1024 (by have := k.isLt; omega) (by decide))
  (z2 (zLo2 c M9 f9 (2 * k.val + 1) 8 (by have := k.isLt; omega) (by decide)) (zLo2 c M9 f9 (2 * k.val + 1) 9 (by have := k.isLt; omega) (by decide))) (ldS2 c M8 f8 (2 * k.val + 1) 1024 (by have := k.isLt; omega) (by decide))

/-- The second layer's tile of row block `k` in column block 5. -/
def tile2_5 (k : Fin 8) : FVec F S256x256 .bf16 := tile (codes (ldP2 c M7 f7 (128 * k.val) 1280 (by have := k.isLt; omega) (by decide)))
  (z2 (zLo2 c M9 f9 (2 * k.val) 10 (by have := k.isLt; omega) (by decide)) (zHi2 c M9 f9 (2 * k.val) 0 (by have := k.isLt; omega) (by decide))) (ldS2 c M8 f8 (2 * k.val) 1280 (by have := k.isLt; omega) (by decide))
  (z2 (zLo2 c M9 f9 (2 * k.val + 1) 10 (by have := k.isLt; omega) (by decide)) (zHi2 c M9 f9 (2 * k.val + 1) 0 (by have := k.isLt; omega) (by decide))) (ldS2 c M8 f8 (2 * k.val + 1) 1280 (by have := k.isLt; omega) (by decide))

/-- The second layer's tile of row block `k` in column block 6. -/
def tile2_6 (k : Fin 8) : FVec F S256x256 .bf16 := tile (codes (ldP2 c M7 f7 (128 * k.val) 1536 (by have := k.isLt; omega) (by decide)))
  (z2 (zHi2 c M9 f9 (2 * k.val) 1 (by have := k.isLt; omega) (by decide)) (zHi2 c M9 f9 (2 * k.val) 2 (by have := k.isLt; omega) (by decide))) (ldS2 c M8 f8 (2 * k.val) 1536 (by have := k.isLt; omega) (by decide))
  (z2 (zHi2 c M9 f9 (2 * k.val + 1) 1 (by have := k.isLt; omega) (by decide)) (zHi2 c M9 f9 (2 * k.val + 1) 2 (by have := k.isLt; omega) (by decide))) (ldS2 c M8 f8 (2 * k.val + 1) 1536 (by have := k.isLt; omega) (by decide))

/-- The second layer's tile of row block `k` in column block 7. -/
def tile2_7 (k : Fin 8) : FVec F S256x256 .bf16 := tile (codes (ldP2 c M7 f7 (128 * k.val) 1792 (by have := k.isLt; omega) (by decide)))
  (z2 (zHi2 c M9 f9 (2 * k.val) 3 (by have := k.isLt; omega) (by decide)) (zHi2 c M9 f9 (2 * k.val) 4 (by have := k.isLt; omega) (by decide))) (ldS2 c M8 f8 (2 * k.val) 1792 (by have := k.isLt; omega) (by decide))
  (z2 (zHi2 c M9 f9 (2 * k.val + 1) 3 (by have := k.isLt; omega) (by decide)) (zHi2 c M9 f9 (2 * k.val + 1) 4 (by have := k.isLt; omega) (by decide))) (ldS2 c M8 f8 (2 * k.val + 1) 1792 (by have := k.isLt; omega) (by decide))

/-- The second layer's tile of row block `k` in column block 8. -/
def tile2_8 (k : Fin 8) : FVec F S256x256 .bf16 := tile (codes (ldP2 c M7 f7 (128 * k.val) 2048 (by have := k.isLt; omega) (by decide)))
  (z2 (zHi2 c M9 f9 (2 * k.val) 5 (by have := k.isLt; omega) (by decide)) (zHi2 c M9 f9 (2 * k.val) 6 (by have := k.isLt; omega) (by decide))) (ldS2 c M8 f8 (2 * k.val) 2048 (by have := k.isLt; omega) (by decide))
  (z2 (zHi2 c M9 f9 (2 * k.val + 1) 5 (by have := k.isLt; omega) (by decide)) (zHi2 c M9 f9 (2 * k.val + 1) 6 (by have := k.isLt; omega) (by decide))) (ldS2 c M8 f8 (2 * k.val + 1) 2048 (by have := k.isLt; omega) (by decide))

/-- The second layer's tile of row block `k` in column block 9. -/
def tile2_9 (k : Fin 8) : FVec F S256x256 .bf16 := tile (codes (ldP2 c M7 f7 (128 * k.val) 2304 (by have := k.isLt; omega) (by decide)))
  (z2 (zHi2 c M9 f9 (2 * k.val) 7 (by have := k.isLt; omega) (by decide)) (zHi2 c M9 f9 (2 * k.val) 8 (by have := k.isLt; omega) (by decide))) (ldS2 c M8 f8 (2 * k.val) 2304 (by have := k.isLt; omega) (by decide))
  (z2 (zHi2 c M9 f9 (2 * k.val + 1) 7 (by have := k.isLt; omega) (by decide)) (zHi2 c M9 f9 (2 * k.val + 1) 8 (by have := k.isLt; omega) (by decide))) (ldS2 c M8 f8 (2 * k.val + 1) 2304 (by have := k.isLt; omega) (by decide))

/-- The second layer's tile of row block `k` in column block 10. -/
def tile2_10 (k : Fin 8) : FVec F S256x256 .bf16 := tile (codes (ldP2 c M7 f7 (128 * k.val) 2560 (by have := k.isLt; omega) (by decide)))
  (z2 (zHi2 c M9 f9 (2 * k.val) 9 (by have := k.isLt; omega) (by decide)) (zHi2 c M9 f9 (2 * k.val) 10 (by have := k.isLt; omega) (by decide))) (ldS2 c M8 f8 (2 * k.val) 2560 (by have := k.isLt; omega) (by decide))
  (z2 (zHi2 c M9 f9 (2 * k.val + 1) 9 (by have := k.isLt; omega) (by decide)) (zHi2 c M9 f9 (2 * k.val + 1) 10 (by have := k.isLt; omega) (by decide))) (ldS2 c M8 f8 (2 * k.val + 1) 2560 (by have := k.isLt; omega) (by decide))
end

end Cert.KernelIdeal.Body

end
-- ==== Proof.Math.Spec.lean ====
/-
  The routed layer said by its elements: the weights from their packed codes, the hidden layer, the product, and how
  sums over blocks and over even and odd rows make one sum.
-/
module

public import Idealize.ShloMosaic.Lib.Pointwise

@[expose] public section

noncomputable section

namespace Cert.Spec

open Idealize.ShloMosaic Idealize.ShloMosaic.TcCoe Idealize.ShloMosaic.Tactic

/-- A byte's low half as a word, -/
def lo (b : BitVec 8) : BitVec 32 := IntOp.andi (BitVec.setWidth 32 b) 15#32
/-- its high half, -/
def hi (b : BitVec 8) : BitVec 32 := IntOp.shrsi .vector (BitVec.setWidth 32 b) 4#32
/-- the half for row `k`: low for an even row. -/
def nb (k : ℕ) (b : BitVec 8) : BitVec 32 := if k % 2 < 1 then lo b else hi b
/-- A word as a number. -/
def i2f (w : BitVec 32) : EReal := FloatOps.sitofp (F := Ideal) .bf16 w

/-- A matrix's element, zero outside; -/
def e2 {a b : ℕ} (v : (⟨2, ![a, b]⟩ : Shape).Idx → EReal) (i j : ℕ) : EReal :=
  if h : i < a ∧ j < b then v (ix2 ⟨i, h.1⟩ ⟨j, h.2⟩) else 0
/-- a stack's; -/
def e3 {a b c : ℕ} (v : (⟨3, ![a, b, c]⟩ : Shape).Idx → EReal) (e i j : ℕ) : EReal :=
  if h : e < a ∧ i < b ∧ j < c then v (ix3 ⟨e, h.1⟩ ⟨i, h.2.1⟩ ⟨j, h.2.2⟩) else 0
/-- a stack of bytes'. -/
def b3 {a b c : ℕ} (v : (⟨3, ![a, b, c]⟩ : Shape).Idx → BitVec 8) (e i j : ℕ) : BitVec 8 :=
  if h : e < a ∧ i < b ∧ j < c then v (ix3 ⟨e, h.1⟩ ⟨i, h.2.1⟩ ⟨j, h.2.2⟩) else 0#8

theorem e2_eq {a b : ℕ} (v : (⟨2, ![a, b]⟩ : Shape).Idx → EReal) (i j : ℕ) (hi : i < a) (hj : j < b) : e2 v i j = v (ix2 ⟨i, hi⟩ ⟨j, hj⟩) :=
  dif_pos ⟨hi, hj⟩
theorem e3_eq {a b c : ℕ} (v : (⟨3, ![a, b, c]⟩ : Shape).Idx → EReal) (e i j : ℕ) (he : e < a) (hi : i < b) (hj : j < c) :
    e3 v e i j = v (ix3 ⟨e, he⟩ ⟨i, hi⟩ ⟨j, hj⟩) := dif_pos ⟨he, hi, hj⟩
theorem b3_eq {a b c : ℕ} (v : (⟨3, ![a, b, c]⟩ : Shape).Idx → BitVec 8) (e i j : ℕ) (he : e < a) (hi : i < b) (hj : j < c) :
    b3 v e i j = v (ix3 ⟨e, he⟩ ⟨i, hi⟩ ⟨j, hj⟩) := dif_pos ⟨he, hi, hj⟩

/-- The zeros: low halves in the first half of the columns, high halves in the second. -/
def zb (half : ℕ) (Z : ℕ → ℕ → BitVec 8) (g n : ℕ) : BitVec 32 := if n < half then lo (Z g n) else hi (Z g (n - half))

/-- A weight: its code less its group's zero, times its group's scale. -/
def wgt (half : ℕ) (P : ℕ → ℕ → BitVec 8) (Z : ℕ → ℕ → BitVec 8) (S : ℕ → ℕ → EReal) (k n : ℕ) : EReal :=
  (i2f (nb k (P (k / 2) n)) - i2f (zb half Z (k / 128) n)) * S (k / 128) n

/-- The first layer's product, -/
def gu (X : ℕ → EReal) (W : ℕ → ℕ → EReal) (n : ℕ) : EReal := ∑ k ∈ Finset.range 2816, X k * W k n
/-- the hidden layer, -/
def hh (X : ℕ → EReal) (W : ℕ → ℕ → EReal) (f : ℕ) : EReal := gu X W f * Ideal.logistic (gu X W f) * gu X W (2048 + f)
/-- and an expert's output. -/
def yy (X : ℕ → EReal) (W W2 : ℕ → ℕ → EReal) (n : ℕ) : EReal := ∑ f ∈ Finset.range 2048, hh X W f * W2 f n

theorem blk (g : ℕ → EReal) (n : ℕ) : ∑ k ∈ Finset.range (n + 256), g k = ∑ k ∈ Finset.range n, g k + ∑ b : Fin 256, g (n + b.val) := by
  rw [Finset.sum_range_add, Finset.sum_range (fun b => g (n + b))]

theorem first256 (g : ℕ → EReal) : ∑ k ∈ Finset.range 256, g k = ∑ b : Fin 256, g (256 * 0 + b.val) := by
  rw [Finset.sum_range]; simp only [Nat.mul_zero, Nat.zero_add]

/-- Eleven blocks' sums are the sum over all the rows, -/
theorem sum11 (g : ℕ → EReal) : (∑ b : Fin 256, g (256 * 0 + b.val)) + (∑ b : Fin 256, g (256 * 1 + b.val)) + (∑ b : Fin 256, g (256 * 2 + b.val)) + (∑ b : Fin 256, g (256 * 3 + b.val)) + (∑ b : Fin 256, g (256 * 4 + b.val)) + (∑ b : Fin 256, g (256 * 5 + b.val)) + (∑ b : Fin 256, g (256 * 6 + b.val)) + (∑ b : Fin 256, g (256 * 7 + b.val)) + (∑ b : Fin 256, g (256 * 8 + b.val)) + (∑ b : Fin 256, g (256 * 9 + b.val)) + (∑ b : Fin 256, g (256 * 10 + b.val)) = ∑ k ∈ Finset.range 2816, g k := by
  rw [show (2816 : ℕ) = 2560 + 256 from rfl, blk g 2560, show (2560 : ℕ) = 2304 + 256 from rfl, blk g 2304, show (2304 : ℕ) = 2048 + 256 from rfl, blk g 2048, show (2048 : ℕ) = 1792 + 256 from rfl, blk g 1792, show (1792 : ℕ) = 1536 + 256 from rfl, blk g 1536, show (1536 : ℕ) = 1280 + 256 from rfl, blk g 1280, show (1280 : ℕ) = 1024 + 256 from rfl, blk g 1024, show (1024 : ℕ) = 768 + 256 from rfl, blk g 768, show (768 : ℕ) = 512 + 256 from rfl, blk g 512, show (512 : ℕ) = 256 + 256 from rfl, blk g 256, first256]

/-- and eight blocks'. -/
theorem sum8 (g : ℕ → EReal) : (∑ b : Fin 256, g (256 * 0 + b.val)) + (∑ b : Fin 256, g (256 * 1 + b.val)) + (∑ b : Fin 256, g (256 * 2 + b.val)) + (∑ b : Fin 256, g (256 * 3 + b.val)) + (∑ b : Fin 256, g (256 * 4 + b.val)) + (∑ b : Fin 256, g (256 * 5 + b.val)) + (∑ b : Fin 256, g (256 * 6 + b.val)) + (∑ b : Fin 256, g (256 * 7 + b.val)) = ∑ k ∈ Finset.range 2048, g k := by
  rw [show (2048 : ℕ) = 1792 + 256 from rfl, blk g 1792, show (1792 : ℕ) = 1536 + 256 from rfl, blk g 1536, show (1536 : ℕ) = 1280 + 256 from rfl, blk g 1280, show (1280 : ℕ) = 1024 + 256 from rfl, blk g 1024, show (1024 : ℕ) = 768 + 256 from rfl, blk g 768, show (768 : ℕ) = 512 + 256 from rfl, blk g 512, show (512 : ℕ) = 256 + 256 from rfl, blk g 256, first256]

/-- The sums over even and over odd rows make the sum over all. -/
theorem even_odd (g : ℕ → EReal) (n : ℕ) : ∑ k ∈ Finset.range (2 * n), g k = ∑ i : Fin n, g (2 * i.val) + ∑ i : Fin n, g (2 * i.val + 1) := by
  rw [← Finset.sum_range (fun i => g (2 * i)), ← Finset.sum_range (fun i => g (2 * i + 1))]
  induction n with
  | zero => simp
  | succ n ih =>
    rw [show 2 * (n + 1) = 2 * n + 1 + 1 from rfl, Finset.sum_range_succ, Finset.sum_range_succ, ih, Finset.sum_range_succ, Finset.sum_range_succ]
    ac_rfl

end Cert.Spec

end
-- ==== Proof.KernelIdeal.Read.lean ====
/-
  The body's blocks read at an element.
-/
module

public import proofs.«01_k».proof.Proof.KernelIdeal.Clean
public import proofs.«01_k».proof.Proof.Math.Spec

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

/-- A code is the half of its byte that its row takes. -/
theorem codes_at (p : Vec Ideal S1x128x256 .i8) (k n : Fin 256) :
    codes (F := Ideal) p (ix2 k n) = i2f (nb k.val (p (ix3 0 ⟨k.val / 2, by have := k.isLt; omega⟩ n))) := by
  unfold codes k0_pay3 nb lo hi i2f
  pointwise
  rfl

theorem zLo_at (z : Vec Ideal S1x1x256 .i8) (n : Fin 256) : zLo (F := Ideal) z (ix2 0 n) = i2f (lo (z (ix3 0 0 n))) := by
  unfold zLo k0_pay5 lo i2f
  pointwise
theorem zHi_at (z : Vec Ideal S1x1x256 .i8) (n : Fin 256) : zHi (F := Ideal) z (ix2 0 n) = i2f (hi (z (ix3 0 0 n))) := by
  unfold zHi hi i2f
  pointwise

/-- A tile's element: of its first group, -/
theorem tile_lt (c : FVec Ideal S256x256 .bf16) (z0 : FVec Ideal S1x256 .bf16) (s0 : Vec Ideal S1x1x256 .bf16) (z1 : FVec Ideal S1x256 .bf16) (s1 : Vec Ideal S1x1x256 .bf16) (k n : Fin 256)
    (h : k.val < 128) : tile c z0 s0 z1 s1 (ix2 k n) = (c (ix2 k n) - z0 (ix2 0 n)) * s0 (ix3 0 0 n) := by
  unfold tile part0 part1
  pointwise
  exact dif_pos h

/-- or of its second. -/
theorem tile_ge (c : FVec Ideal S256x256 .bf16) (z0 : FVec Ideal S1x256 .bf16) (s0 : Vec Ideal S1x1x256 .bf16) (z1 : FVec Ideal S1x256 .bf16) (s1 : Vec Ideal S1x1x256 .bf16) (k n : Fin 256)
    (h : ¬ k.val < 128) : tile c z0 s0 z1 s1 (ix2 k n) = (c (ix2 k n) - z1 (ix2 0 n)) * s1 (ix3 0 0 n) := by
  unfold tile part0 part1
  pointwise
  rw [dif_neg h]
  have e : (⟨128 + (k.val - 128), by have := k.isLt; omega⟩ : Fin 256) = k := Fin.ext (show 128 + (k.val - 128) = k.val by omega)
  exact congrArg (fun q => (c (ix2 q n) - z1 (ix2 0 n)) * s1 (ix3 0 0 n)) e

theorem dot_at (x : FVec Ideal S32x256 .bf16) (w : FVec Ideal S256x256 .bf16) (t : Fin 32) (n : Fin 256) :
    dot (F := Ideal) x w (ix2 t n) = ∑ k : Fin 256, x (ix2 t k) * w (ix2 k n) := by
  unfold dot
  pointwise

theorem chain11_at (D : Fin 11 → FVec Ideal S32x256 .f32) (t : Fin 32) (n : Fin 256) : chain11 D (ix2 t n) =
    D 0 (ix2 t n) + D 1 (ix2 t n) + D 2 (ix2 t n) + D 3 (ix2 t n) + D 4 (ix2 t n) + D 5 (ix2 t n) + D 6 (ix2 t n) + D 7 (ix2 t n) + D 8 (ix2 t n) + D 9 (ix2 t n) + D 10 (ix2 t n) := by
  unfold chain11 k0_pay2
  pointwise

theorem chain11_sum (D : Fin 11 → FVec Ideal S32x256 .f32) (t : Fin 32) (n : Fin 256) (g : ℕ → EReal) (h : ∀ k : Fin 11, D k (ix2 t n) = ∑ b : Fin 256, g (256 * k.val + b.val)) :
    chain11 D (ix2 t n) = ∑ k ∈ Finset.range 2816, g k := by
  rw [chain11_at, h, h, h, h, h, h, h, h, h, h, h]
  exact sum11 g

theorem down_at (h0 h1 h2 h3 h4 h5 h6 h7 : FVec Ideal S32x256 .bf16) (w0 w1 w2 w3 w4 w5 w6 w7 : FVec Ideal S256x256 .bf16) (t : Fin 32) (n : Fin 256) :
    down h0 h1 h2 h3 h4 h5 h6 h7 w0 w1 w2 w3 w4 w5 w6 w7 (ix2 t n) =
    dot h0 w0 (ix2 t n) + dot h1 w1 (ix2 t n) + dot h2 w2 (ix2 t n) + dot h3 w3 (ix2 t n) + dot h4 w4 (ix2 t n) + dot h5 w5 (ix2 t n) + dot h6 w6 (ix2 t n) + dot h7 w7 (ix2 t n) := by
  unfold down k0_pay2
  pointwise

theorem accB_at (a : Vec Ideal S32x256 .f32) (hit : IVec S32x1 1) (wt : FVec Ideal S32x1 .f32) (y : FVec Ideal S32x256 .f32) (t : Fin 32) (n : Fin 256) :
    accB a hit wt y (ix2 t n) = a (ix2 t n) + Scalar.select (hit (ix2 t 0)) (y (ix2 t n) * wt (ix2 t 0)) (0 : EReal) := by
  unfold accB
  pointwise

section
variable (c : Dev nD) (M2 : Memref sig .tc .vmem S32x2816 .bf16) (M4 : Memref sig .tc .vmem S1x1408x4096 .i8) (M5 : Memref sig .tc .vmem S1x22x4096 .bf16) (M6 : Memref sig .tc .vmem S1x22x2048 .i8)
  (f2 : Bf (F := Ideal) c M2) (f4 : Bf (F := Ideal) c M4) (f5 : Bf (F := Ideal) c M5) (f6 : Bf (F := Ideal) c M6)

/-- What a window's buffer holds, by its elements: the activations, -/
def rX : ℕ → ℕ → EReal := e2 (a := 32) (b := 2816) (M2.view.read (Elt Ideal) f2)
/-- the first layer's codes, scales and zeros. -/
def rP : ℕ → ℕ → BitVec 8 := b3 (a := 1) (b := 1408) (c := 4096) (M4.view.read (Elt Ideal) f4) 0
def rS : ℕ → ℕ → EReal := e3 (a := 1) (b := 22) (c := 4096) (M5.view.read (Elt Ideal) f5) 0
def rZ : ℕ → ℕ → BitVec 8 := b3 (a := 1) (b := 22) (c := 2048) (M6.view.read (Elt Ideal) f6) 0

theorem ldX_at (o : ℕ) (h : o + 256 ≤ 2816) (t : Fin 32) (k : Fin 256) : ldX c M2 f2 o h (ix2 t k) = rX c M2 f2 t.val (o + k.val) := by
  unfold ldX rX
  rw [e2_eq _ _ _ t.isLt (by have := k.isLt; omega), View.readAt_eq_ld]
  pointwise
theorem ldP_at (r o : ℕ) (hr : r + 128 ≤ 1408) (h : o + 256 ≤ 4096) (i : Fin 128) (n : Fin 256) : ldP c M4 f4 r o hr h (ix3 0 i n) = rP c M4 f4 (r + i.val) (o + n.val) := by
  unfold ldP rP
  rw [b3_eq _ _ _ _ (by decide) (by have := i.isLt; omega) (by have := n.isLt; omega), View.readAt_eq_ld]
  pointwise
theorem ldS_at (r o : ℕ) (hr : r + 1 ≤ 22) (h : o + 256 ≤ 4096) (n : Fin 256) : ldS c M5 f5 r o hr h (ix3 0 0 n) = rS c M5 f5 r (o + n.val) := by
  unfold ldS rS
  rw [e3_eq _ _ _ _ (by decide) (by omega) (by have := n.isLt; omega), View.readAt_eq_ld]
  pointwise
theorem ldZ_at (r o : ℕ) (hr : r + 1 ≤ 22) (h : o + 256 ≤ 2048) (n : Fin 256) : ldZ c M6 f6 r o hr h (ix3 0 0 n) = rZ c M6 f6 r (o + n.val) := by
  unfold ldZ rZ
  rw [b3_eq _ _ _ _ (by decide) (by omega) (by have := n.isLt; omega), View.readAt_eq_ld]
  pointwise

/-- The first layer's weights as the windows hold them. -/
def rW : ℕ → ℕ → EReal := wgt 2048 (rP c M4 f4) (rZ c M6 f6) (rS c M5 f5)

theorem tileG_at (j : Fin 8) (k : Fin 11) (i n : Fin 256) : (tile (codes (ldP c M4 f4 (128 * k.val) (256 * j.val) (lt11p k) (lt8g j)))
    (zLo (ldZ c M6 f6 (2 * k.val) (256 * j.val) (lt11a k) (lt8 j))) (ldS c M5 f5 (2 * k.val) (256 * j.val) (lt11a k) (lt8g j))
    (zLo (ldZ c M6 f6 (2 * k.val + 1) (256 * j.val) (lt11b k) (lt8 j))) (ldS c M5 f5 (2 * k.val + 1) (256 * j.val) (lt11b k) (lt8g j))) (ix2 i n)
    = rW c M4 M5 M6 f4 f5 f6 (256 * k.val + i.val) (256 * j.val + n.val) := by
  have hj := j.isLt
  have hi := i.isLt
  have hn := n.isLt
  have e1 : (256 * k.val + i.val) / 2 = 128 * k.val + i.val / 2 := by omega
  have e2 : nb (256 * k.val + i.val) = nb i.val := by
    funext b; unfold nb; rw [show (256 * k.val + i.val) % 2 = i.val % 2 by omega]
  have e3 : ∀ g, zb 2048 (rZ c M6 f6) g (256 * j.val + n.val) = lo (rZ c M6 f6 g (256 * j.val + n.val)) := fun g => if_pos (by omega)
  unfold rW wgt
  rw [e1, e2, e3]
  by_cases h : i.val < 128
  · rw [tile_lt _ _ _ _ _ _ _ h, codes_at, ldP_at, zLo_at, ldZ_at, ldS_at, show (256 * k.val + i.val) / 128 = 2 * k.val by omega]
  · rw [tile_ge _ _ _ _ _ _ _ h, codes_at, ldP_at, zLo_at, ldZ_at, ldS_at, show (256 * k.val + i.val) / 128 = 2 * k.val + 1 by omega]

theorem tileU_at (j : Fin 8) (k : Fin 11) (i n : Fin 256) : (tile (codes (ldP c M4 f4 (128 * k.val) (2048 + 256 * j.val) (lt11p k) (lt8u j)))
    (zHi (ldZ c M6 f6 (2 * k.val) (256 * j.val) (lt11a k) (lt8 j))) (ldS c M5 f5 (2 * k.val) (2048 + 256 * j.val) (lt11a k) (lt8u j))
    (zHi (ldZ c M6 f6 (2 * k.val + 1) (256 * j.val) (lt11b k) (lt8 j))) (ldS c M5 f5 (2 * k.val + 1) (2048 + 256 * j.val) (lt11b k) (lt8u j))) (ix2 i n)
    = rW c M4 M5 M6 f4 f5 f6 (256 * k.val + i.val) (2048 + (256 * j.val + n.val)) := by
  have hj := j.isLt
  have hi := i.isLt
  have hn := n.isLt
  have e1 : (256 * k.val + i.val) / 2 = 128 * k.val + i.val / 2 := by omega
  have e2 : nb (256 * k.val + i.val) = nb i.val := by
    funext b; unfold nb; rw [show (256 * k.val + i.val) % 2 = i.val % 2 by omega]
  have e3 : ∀ g, zb 2048 (rZ c M6 f6) g (2048 + (256 * j.val + n.val)) = Cert.Spec.hi (rZ c M6 f6 g (256 * j.val + n.val)) := fun g => by
    unfold zb; rw [if_neg (by omega), show 2048 + (256 * j.val + n.val) - 2048 = 256 * j.val + n.val by omega]
  have e4 : 2048 + (256 * j.val + n.val) = 2048 + 256 * j.val + n.val := by omega
  unfold rW wgt
  rw [e1, e2, e3, e4]
  by_cases h : i.val < 128
  · rw [tile_lt _ _ _ _ _ _ _ h, codes_at, ldP_at, zHi_at, ldZ_at, ldS_at, show (256 * k.val + i.val) / 128 = 2 * k.val by omega]
  · rw [tile_ge _ _ _ _ _ _ _ h, codes_at, ldP_at, zHi_at, ldZ_at, ldS_at, show (256 * k.val + i.val) / 128 = 2 * k.val + 1 by omega]

theorem castX (v : Vec Ideal S32x256 .bf16) : shapeCast S32x256 v shapeCasts_S32x256_S32x256 = v := by
  pointwise

/-- The gate's block is the first layer's product at its columns, -/
theorem gateB_at (j : Fin 8) (t : Fin 32) (n : Fin 256) : gateB c M2 M4 M5 M6 f2 f4 f5 f6 j (ix2 t n) = gu (rX c M2 f2 t.val) (rW c M4 M5 M6 f4 f5 f6) (256 * j.val + n.val) := by
  refine chain11_sum _ t n (fun k => rX c M2 f2 t.val k * rW c M4 M5 M6 f4 f5 f6 k (256 * j.val + n.val)) fun k => (dot_at _ _ t n).trans (Finset.sum_congr rfl fun b _ => ?_)
  rw [castX, ldX_at, tileG_at]

/-- the other factor's at the second half of the columns. -/
theorem upB_at (j : Fin 8) (t : Fin 32) (n : Fin 256) : upB c M2 M4 M5 M6 f2 f4 f5 f6 j (ix2 t n) = gu (rX c M2 f2 t.val) (rW c M4 M5 M6 f4 f5 f6) (2048 + (256 * j.val + n.val)) := by
  refine chain11_sum _ t n (fun k => rX c M2 f2 t.val k * rW c M4 M5 M6 f4 f5 f6 k (2048 + (256 * j.val + n.val))) fun k => (dot_at _ _ t n).trans (Finset.sum_congr rfl fun b _ => ?_)
  rw [castX, ldX_at, tileU_at]

/-- The hidden layer's block. -/
theorem hidB_at (j : Fin 8) (t : Fin 32) (n : Fin 256) : hidB c M2 M4 M5 M6 f2 f4 f5 f6 j (ix2 t n) = hh (rX c M2 f2 t.val) (rW c M4 M5 M6 f4 f5 f6) (256 * j.val + n.val) := by
  unfold hidB hh
  rw [← gateB_at, ← upB_at]
  pointwise
end

end Cert.KernelIdeal.Body

end
-- ==== Proof.KernelIdeal.Hid.lean ====
/-
  Each block of the hidden layer that the body's run stores is the block said in words.
-/
module

public import proofs.«01_k».proof.Proof.KernelIdeal.Clean

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

variable (c : Dev nD) (M2 : Memref sig .tc .vmem S32x2816 .bf16) (M4 : Memref sig .tc .vmem S1x1408x4096 .i8) (M5 : Memref sig .tc .vmem S1x22x4096 .bf16) (M6 : Memref sig .tc .vmem S1x22x2048 .i8)
  (f2 : Bf (F := F) c M2) (f4 : Bf (F := F) c M4) (f5 : Bf (F := F) c M5) (f6 : Bf (F := F) c M6)

theorem hid_1 : k0_pay75 (kernelRun.sl.r_36 c M2 M4 M5 M6 f2 f4 f5 f6) (kernelRun.sl.r_71 c M2 M4 M5 M6 f2 f4 f5 f6) (kernelRun.sl.r_73 c M2 M4 M5 M6 f2 f4 f5 f6) = hidB c M2 M4 M5 M6 f2 f4 f5 f6 0 := rfl

theorem hid_2 : k0_pay147 (kernelRun.sl.r_107 c M2 M4 M5 M6 f2 f4 f5 f6) (kernelRun.sl.r_137 c M2 M4 M5 M6 f2 f4 f5 f6) (kernelRun.sl.r_138 c M4 M5 M6 f4 f5 f6) (View.readAt (Elt F) M2.view (Rect.unit (s := S32x2816) ![0, 2560] S32x256.size inb_S32x2816_S32x256_0_2560).toLoadRect f2) = hidB c M2 M4 M5 M6 f2 f4 f5 f6 1 := rfl

theorem hid_3 : k0_pay221 (kernelRun.sl.r_173 c M2 M4 M5 M6 f2 f4 f5 f6) (kernelRun.sl.r_205 c M2 M4 M5 M6 f2 f4 f5 f6) (kernelRun.sl.r_206 c M4 M5 M6 f4 f5 f6) (kernelRun.sl.r_207 c M4 M6 f4 f6) (kernelRun.sl.r_208 c M5 f5) (View.readAt (Elt F) M2.view (Rect.unit (s := S32x2816) ![0, 2560] S32x256.size inb_S32x2816_S32x256_0_2560).toLoadRect f2) = hidB c M2 M4 M5 M6 f2 f4 f5 f6 2 := rfl

theorem hid_4 : k0_pay297 (kernelRun.sl.r_244 c M2 M4 M5 M6 f2 f4 f5 f6) (kernelRun.sl.r_274 c M2 M4 M5 M6 f2 f4 f5 f6) (kernelRun.sl.r_275 c M4 f4) (kernelRun.sl.r_276 c M4 M5 M6 f4 f5 f6) (kernelRun.sl.r_277 c M6 f6) (kernelRun.sl.r_278 c M5 f5) (View.readAt (Elt F) M2.view (Rect.unit (s := S32x2816) ![0, 2560] S32x256.size inb_S32x2816_S32x256_0_2560).toLoadRect f2) = hidB c M2 M4 M5 M6 f2 f4 f5 f6 3 := rfl

theorem hid_5 : k0_pay373 (kernelRun.sl.r_311 c M2 M4 M5 M6 f2 f4 f5 f6) (kernelRun.sl.r_342 c M2 M4 M5 M6 f2 f4 f5 f6) (kernelRun.sl.r_343 c M4 f4) (kernelRun.sl.r_344 c M4 M5 M6 f4 f5 f6) (kernelRun.sl.r_345 c M6 f6) (View.readAt (Elt F) M5.view (Rect.unit (s := S1x22x4096) ![0, 21, 3072] S1x1x256.size inb_S1x22x4096_S1x1x256_0_21_3072).toLoadRect f5) (View.readAt (Elt F) M2.view (Rect.unit (s := S32x2816) ![0, 2560] S32x256.size inb_S32x2816_S32x256_0_2560).toLoadRect f2) = hidB c M2 M4 M5 M6 f2 f4 f5 f6 4 := rfl

theorem hid_6 : k0_pay447 (kernelRun.sl.r_382 c M2 M4 M5 M6 f2 f4 f5 f6) (kernelRun.sl.r_415 c M2 M4 M5 M6 f2 f4 f5 f6) (kernelRun.sl.r_416 c M4 f4) (kernelRun.sl.r_417 c M4 M5 M6 f4 f5 f6) (kernelRun.sl.r_418 c M6 f6) (4#32) (View.readAt (Elt F) M5.view (Rect.unit (s := S1x22x4096) ![0, 21, 3328] S1x1x256.size inb_S1x22x4096_S1x1x256_0_21_3328).toLoadRect f5) (View.readAt (Elt F) M2.view (Rect.unit (s := S32x2816) ![0, 2560] S32x256.size inb_S32x2816_S32x256_0_2560).toLoadRect f2) = hidB c M2 M4 M5 M6 f2 f4 f5 f6 5 := rfl

theorem hid_7 : k0_pay521 (kernelRun.sl.r_453 c M2 M4 M5 M6 f2 f4 f5 f6) (kernelRun.sl.r_482 c M2 M4 M5 M6 f2 f4 f5 f6) (kernelRun.sl.r_483 c M4 f4) (kernelRun.sl.r_484 c M4 M5 M6 f4 f5 f6) (View.readAt (Elt F) M6.view (Rect.unit (s := S1x22x2048) ![0, 21, 1536] S1x1x256.size inb_S1x22x2048_S1x1x256_0_21_1536).toLoadRect f6) (View.readAt (Elt F) M5.view (Rect.unit (s := S1x22x4096) ![0, 21, 3584] S1x1x256.size inb_S1x22x4096_S1x1x256_0_21_3584).toLoadRect f5) (View.readAt (Elt F) M2.view (Rect.unit (s := S32x2816) ![0, 2560] S32x256.size inb_S32x2816_S32x256_0_2560).toLoadRect f2) = hidB c M2 M4 M5 M6 f2 f4 f5 f6 6 := rfl

theorem hid_8 : k0_pay597 (kernelRun.sl.r_520 c M2 M4 M5 M6 f2 f4 f5 f6) (kernelRun.sl.r_553 c M2 M4 M5 M6 f2 f4 f5 f6) (kernelRun.sl.r_554 c M4 f4) (kernelRun.sl.r_555 c M4 M6 f4 f6) (kernelRun.sl.r_556 c M5 f5) (View.readAt (Elt F) M6.view (Rect.unit (s := S1x22x2048) ![0, 21, 1792] S1x1x256.size inb_S1x22x2048_S1x1x256_0_21_1792).toLoadRect f6) (View.readAt (Elt F) M5.view (Rect.unit (s := S1x22x4096) ![0, 21, 3840] S1x1x256.size inb_S1x22x4096_S1x1x256_0_21_3840).toLoadRect f5) (View.readAt (Elt F) M2.view (Rect.unit (s := S32x2816) ![0, 2560] S32x256.size inb_S32x2816_S32x256_0_2560).toLoadRect f2) = hidB c M2 M4 M5 M6 f2 f4 f5 f6 7 := rfl

end Cert.KernelIdeal.Body

end
-- ==== Proof.KernelIdeal.Acc.lean ====
/-
  Each block of the accumulator that the body's run stores is what it found there plus the routed product of the hidden layer.
-/
module

public import proofs.«01_k».proof.Proof.KernelIdeal.Clean

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

variable (c : Dev nD) (arg0 : BitVec 32) (hchk : k0_chk1 arg0) (M1 : Memref sig .tc .smem S32 .i32) (M2 : Memref sig .tc .vmem S32x2816 .bf16) (M3 : Memref sig .tc .vmem S32x256 .f32)
  (M4 : Memref sig .tc .vmem S1x1408x4096 .i8) (M5 : Memref sig .tc .vmem S1x22x4096 .bf16) (M6 : Memref sig .tc .vmem S1x22x2048 .i8) (M7 : Memref sig .tc .vmem S1x1024x2816 .i8)
  (M8 : Memref sig .tc .vmem S1x16x2816 .bf16) (M9 : Memref sig .tc .vmem S1x16x1408 .i8) (M11 : Memref sig .tc .vmem S32x2048 .bf16) (M12 : Memref sig .tc .vmem S32x2816 .f32)
  (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8)
  (f9 : Bf (F := F) c M9) (f12 : Bf (F := F) c M12)

/-- The accumulator as the body finds it: set to zero at the first point. -/
def acc0 : Bf (F := F) c M12 := if hc : kernelRun.sl.v2 arg0 = 1#1 then M12.view.writes (Elt F) f12 [⟨Rect.unit (s := S32x2816) ![0, 0] S32x2816.size inb_S32x2816_S32x2816_0_0, k0_pay1⟩] else f12

theorem acc_1 : k0_pay634 (kernelRun.sl.r_558 c arg0 hchk M1 M3 f1 f3) (kernelRun.sl.r_560 c arg0 hchk M1 M3 f1 f3) (kernelRun.sl.r_589 c M2 M4 M5 M6 M7 M8 M9 M11 f2 f4 f5 f6 f7 f8 f9) (kernelRun.sl.r_590 c M7 f7) (kernelRun.sl.r_591 c M7 M8 M9 f7 f8 f9) (kernelRun.sl.r_592 c M9 f9) (View.readAt (Elt F) M9.view (Rect.unit (s := S1x16x1408) ![0, 15, 128] S1x1x128.size inb_S1x16x1408_S1x1x128_0_15_128).toLoadRect f9) (View.readAt (Elt F) M8.view (Rect.unit (s := S1x16x2816) ![0, 15, 0] S1x1x256.size inb_S1x16x2816_S1x1x256_0_15_0).toLoadRect f8) (kernelRun.sl.v8095 c M2 M4 M5 M6 M11 f2 f4 f5 f6) (kernelRun.sl.v8098 c arg0 M12 f12)
    = accB (View.readAt (Elt F) M12.view (Rect.unit (s := S32x2816) ![0, 0] S32x256.size inb_S32x2816_S32x256_0_0).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_0 c M7 M8 M9 f7 f8 f9 0) (tile2_0 c M7 M8 M9 f7 f8 f9 1) (tile2_0 c M7 M8 M9 f7 f8 f9 2) (tile2_0 c M7 M8 M9 f7 f8 f9 3) (tile2_0 c M7 M8 M9 f7 f8 f9 4) (tile2_0 c M7 M8 M9 f7 f8 f9 5) (tile2_0 c M7 M8 M9 f7 f8 f9 6) (tile2_0 c M7 M8 M9 f7 f8 f9 7)) := rfl

theorem acc_2 : k0_pay672 (kernelRun.sl.r_560 c arg0 hchk M1 M3 f1 f3) (kernelRun.sl.r_625 c M2 M4 M5 M6 M7 M8 M9 M11 f2 f4 f5 f6 f7 f8 f9) (kernelRun.sl.v8542 c arg0 M12 f12) (kernelRun.sl.r_626 c arg0 hchk M1 M3 f1 f3)
    = accB (View.readAt (Elt F) M12.view (Rect.unit (s := S32x2816) ![0, 256] S32x256.size inb_S32x2816_S32x256_0_256).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_1 c M7 M8 M9 f7 f8 f9 0) (tile2_1 c M7 M8 M9 f7 f8 f9 1) (tile2_1 c M7 M8 M9 f7 f8 f9 2) (tile2_1 c M7 M8 M9 f7 f8 f9 3) (tile2_1 c M7 M8 M9 f7 f8 f9 4) (tile2_1 c M7 M8 M9 f7 f8 f9 5) (tile2_1 c M7 M8 M9 f7 f8 f9 6) (tile2_1 c M7 M8 M9 f7 f8 f9 7)) := rfl

theorem acc_3 : k0_pay705 (kernelRun.sl.r_558 c arg0 hchk M1 M3 f1 f3) (kernelRun.sl.r_560 c arg0 hchk M1 M3 f1 f3) (kernelRun.sl.r_656 c M2 M4 M5 M6 M7 M8 M9 M11 f2 f4 f5 f6 f7 f8 f9) (kernelRun.sl.r_657 c M7 f7) (kernelRun.sl.r_658 c M7 M8 M9 f7 f8 f9) (kernelRun.sl.r_659 c M9 f9) (View.readAt (Elt F) M9.view (Rect.unit (s := S1x16x1408) ![0, 15, 640] S1x1x128.size inb_S1x16x1408_S1x1x128_0_15_640).toLoadRect f9) (View.readAt (Elt F) M8.view (Rect.unit (s := S1x16x2816) ![0, 15, 512] S1x1x256.size inb_S1x16x2816_S1x1x256_0_15_512).toLoadRect f8) (kernelRun.sl.v8095 c M2 M4 M5 M6 M11 f2 f4 f5 f6) (kernelRun.sl.v8986 c arg0 M12 f12)
    = accB (View.readAt (Elt F) M12.view (Rect.unit (s := S32x2816) ![0, 512] S32x256.size inb_S32x2816_S32x256_0_512).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_2 c M7 M8 M9 f7 f8 f9 0) (tile2_2 c M7 M8 M9 f7 f8 f9 1) (tile2_2 c M7 M8 M9 f7 f8 f9 2) (tile2_2 c M7 M8 M9 f7 f8 f9 3) (tile2_2 c M7 M8 M9 f7 f8 f9 4) (tile2_2 c M7 M8 M9 f7 f8 f9 5) (tile2_2 c M7 M8 M9 f7 f8 f9 6) (tile2_2 c M7 M8 M9 f7 f8 f9 7)) := rfl

theorem acc_4 : k0_pay745 (kernelRun.sl.r_558 c arg0 hchk M1 M3 f1 f3) (kernelRun.sl.r_560 c arg0 hchk M1 M3 f1 f3) (kernelRun.sl.r_693 c M2 M4 M5 M6 M7 M8 M9 M11 f2 f4 f5 f6 f7 f8 f9) (kernelRun.sl.v9430 c arg0 M12 f12)
    = accB (View.readAt (Elt F) M12.view (Rect.unit (s := S32x2816) ![0, 768] S32x256.size inb_S32x2816_S32x256_0_768).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_3 c M7 M8 M9 f7 f8 f9 0) (tile2_3 c M7 M8 M9 f7 f8 f9 1) (tile2_3 c M7 M8 M9 f7 f8 f9 2) (tile2_3 c M7 M8 M9 f7 f8 f9 3) (tile2_3 c M7 M8 M9 f7 f8 f9 4) (tile2_3 c M7 M8 M9 f7 f8 f9 5) (tile2_3 c M7 M8 M9 f7 f8 f9 6) (tile2_3 c M7 M8 M9 f7 f8 f9 7)) := rfl

theorem acc_5 : k0_pay781 (kernelRun.sl.r_558 c arg0 hchk M1 M3 f1 f3) (kernelRun.sl.r_560 c arg0 hchk M1 M3 f1 f3) (kernelRun.sl.r_722 c M2 M4 M5 M6 M7 M8 M9 M11 f2 f4 f5 f6 f7 f8 f9) (kernelRun.sl.r_723 c M7 f7) (kernelRun.sl.r_724 c M7 M8 M9 f7 f8 f9) (kernelRun.sl.r_725 c M9 f9) k0_pay780 (View.readAt (Elt F) M9.view (Rect.unit (s := S1x16x1408) ![0, 15, 1152] S1x1x128.size inb_S1x16x1408_S1x1x128_0_15_1152).toLoadRect f9) (View.readAt (Elt F) M8.view (Rect.unit (s := S1x16x2816) ![0, 15, 1024] S1x1x256.size inb_S1x16x2816_S1x1x256_0_15_1024).toLoadRect f8) (kernelRun.sl.v8095 c M2 M4 M5 M6 M11 f2 f4 f5 f6) (kernelRun.sl.v9874 c arg0 M12 f12)
    = accB (View.readAt (Elt F) M12.view (Rect.unit (s := S32x2816) ![0, 1024] S32x256.size inb_S32x2816_S32x256_0_1024).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_4 c M7 M8 M9 f7 f8 f9 0) (tile2_4 c M7 M8 M9 f7 f8 f9 1) (tile2_4 c M7 M8 M9 f7 f8 f9 2) (tile2_4 c M7 M8 M9 f7 f8 f9 3) (tile2_4 c M7 M8 M9 f7 f8 f9 4) (tile2_4 c M7 M8 M9 f7 f8 f9 5) (tile2_4 c M7 M8 M9 f7 f8 f9 6) (tile2_4 c M7 M8 M9 f7 f8 f9 7)) := rfl

theorem acc_6 : k0_pay818 (kernelRun.sl.r_558 c arg0 hchk M1 M3 f1 f3) (kernelRun.sl.r_560 c arg0 hchk M1 M3 f1 f3) (kernelRun.sl.r_759 c M2 M4 M5 M6 M7 M8 M9 M11 f2 f4 f5 f6 f7 f8 f9) (kernelRun.sl.v10318 c arg0 M12 f12)
    = accB (View.readAt (Elt F) M12.view (Rect.unit (s := S32x2816) ![0, 1280] S32x256.size inb_S32x2816_S32x256_0_1280).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_5 c M7 M8 M9 f7 f8 f9 0) (tile2_5 c M7 M8 M9 f7 f8 f9 1) (tile2_5 c M7 M8 M9 f7 f8 f9 2) (tile2_5 c M7 M8 M9 f7 f8 f9 3) (tile2_5 c M7 M8 M9 f7 f8 f9 4) (tile2_5 c M7 M8 M9 f7 f8 f9 5) (tile2_5 c M7 M8 M9 f7 f8 f9 6) (tile2_5 c M7 M8 M9 f7 f8 f9 7)) := rfl

theorem acc_7 : k0_pay850 (kernelRun.sl.r_558 c arg0 hchk M1 M3 f1 f3) (kernelRun.sl.r_560 c arg0 hchk M1 M3 f1 f3) (kernelRun.sl.r_788 c M2 M4 M5 M6 M7 M8 M9 M11 f2 f4 f5 f6 f7 f8 f9) (kernelRun.sl.r_789 c M7 f7) (kernelRun.sl.r_790 c M7 M8 M9 f7 f8 f9) (kernelRun.sl.r_791 c M9 f9) (View.readAt (Elt F) M9.view (Rect.unit (s := S1x16x1408) ![0, 15, 256] S1x1x128.size inb_S1x16x1408_S1x1x128_0_15_256).toLoadRect f9) (View.readAt (Elt F) M8.view (Rect.unit (s := S1x16x2816) ![0, 15, 1536] S1x1x256.size inb_S1x16x2816_S1x1x256_0_15_1536).toLoadRect f8) (kernelRun.sl.v8095 c M2 M4 M5 M6 M11 f2 f4 f5 f6) (kernelRun.sl.v10762 c arg0 M12 f12)
    = accB (View.readAt (Elt F) M12.view (Rect.unit (s := S32x2816) ![0, 1536] S32x256.size inb_S32x2816_S32x256_0_1536).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_6 c M7 M8 M9 f7 f8 f9 0) (tile2_6 c M7 M8 M9 f7 f8 f9 1) (tile2_6 c M7 M8 M9 f7 f8 f9 2) (tile2_6 c M7 M8 M9 f7 f8 f9 3) (tile2_6 c M7 M8 M9 f7 f8 f9 4) (tile2_6 c M7 M8 M9 f7 f8 f9 5) (tile2_6 c M7 M8 M9 f7 f8 f9 6) (tile2_6 c M7 M8 M9 f7 f8 f9 7)) := rfl

theorem acc_8 : k0_pay888 (kernelRun.sl.r_558 c arg0 hchk M1 M3 f1 f3) (kernelRun.sl.r_560 c arg0 hchk M1 M3 f1 f3) (kernelRun.sl.r_823 c M2 M4 M5 M6 M7 M8 M9 M11 f2 f4 f5 f6 f7 f8 f9) (kernelRun.sl.r_826 c M7 M8 M9 f7 f8 f9) (kernelRun.sl.v8095 c M2 M4 M5 M6 M11 f2 f4 f5 f6) kernelRun.sl.cst_1135 (kernelRun.sl.v11206 c arg0 M12 f12)
    = accB (View.readAt (Elt F) M12.view (Rect.unit (s := S32x2816) ![0, 1792] S32x256.size inb_S32x2816_S32x256_0_1792).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_7 c M7 M8 M9 f7 f8 f9 0) (tile2_7 c M7 M8 M9 f7 f8 f9 1) (tile2_7 c M7 M8 M9 f7 f8 f9 2) (tile2_7 c M7 M8 M9 f7 f8 f9 3) (tile2_7 c M7 M8 M9 f7 f8 f9 4) (tile2_7 c M7 M8 M9 f7 f8 f9 5) (tile2_7 c M7 M8 M9 f7 f8 f9 6) (tile2_7 c M7 M8 M9 f7 f8 f9 7)) := rfl

theorem acc_9 : k0_pay921 (kernelRun.sl.r_558 c arg0 hchk M1 M3 f1 f3) (kernelRun.sl.r_560 c arg0 hchk M1 M3 f1 f3) (kernelRun.sl.r_854 c M2 M4 M5 M6 M7 M8 M9 M11 f2 f4 f5 f6 f7 f8 f9) (kernelRun.sl.r_855 c M7 f7) (kernelRun.sl.r_856 c M7 M8 M9 f7 f8 f9) (kernelRun.sl.r_857 c M9 f9) (View.readAt (Elt F) M9.view (Rect.unit (s := S1x16x1408) ![0, 15, 768] S1x1x128.size inb_S1x16x1408_S1x1x128_0_15_768).toLoadRect f9) (View.readAt (Elt F) M8.view (Rect.unit (s := S1x16x2816) ![0, 15, 2048] S1x1x256.size inb_S1x16x2816_S1x1x256_0_15_2048).toLoadRect f8) (kernelRun.sl.v8095 c M2 M4 M5 M6 M11 f2 f4 f5 f6) (kernelRun.sl.v11650 c arg0 M12 f12)
    = accB (View.readAt (Elt F) M12.view (Rect.unit (s := S32x2816) ![0, 2048] S32x256.size inb_S32x2816_S32x256_0_2048).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_8 c M7 M8 M9 f7 f8 f9 0) (tile2_8 c M7 M8 M9 f7 f8 f9 1) (tile2_8 c M7 M8 M9 f7 f8 f9 2) (tile2_8 c M7 M8 M9 f7 f8 f9 3) (tile2_8 c M7 M8 M9 f7 f8 f9 4) (tile2_8 c M7 M8 M9 f7 f8 f9 5) (tile2_8 c M7 M8 M9 f7 f8 f9 6) (tile2_8 c M7 M8 M9 f7 f8 f9 7)) := rfl

theorem acc_10 : k0_pay958 (kernelRun.sl.r_558 c arg0 hchk M1 M3 f1 f3) (kernelRun.sl.r_560 c arg0 hchk M1 M3 f1 f3) (kernelRun.sl.r_888 c M2 M4 M5 M6 M7 M8 M9 M11 f2 f4 f5 f6 f7 f8 f9) (kernelRun.sl.r_890 c M7 M8 M9 f7 f8 f9) (kernelRun.sl.v8095 c M2 M4 M5 M6 M11 f2 f4 f5 f6) (kernelRun.sl.v12094 c arg0 M12 f12)
    = accB (View.readAt (Elt F) M12.view (Rect.unit (s := S32x2816) ![0, 2304] S32x256.size inb_S32x2816_S32x256_0_2304).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_9 c M7 M8 M9 f7 f8 f9 0) (tile2_9 c M7 M8 M9 f7 f8 f9 1) (tile2_9 c M7 M8 M9 f7 f8 f9 2) (tile2_9 c M7 M8 M9 f7 f8 f9 3) (tile2_9 c M7 M8 M9 f7 f8 f9 4) (tile2_9 c M7 M8 M9 f7 f8 f9 5) (tile2_9 c M7 M8 M9 f7 f8 f9 6) (tile2_9 c M7 M8 M9 f7 f8 f9 7)) := rfl

theorem acc_11 : k0_pay998 (kernelRun.sl.r_558 c arg0 hchk M1 M3 f1 f3) (kernelRun.sl.r_560 c arg0 hchk M1 M3 f1 f3) (kernelRun.sl.r_921 c M2 M4 M5 M6 M7 M8 M9 M11 f2 f4 f5 f6 f7 f8 f9) (kernelRun.sl.r_922 c M7 f7) (kernelRun.sl.r_923 c M7 M8 M9 f7 f8 f9) (View.readAt (Elt F) M9.view (Rect.unit (s := S1x16x1408) ![0, 15, 1152] S1x1x128.size inb_S1x16x1408_S1x1x128_0_15_1152).toLoadRect f9) (View.readAt (Elt F) M9.view (Rect.unit (s := S1x16x1408) ![0, 15, 1280] S1x1x128.size inb_S1x16x1408_S1x1x128_0_15_1280).toLoadRect f9) (View.readAt (Elt F) M8.view (Rect.unit (s := S1x16x2816) ![0, 15, 2560] S1x1x256.size inb_S1x16x2816_S1x1x256_0_15_2560).toLoadRect f8) (kernelRun.sl.v8095 c M2 M4 M5 M6 M11 f2 f4 f5 f6) (kernelRun.sl.v12538 c arg0 M12 f12)
    = accB (View.readAt (Elt F) M12.view (Rect.unit (s := S32x2816) ![0, 2560] S32x256.size inb_S32x2816_S32x256_0_2560).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_10 c M7 M8 M9 f7 f8 f9 0) (tile2_10 c M7 M8 M9 f7 f8 f9 1) (tile2_10 c M7 M8 M9 f7 f8 f9 2) (tile2_10 c M7 M8 M9 f7 f8 f9 3) (tile2_10 c M7 M8 M9 f7 f8 f9 4) (tile2_10 c M7 M8 M9 f7 f8 f9 5) (tile2_10 c M7 M8 M9 f7 f8 f9 6) (tile2_10 c M7 M8 M9 f7 f8 f9 7)) := rfl

end Cert.KernelIdeal.Body

end
-- ==== Proof.KernelIdeal.Down.lean ====
/-
  The hidden layer read back from its buffer, and the second layer's product and the accumulator at an element.
-/
module

public import proofs.«01_k».proof.Proof.KernelIdeal.Read
public import proofs.«01_k».proof.Proof.KernelIdeal.Hid
public import proofs.«01_k».proof.Proof.KernelIdeal.Acc
public import Idealize.ShloMosaic.Lib.Pipeline.FrameBody

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

/-- Column block `o` of a matrix of 32 rows. -/
abbrev colR (N o : ℕ) (h : ∀ a, (![0, o] : Fin 2 → ℕ) a + S32x256.size a ≤ (⟨2, ![32, N]⟩ : Shape).size a) : Rect ⟨2, ![32, N]⟩ :=
  Rect.unit (s := ⟨2, ![32, N]⟩) ![0, o] S32x256.size h

theorem colR_mem {N o : ℕ} (h) (y : (⟨2, ![32, N]⟩ : Shape).Idx) (hy : y ∈ (colR N o h).set) : o ≤ (y 1).val ∧ (y 1).val < o + 256 := by
  obtain ⟨x, rfl⟩ := (colR N o h).exists_idx_of_mem hy
  have e : (((colR N o h).idx x) 1).val = o + (x 1).val := by
    show o + 1 * (x 1).val = _
    omega
  have := (x 1).isLt
  have e2 : S32x256.size 1 = 256 := rfl
  constructor
  · rw [e]; omega
  · rw [e]
    have : (x 1).val < 256 := this
    omega

theorem colR_emb {N o : ℕ} (h) (t : Fin 32) (n : Fin 256) (hn : o + n.val < N) : (colR N o h).emb (ix2 t n) = ix2 t ⟨o + n.val, hn⟩ := by
  funext a; apply Fin.ext
  match a with
  | ⟨0, _⟩ => show 0 + 1 * t.val = t.val; omega
  | ⟨1, _⟩ => show o + 1 * n.val = o + n.val; omega

/-- A piece that does not meet the element leaves it to the pieces under it, -/
theorem canon_skip {N o : ℕ} {e : EltTy} (h) (w : (colR N o h).shape.Idx → Elt Ideal e) (L : List (View.Piece (Elt Ideal) ⟨2, ![32, N]⟩ e)) (t : Fin 32) (n : Fin N)
    (hn : n.val < o ∨ o + 256 ≤ n.val) : View.canon (⟨colR N o h, w⟩ :: L) (ix2 t n) = View.canon L (ix2 t n) :=
  View.canon_cons_of_not_mem _ _ fun hy => by
    have := colR_mem h _ hy
    have e1 : ((ix2 t n : (⟨2, ![32, N]⟩ : Shape).Idx) 1).val = n.val := rfl
    omega
/-- and one that does gives it. -/
theorem canon_hit {N o : ℕ} {e : EltTy} (h) (w : (colR N o h).shape.Idx → Elt Ideal e) (L : List (View.Piece (Elt Ideal) ⟨2, ![32, N]⟩ e)) (t : Fin 32) (n : Fin 256) (hn : o + n.val < N) :
    View.canon (⟨colR N o h, w⟩ :: L) (ix2 t ⟨o + n.val, hn⟩) = w (ix2 t n) := by
  rw [← colR_emb h t n hn]
  exact View.canon_cons_emb _ w L (ix2 t n)

variable (c : Dev nD) (arg0 : BitVec 32) (hchk : k0_chk1 arg0) (M1 : Memref sig .tc .smem S32 .i32) (M2 : Memref sig .tc .vmem S32x2816 .bf16) (M3 : Memref sig .tc .vmem S32x256 .f32)
  (M4 : Memref sig .tc .vmem S1x1408x4096 .i8) (M5 : Memref sig .tc .vmem S1x22x4096 .bf16) (M6 : Memref sig .tc .vmem S1x22x2048 .i8) (M7 : Memref sig .tc .vmem S1x1024x2816 .i8)
  (M8 : Memref sig .tc .vmem S1x16x2816 .bf16) (M9 : Memref sig .tc .vmem S1x16x1408 .i8) (M11 : Memref sig .tc .vmem S32x2048 .bf16) (M12 : Memref sig .tc .vmem S32x2816 .f32)
  (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
  (f9 : Bf (F := Ideal) c M9) (f12 : Bf (F := Ideal) c M12)

theorem H11_eq : kernelRun.sl.H11_8 c M2 M4 M5 M6 f2 f4 f5 f6 = [⟨colR 2048 1792 inb_S32x2048_S32x256_0_1792, hidB c M2 M4 M5 M6 f2 f4 f5 f6 7⟩, ⟨colR 2048 1536 inb_S32x2048_S32x256_0_1536, hidB c M2 M4 M5 M6 f2 f4 f5 f6 6⟩, ⟨colR 2048 1280 inb_S32x2048_S32x256_0_1280, hidB c M2 M4 M5 M6 f2 f4 f5 f6 5⟩, ⟨colR 2048 1024 inb_S32x2048_S32x256_0_1024, hidB c M2 M4 M5 M6 f2 f4 f5 f6 4⟩, ⟨colR 2048 768 inb_S32x2048_S32x256_0_768, hidB c M2 M4 M5 M6 f2 f4 f5 f6 3⟩, ⟨colR 2048 512 inb_S32x2048_S32x256_0_512, hidB c M2 M4 M5 M6 f2 f4 f5 f6 2⟩, ⟨colR 2048 256 inb_S32x2048_S32x256_0_256, hidB c M2 M4 M5 M6 f2 f4 f5 f6 1⟩, ⟨colR 2048 0 inb_S32x2048_S32x256_0_0, hidB c M2 M4 M5 M6 f2 f4 f5 f6 0⟩] := rfl

theorem hid_read_0 : M11.view.readCov (kernelRun.sl.H11_8 c M2 M4 M5 M6 f2 f4 f5 f6) (Rect.unit (s := S32x2048) ![0, 0] S32x256.size inb_S32x2048_S32x256_0_0).toLoadRect = hidB c M2 M4 M5 M6 f2 f4 f5 f6 0 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_0 t n (by have := n.isLt; omega))).trans ?_
  rw [canon_skip _ _ _ _ _ (Or.inl (by show 0 + n.val < 1792; have := n.isLt; omega)), canon_skip _ _ _ _ _ (Or.inl (by show 0 + n.val < 1536; have := n.isLt; omega)), canon_skip _ _ _ _ _ (Or.inl (by show 0 + n.val < 1280; have := n.isLt; omega)), canon_skip _ _ _ _ _ (Or.inl (by show 0 + n.val < 1024; have := n.isLt; omega)), canon_skip _ _ _ _ _ (Or.inl (by show 0 + n.val < 768; have := n.isLt; omega)), canon_skip _ _ _ _ _ (Or.inl (by show 0 + n.val < 512; have := n.isLt; omega)), canon_skip _ _ _ _ _ (Or.inl (by show 0 + n.val < 256; have := n.isLt; omega))]
  exact canon_hit _ _ _ t n _

theorem hid_read_1 : M11.view.readCov (kernelRun.sl.H11_8 c M2 M4 M5 M6 f2 f4 f5 f6) (Rect.unit (s := S32x2048) ![0, 256] S32x256.size inb_S32x2048_S32x256_0_256).toLoadRect = hidB c M2 M4 M5 M6 f2 f4 f5 f6 1 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_256 t n (by have := n.isLt; omega))).trans ?_
  rw [canon_skip _ _ _ _ _ (Or.inl (by show 256 + n.val < 1792; have := n.isLt; omega)), canon_skip _ _ _ _ _ (Or.inl (by show 256 + n.val < 1536; have := n.isLt; omega)), canon_skip _ _ _ _ _ (Or.inl (by show 256 + n.val < 1280; have := n.isLt; omega)), canon_skip _ _ _ _ _ (Or.inl (by show 256 + n.val < 1024; have := n.isLt; omega)), canon_skip _ _ _ _ _ (Or.inl (by show 256 + n.val < 768; have := n.isLt; omega)), canon_skip _ _ _ _ _ (Or.inl (by show 256 + n.val < 512; have := n.isLt; omega))]
  exact canon_hit _ _ _ t n _

theorem hid_read_2 : M11.view.readCov (kernelRun.sl.H11_8 c M2 M4 M5 M6 f2 f4 f5 f6) (Rect.unit (s := S32x2048) ![0, 512] S32x256.size inb_S32x2048_S32x256_0_512).toLoadRect = hidB c M2 M4 M5 M6 f2 f4 f5 f6 2 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_512 t n (by have := n.isLt; omega))).trans ?_
  rw [canon_skip _ _ _ _ _ (Or.inl (by show 512 + n.val < 1792; have := n.isLt; omega)), canon_skip _ _ _ _ _ (Or.inl (by show 512 + n.val < 1536; have := n.isLt; omega)), canon_skip _ _ _ _ _ (Or.inl (by show 512 + n.val < 1280; have := n.isLt; omega)), canon_skip _ _ _ _ _ (Or.inl (by show 512 + n.val < 1024; have := n.isLt; omega)), canon_skip _ _ _ _ _ (Or.inl (by show 512 + n.val < 768; have := n.isLt; omega))]
  exact canon_hit _ _ _ t n _

theorem hid_read_3 : M11.view.readCov (kernelRun.sl.H11_8 c M2 M4 M5 M6 f2 f4 f5 f6) (Rect.unit (s := S32x2048) ![0, 768] S32x256.size inb_S32x2048_S32x256_0_768).toLoadRect = hidB c M2 M4 M5 M6 f2 f4 f5 f6 3 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_768 t n (by have := n.isLt; omega))).trans ?_
  rw [canon_skip _ _ _ _ _ (Or.inl (by show 768 + n.val < 1792; have := n.isLt; omega)), canon_skip _ _ _ _ _ (Or.inl (by show 768 + n.val < 1536; have := n.isLt; omega)), canon_skip _ _ _ _ _ (Or.inl (by show 768 + n.val < 1280; have := n.isLt; omega)), canon_skip _ _ _ _ _ (Or.inl (by show 768 + n.val < 1024; have := n.isLt; omega))]
  exact canon_hit _ _ _ t n _

theorem hid_read_4 : M11.view.readCov (kernelRun.sl.H11_8 c M2 M4 M5 M6 f2 f4 f5 f6) (Rect.unit (s := S32x2048) ![0, 1024] S32x256.size inb_S32x2048_S32x256_0_1024).toLoadRect = hidB c M2 M4 M5 M6 f2 f4 f5 f6 4 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_1024 t n (by have := n.isLt; omega))).trans ?_
  rw [canon_skip _ _ _ _ _ (Or.inl (by show 1024 + n.val < 1792; have := n.isLt; omega)), canon_skip _ _ _ _ _ (Or.inl (by show 1024 + n.val < 1536; have := n.isLt; omega)), canon_skip _ _ _ _ _ (Or.inl (by show 1024 + n.val < 1280; have := n.isLt; omega))]
  exact canon_hit _ _ _ t n _

theorem hid_read_5 : M11.view.readCov (kernelRun.sl.H11_8 c M2 M4 M5 M6 f2 f4 f5 f6) (Rect.unit (s := S32x2048) ![0, 1280] S32x256.size inb_S32x2048_S32x256_0_1280).toLoadRect = hidB c M2 M4 M5 M6 f2 f4 f5 f6 5 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_1280 t n (by have := n.isLt; omega))).trans ?_
  rw [canon_skip _ _ _ _ _ (Or.inl (by show 1280 + n.val < 1792; have := n.isLt; omega)), canon_skip _ _ _ _ _ (Or.inl (by show 1280 + n.val < 1536; have := n.isLt; omega))]
  exact canon_hit _ _ _ t n _

theorem hid_read_6 : M11.view.readCov (kernelRun.sl.H11_8 c M2 M4 M5 M6 f2 f4 f5 f6) (Rect.unit (s := S32x2048) ![0, 1536] S32x256.size inb_S32x2048_S32x256_0_1536).toLoadRect = hidB c M2 M4 M5 M6 f2 f4 f5 f6 6 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_1536 t n (by have := n.isLt; omega))).trans ?_
  rw [canon_skip _ _ _ _ _ (Or.inl (by show 1536 + n.val < 1792; have := n.isLt; omega))]
  exact canon_hit _ _ _ t n _

theorem hid_read_7 : M11.view.readCov (kernelRun.sl.H11_8 c M2 M4 M5 M6 f2 f4 f5 f6) (Rect.unit (s := S32x2048) ![0, 1792] S32x256.size inb_S32x2048_S32x256_0_1792).toLoadRect = hidB c M2 M4 M5 M6 f2 f4 f5 f6 7 := by
  rw [View.readCov_eq_canon', H11_eq]
  funext j
  obtain ⟨t, n, rfl⟩ : ∃ (t : Fin 32) (n : Fin 256), j = ix2 t n := ⟨j 0, j 1, by funext a; match a with | ⟨0, _⟩ => rfl | ⟨1, _⟩ => rfl⟩
  refine (congrArg (View.canon _) (colR_emb (N := 2048) inb_S32x2048_S32x256_0_1792 t n (by have := n.isLt; omega))).trans ?_
  skip
  exact canon_hit _ _ _ t n _

end Cert.KernelIdeal.Body

end
-- ==== Proof.KernelIdeal.Tile2.lean ====
/-
  The second layer's tiles at an element.
-/
module

public import proofs.«01_k».proof.Proof.KernelIdeal.Read

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

theorem z2_at (a b : IVec S1x128 32) (n : Fin 256) : z2 (F := Ideal) a b (ix2 0 n) = if h : n.val < 128 then i2f (a (ix2 0 ⟨n.val, h⟩)) else i2f (b (ix2 0 ⟨n.val - 128, by have := n.isLt; omega⟩)) := by
  unfold z2 i2f
  pointwise
  by_cases h : n.val < 128
  · rw [dif_pos h, dif_pos h]
  · rw [dif_neg h, dif_neg h]

variable (c : Dev nD) (M7 : Memref sig .tc .vmem S1x1024x2816 .i8) (M8 : Memref sig .tc .vmem S1x16x2816 .bf16) (M9 : Memref sig .tc .vmem S1x16x1408 .i8)
  (f7 : Bf (F := Ideal) c M7) (f8 : Bf (F := Ideal) c M8) (f9 : Bf (F := Ideal) c M9)

/-- The second layer's codes, scales and zeros as the windows hold them, -/
def rP2 : ℕ → ℕ → BitVec 8 := b3 (a := 1) (b := 1024) (c := 2816) (M7.view.read (Elt Ideal) f7) 0
def rS2 : ℕ → ℕ → EReal := e3 (a := 1) (b := 16) (c := 2816) (M8.view.read (Elt Ideal) f8) 0
def rZ2 : ℕ → ℕ → BitVec 8 := b3 (a := 1) (b := 16) (c := 1408) (M9.view.read (Elt Ideal) f9) 0
/-- and its weights. -/
def rW2 : ℕ → ℕ → EReal := wgt 1408 (rP2 c M7 f7) (rZ2 c M9 f9) (rS2 c M8 f8)

theorem ldP2_at (r o : ℕ) (hr : r + 128 ≤ 1024) (h : o + 256 ≤ 2816) (i : Fin 128) (n : Fin 256) : ldP2 c M7 f7 r o hr h (ix3 0 i n) = rP2 c M7 f7 (r + i.val) (o + n.val) := by
  unfold ldP2 rP2
  rw [b3_eq _ _ _ _ (by decide) (by have := i.isLt; omega) (by have := n.isLt; omega), View.readAt_eq_ld]
  pointwise
theorem ldS2_at (r o : ℕ) (hr : r + 1 ≤ 16) (h : o + 256 ≤ 2816) (n : Fin 256) : ldS2 c M8 f8 r o hr h (ix3 0 0 n) = rS2 c M8 f8 r (o + n.val) := by
  unfold ldS2 rS2
  rw [e3_eq _ _ _ _ (by decide) (by omega) (by have := n.isLt; omega), View.readAt_eq_ld]
  pointwise
theorem ldZ2_at (r o : ℕ) (hr : r + 1 ≤ 16) (h : o + 128 ≤ 1408) (n : Fin 128) : ldZ2 c M9 f9 r o hr h (ix3 0 0 n) = rZ2 c M9 f9 r (o + n.val) := by
  unfold ldZ2 rZ2
  rw [b3_eq _ _ _ _ (by decide) (by omega) (by have := n.isLt; omega), View.readAt_eq_ld]
  pointwise
theorem zLo2_at (r p : ℕ) (hr : r + 1 ≤ 16) (h : 128 * p + 128 ≤ 1408) (n : Fin 128) : zLo2 c M9 f9 r p hr h (ix2 0 n) = lo (rZ2 c M9 f9 r (128 * p + n.val)) := by
  rw [← ldZ2_at c M9 f9 r (128 * p) hr h]
  unfold zLo2 lo
  pointwise
theorem zHi2_at (r p : ℕ) (hr : r + 1 ≤ 16) (h : 128 * p + 128 ≤ 1408) (n : Fin 128) : zHi2 c M9 f9 r p hr h (ix2 0 n) = Cert.Spec.hi (rZ2 c M9 f9 r (128 * p + n.val)) := by
  rw [← ldZ2_at c M9 f9 r (128 * p) hr h]
  unfold zHi2 Cert.Spec.hi
  pointwise

theorem zb_lo (r q : ℕ) (h : q < 1408) : lo (rZ2 c M9 f9 r q) = zb 1408 (rZ2 c M9 f9) r q := (if_pos h).symm
theorem zb_hi (r q q' : ℕ) (h : q' = 1408 + q) : Cert.Spec.hi (rZ2 c M9 f9 r q) = zb 1408 (rZ2 c M9 f9) r q' := by
  subst h
  unfold zb
  rw [if_neg (by omega), Nat.add_sub_cancel_left]

/-- A row block's tile is the weights there, given its zeros. -/
theorem tile2_of (k : Fin 8) (o : ℕ) (ho : o + 256 ≤ 2816) (a b : FVec Ideal S1x256 .bf16)
    (h1 : 128 * k.val + 128 ≤ 1024) (h2 : 2 * k.val + 1 ≤ 16) (h3 : 2 * k.val + 1 + 1 ≤ 16)
    (ha : ∀ n : Fin 256, a (ix2 0 n) = i2f (zb 1408 (rZ2 c M9 f9) (2 * k.val) (o + n.val)))
    (hb : ∀ n : Fin 256, b (ix2 0 n) = i2f (zb 1408 (rZ2 c M9 f9) (2 * k.val + 1) (o + n.val))) (i n : Fin 256) :
    tile (codes (ldP2 c M7 f7 (128 * k.val) o h1 ho)) a (ldS2 c M8 f8 (2 * k.val) o h2 ho) b (ldS2 c M8 f8 (2 * k.val + 1) o h3 ho) (ix2 i n)
      = rW2 c M7 M8 M9 f7 f8 f9 (256 * k.val + i.val) (o + n.val) := by
  have hi := i.isLt
  have hn := n.isLt
  have e1 : (256 * k.val + i.val) / 2 = 128 * k.val + i.val / 2 := by omega
  have e2 : nb (256 * k.val + i.val) = nb i.val := by
    funext b; unfold nb; rw [show (256 * k.val + i.val) % 2 = i.val % 2 by omega]
  unfold rW2 wgt
  rw [e1, e2]
  by_cases h : i.val < 128
  · rw [tile_lt _ _ _ _ _ _ _ h, codes_at, ldP2_at, ha, ldS2_at, show (256 * k.val + i.val) / 128 = 2 * k.val by omega]
  · rw [tile_ge _ _ _ _ _ _ _ h, codes_at, ldP2_at, hb, ldS2_at, show (256 * k.val + i.val) / 128 = 2 * k.val + 1 by omega]

theorem zLL (r p o : ℕ) (hr h q h') (ho : o = 128 * p) (hq : q = p + 1) (n : Fin 256) : z2 (F := Ideal) (zLo2 c M9 f9 r p hr h) (zLo2 c M9 f9 r q hr h') (ix2 0 n) = i2f (zb 1408 (rZ2 c M9 f9) r (o + n.val)) := by
  have := n.isLt
  rw [z2_at]
  subst ho hq
  by_cases hh : n.val < 128
  · rw [dif_pos hh, zLo2_at, zb_lo _ _ _ _ _ (by show 128 * p + n.val < _; omega)]
  · rw [dif_neg hh, zLo2_at, zb_lo _ _ _ _ _ (by show 128 * (p + 1) + (n.val - 128) < _; omega), show 128 * (p + 1) + (n.val - 128) = 128 * p + n.val by omega]
theorem zLH (r p o : ℕ) (hr h q h') (ho : o = 128 * p) (hp : p = 10) (hq : q = 0) (n : Fin 256) : z2 (F := Ideal) (zLo2 c M9 f9 r p hr h) (zHi2 c M9 f9 r q hr h') (ix2 0 n) = i2f (zb 1408 (rZ2 c M9 f9) r (o + n.val)) := by
  have := n.isLt
  rw [z2_at]
  subst ho hq hp
  by_cases hh : n.val < 128
  · rw [dif_pos hh, zLo2_at, zb_lo _ _ _ _ _ (by show 128 * 10 + n.val < _; omega)]
  · rw [dif_neg hh, zHi2_at, zb_hi _ _ _ _ _ (128 * 10 + n.val) (by show _ = 1408 + (128 * 0 + (n.val - 128)); omega)]
theorem zHH (r p o : ℕ) (hr h q h') (ho : o = 1408 + 128 * p) (hq : q = p + 1) (n : Fin 256) : z2 (F := Ideal) (zHi2 c M9 f9 r p hr h) (zHi2 c M9 f9 r q hr h') (ix2 0 n) = i2f (zb 1408 (rZ2 c M9 f9) r (o + n.val)) := by
  have := n.isLt
  rw [z2_at]
  subst ho hq
  by_cases hh : n.val < 128
  · rw [dif_pos hh, zHi2_at, zb_hi _ _ _ _ _ (1408 + 128 * p + n.val) (by show _ = 1408 + (128 * p + n.val); omega)]
  · rw [dif_neg hh, zHi2_at, zb_hi _ _ _ _ _ (1408 + 128 * p + n.val) (by show _ = 1408 + (128 * (p + 1) + (n.val - 128)); omega)]

theorem tile2_0_at (k : Fin 8) (i n : Fin 256) : tile2_0 c M7 M8 M9 f7 f8 f9 k (ix2 i n) = rW2 c M7 M8 M9 f7 f8 f9 (256 * k.val + i.val) (0 + n.val) :=
  tile2_of c M7 M8 M9 f7 f8 f9 k 0 _ _ _ _ _ _ (zLL c M9 f9 _ _ _ _ _ _ _ rfl rfl) (zLL c M9 f9 _ _ _ _ _ _ _ rfl rfl) i n

theorem tile2_1_at (k : Fin 8) (i n : Fin 256) : tile2_1 c M7 M8 M9 f7 f8 f9 k (ix2 i n) = rW2 c M7 M8 M9 f7 f8 f9 (256 * k.val + i.val) (256 + n.val) :=
  tile2_of c M7 M8 M9 f7 f8 f9 k 256 _ _ _ _ _ _ (zLL c M9 f9 _ _ _ _ _ _ _ rfl rfl) (zLL c M9 f9 _ _ _ _ _ _ _ rfl rfl) i n

theorem tile2_2_at (k : Fin 8) (i n : Fin 256) : tile2_2 c M7 M8 M9 f7 f8 f9 k (ix2 i n) = rW2 c M7 M8 M9 f7 f8 f9 (256 * k.val + i.val) (512 + n.val) :=
  tile2_of c M7 M8 M9 f7 f8 f9 k 512 _ _ _ _ _ _ (zLL c M9 f9 _ _ _ _ _ _ _ rfl rfl) (zLL c M9 f9 _ _ _ _ _ _ _ rfl rfl) i n

theorem tile2_3_at (k : Fin 8) (i n : Fin 256) : tile2_3 c M7 M8 M9 f7 f8 f9 k (ix2 i n) = rW2 c M7 M8 M9 f7 f8 f9 (256 * k.val + i.val) (768 + n.val) :=
  tile2_of c M7 M8 M9 f7 f8 f9 k 768 _ _ _ _ _ _ (zLL c M9 f9 _ _ _ _ _ _ _ rfl rfl) (zLL c M9 f9 _ _ _ _ _ _ _ rfl rfl) i n

theorem tile2_4_at (k : Fin 8) (i n : Fin 256) : tile2_4 c M7 M8 M9 f7 f8 f9 k (ix2 i n) = rW2 c M7 M8 M9 f7 f8 f9 (256 * k.val + i.val) (1024 + n.val) :=
  tile2_of c M7 M8 M9 f7 f8 f9 k 1024 _ _ _ _ _ _ (zLL c M9 f9 _ _ _ _ _ _ _ rfl rfl) (zLL c M9 f9 _ _ _ _ _ _ _ rfl rfl) i n

theorem tile2_5_at (k : Fin 8) (i n : Fin 256) : tile2_5 c M7 M8 M9 f7 f8 f9 k (ix2 i n) = rW2 c M7 M8 M9 f7 f8 f9 (256 * k.val + i.val) (1280 + n.val) :=
  tile2_of c M7 M8 M9 f7 f8 f9 k 1280 _ _ _ _ _ _ (zLH c M9 f9 _ _ _ _ _ _ _ rfl rfl rfl) (zLH c M9 f9 _ _ _ _ _ _ _ rfl rfl rfl) i n

theorem tile2_6_at (k : Fin 8) (i n : Fin 256) : tile2_6 c M7 M8 M9 f7 f8 f9 k (ix2 i n) = rW2 c M7 M8 M9 f7 f8 f9 (256 * k.val + i.val) (1536 + n.val) :=
  tile2_of c M7 M8 M9 f7 f8 f9 k 1536 _ _ _ _ _ _ (zHH c M9 f9 _ _ _ _ _ _ _ rfl rfl) (zHH c M9 f9 _ _ _ _ _ _ _ rfl rfl) i n

theorem tile2_7_at (k : Fin 8) (i n : Fin 256) : tile2_7 c M7 M8 M9 f7 f8 f9 k (ix2 i n) = rW2 c M7 M8 M9 f7 f8 f9 (256 * k.val + i.val) (1792 + n.val) :=
  tile2_of c M7 M8 M9 f7 f8 f9 k 1792 _ _ _ _ _ _ (zHH c M9 f9 _ _ _ _ _ _ _ rfl rfl) (zHH c M9 f9 _ _ _ _ _ _ _ rfl rfl) i n

theorem tile2_8_at (k : Fin 8) (i n : Fin 256) : tile2_8 c M7 M8 M9 f7 f8 f9 k (ix2 i n) = rW2 c M7 M8 M9 f7 f8 f9 (256 * k.val + i.val) (2048 + n.val) :=
  tile2_of c M7 M8 M9 f7 f8 f9 k 2048 _ _ _ _ _ _ (zHH c M9 f9 _ _ _ _ _ _ _ rfl rfl) (zHH c M9 f9 _ _ _ _ _ _ _ rfl rfl) i n

theorem tile2_9_at (k : Fin 8) (i n : Fin 256) : tile2_9 c M7 M8 M9 f7 f8 f9 k (ix2 i n) = rW2 c M7 M8 M9 f7 f8 f9 (256 * k.val + i.val) (2304 + n.val) :=
  tile2_of c M7 M8 M9 f7 f8 f9 k 2304 _ _ _ _ _ _ (zHH c M9 f9 _ _ _ _ _ _ _ rfl rfl) (zHH c M9 f9 _ _ _ _ _ _ _ rfl rfl) i n

theorem tile2_10_at (k : Fin 8) (i n : Fin 256) : tile2_10 c M7 M8 M9 f7 f8 f9 k (ix2 i n) = rW2 c M7 M8 M9 f7 f8 f9 (256 * k.val + i.val) (2560 + n.val) :=
  tile2_of c M7 M8 M9 f7 f8 f9 k 2560 _ _ _ _ _ _ (zHH c M9 f9 _ _ _ _ _ _ _ rfl rfl) (zHH c M9 f9 _ _ _ _ _ _ _ rfl rfl) i n

end Cert.KernelIdeal.Body

end
-- ==== Proof.KernelIdeal.Sum.lean ====
/-
  The accumulator that the body's run leaves, at an element.
-/
module

public import proofs.«01_k».proof.Proof.KernelIdeal.Down
public import proofs.«01_k».proof.Proof.KernelIdeal.Tile2

@[expose] public section

set_option maxRecDepth 16384

noncomputable section

namespace Cert.KernelIdeal.Body

open Cert.KernelIdeal Cert.KernelIdeal.Gen Cert.Spec
open Idealize.ShloMosaic Idealize.ShloMosaic.TcCoe Idealize.ShloMosaic.Tactic

variable (c : Dev nD) (arg0 : BitVec 32) (hchk : k0_chk1 arg0) (M1 : Memref sig .tc .smem S32 .i32) (M2 : Memref sig .tc .vmem S32x2816 .bf16) (M3 : Memref sig .tc .vmem S32x256 .f32)
  (M4 : Memref sig .tc .vmem S1x1408x4096 .i8) (M5 : Memref sig .tc .vmem S1x22x4096 .bf16) (M6 : Memref sig .tc .vmem S1x22x2048 .i8) (M7 : Memref sig .tc .vmem S1x1024x2816 .i8)
  (M8 : Memref sig .tc .vmem S1x16x2816 .bf16) (M9 : Memref sig .tc .vmem S1x16x1408 .i8) (M11 : Memref sig .tc .vmem S32x2048 .bf16) (M12 : Memref sig .tc .vmem S32x2816 .f32)
  (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
  (f9 : Bf (F := Ideal) c M9) (f12 : Bf (F := Ideal) c M12)

/-- The second layer's product at a block of columns. -/
theorem down_yy (h0 h1 h2 h3 h4 h5 h6 h7 : FVec Ideal S32x256 .bf16) (w0 w1 w2 w3 w4 w5 w6 w7 : FVec Ideal S256x256 .bf16) (t : Fin 32) (n : Fin 256) (H : ℕ → EReal) (W : ℕ → EReal)
    (e0 : ∀ i : Fin 256, h0 (ix2 t i) = H (256 * 0 + i.val)) (g0 : ∀ i : Fin 256, w0 (ix2 i n) = W (256 * 0 + i.val))
    (e1 : ∀ i : Fin 256, h1 (ix2 t i) = H (256 * 1 + i.val)) (g1 : ∀ i : Fin 256, w1 (ix2 i n) = W (256 * 1 + i.val))
    (e2 : ∀ i : Fin 256, h2 (ix2 t i) = H (256 * 2 + i.val)) (g2 : ∀ i : Fin 256, w2 (ix2 i n) = W (256 * 2 + i.val))
    (e3 : ∀ i : Fin 256, h3 (ix2 t i) = H (256 * 3 + i.val)) (g3 : ∀ i : Fin 256, w3 (ix2 i n) = W (256 * 3 + i.val))
    (e4 : ∀ i : Fin 256, h4 (ix2 t i) = H (256 * 4 + i.val)) (g4 : ∀ i : Fin 256, w4 (ix2 i n) = W (256 * 4 + i.val))
    (e5 : ∀ i : Fin 256, h5 (ix2 t i) = H (256 * 5 + i.val)) (g5 : ∀ i : Fin 256, w5 (ix2 i n) = W (256 * 5 + i.val))
    (e6 : ∀ i : Fin 256, h6 (ix2 t i) = H (256 * 6 + i.val)) (g6 : ∀ i : Fin 256, w6 (ix2 i n) = W (256 * 6 + i.val))
    (e7 : ∀ i : Fin 256, h7 (ix2 t i) = H (256 * 7 + i.val)) (g7 : ∀ i : Fin 256, w7 (ix2 i n) = W (256 * 7 + i.val))
    : down h0 h1 h2 h3 h4 h5 h6 h7 w0 w1 w2 w3 w4 w5 w6 w7 (ix2 t n) = ∑ f ∈ Finset.range 2048, H f * W f := by
  rw [down_at, dot_at, dot_at, dot_at, dot_at, dot_at, dot_at, dot_at, dot_at]
  simp only [e0, g0, e1, g1, e2, g2, e3, g3, e4, g4, e5, g5, e6, g6, e7, g7]
  exact sum8 (fun f => H f * W f)

/-- Block 0 that the run stores. -/
def blk_0 : FVec Ideal S32x256 .f32 := accB (View.readAt (Elt Ideal) M12.view (Rect.unit (s := S32x2816) ![0, 0] S32x256.size inb_S32x2816_S32x256_0_0).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_0 c M7 M8 M9 f7 f8 f9 0) (tile2_0 c M7 M8 M9 f7 f8 f9 1) (tile2_0 c M7 M8 M9 f7 f8 f9 2) (tile2_0 c M7 M8 M9 f7 f8 f9 3) (tile2_0 c M7 M8 M9 f7 f8 f9 4) (tile2_0 c M7 M8 M9 f7 f8 f9 5) (tile2_0 c M7 M8 M9 f7 f8 f9 6) (tile2_0 c M7 M8 M9 f7 f8 f9 7))
theorem blk_0_at (t : Fin 32) (n : Fin 256) : blk_0 c arg0 hchk M1 M2 M3 M4 M5 M6 M7 M8 M9 M11 M12 f1 f2 f3 f4 f5 f6 f7 f8 f9 f12 (ix2 t n)
    = M12.view.read (Elt Ideal) (acc0 c arg0 M12 f12) (ix2 t ⟨0 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (0 + n.val) * kernelRun.sl.r_558 c arg0 hchk M1 M3 f1 f3 (ix2 t 0)) (0 : EReal) := by
  unfold blk_0
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (0 + n.val))
      (fun i => hidB_at _ _ _ _ _ _ _ _ _ 0 t i) (fun i => tile2_0_at _ _ _ _ _ _ _ 0 i n) (fun i => hidB_at _ _ _ _ _ _ _ _ _ 1 t i) (fun i => tile2_0_at _ _ _ _ _ _ _ 1 i n) (fun i => hidB_at _ _ _ _ _ _ _ _ _ 2 t i) (fun i => tile2_0_at _ _ _ _ _ _ _ 2 i n) (fun i => hidB_at _ _ _ _ _ _ _ _ _ 3 t i) (fun i => tile2_0_at _ _ _ _ _ _ _ 3 i n) (fun i => hidB_at _ _ _ _ _ _ _ _ _ 4 t i) (fun i => tile2_0_at _ _ _ _ _ _ _ 4 i n) (fun i => hidB_at _ _ _ _ _ _ _ _ _ 5 t i) (fun i => tile2_0_at _ _ _ _ _ _ _ 5 i n) (fun i => hidB_at _ _ _ _ _ _ _ _ _ 6 t i) (fun i => tile2_0_at _ _ _ _ _ _ _ 6 i n) (fun i => hidB_at _ _ _ _ _ _ _ _ _ 7 t i) (fun i => tile2_0_at _ _ _ _ _ _ _ 7 i n)]
  congr 1
  rw [View.readAt_eq_ld]
  pointwise

/-- Block 1 that the run stores. -/
def blk_1 : FVec Ideal S32x256 .f32 := accB (View.readAt (Elt Ideal) M12.view (Rect.unit (s := S32x2816) ![0, 256] S32x256.size inb_S32x2816_S32x256_0_256).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_1 c M7 M8 M9 f7 f8 f9 0) (tile2_1 c M7 M8 M9 f7 f8 f9 1) (tile2_1 c M7 M8 M9 f7 f8 f9 2) (tile2_1 c M7 M8 M9 f7 f8 f9 3) (tile2_1 c M7 M8 M9 f7 f8 f9 4) (tile2_1 c M7 M8 M9 f7 f8 f9 5) (tile2_1 c M7 M8 M9 f7 f8 f9 6) (tile2_1 c M7 M8 M9 f7 f8 f9 7))
theorem blk_1_at (t : Fin 32) (n : Fin 256) : blk_1 c arg0 hchk M1 M2 M3 M4 M5 M6 M7 M8 M9 M11 M12 f1 f2 f3 f4 f5 f6 f7 f8 f9 f12 (ix2 t n)
    = M12.view.read (Elt Ideal) (acc0 c arg0 M12 f12) (ix2 t ⟨256 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (256 + n.val) * kernelRun.sl.r_558 c arg0 hchk M1 M3 f1 f3 (ix2 t 0)) (0 : EReal) := by
  unfold blk_1
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (256 + n.val))
      (fun i => hidB_at _ _ _ _ _ _ _ _ _ 0 t i) (fun i => tile2_1_at _ _ _ _ _ _ _ 0 i n) (fun i => hidB_at _ _ _ _ _ _ _ _ _ 1 t i) (fun i => tile2_1_at _ _ _ _ _ _ _ 1 i n) (fun i => hidB_at _ _ _ _ _ _ _ _ _ 2 t i) (fun i => tile2_1_at _ _ _ _ _ _ _ 2 i n) (fun i => hidB_at _ _ _ _ _ _ _ _ _ 3 t i) (fun i => tile2_1_at _ _ _ _ _ _ _ 3 i n) (fun i => hidB_at _ _ _ _ _ _ _ _ _ 4 t i) (fun i => tile2_1_at _ _ _ _ _ _ _ 4 i n) (fun i => hidB_at _ _ _ _ _ _ _ _ _ 5 t i) (fun i => tile2_1_at _ _ _ _ _ _ _ 5 i n) (fun i => hidB_at _ _ _ _ _ _ _ _ _ 6 t i) (fun i => tile2_1_at _ _ _ _ _ _ _ 6 i n) (fun i => hidB_at _ _ _ _ _ _ _ _ _ 7 t i) (fun i => tile2_1_at _ _ _ _ _ _ _ 7 i n)]
  congr 1
  rw [View.readAt_eq_ld]
  pointwise

/-- Block 2 that the run stores. -/
def blk_2 : FVec Ideal S32x256 .f32 := accB (View.readAt (Elt Ideal) M12.view (Rect.unit (s := S32x2816) ![0, 512] S32x256.size inb_S32x2816_S32x256_0_512).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_2 c M7 M8 M9 f7 f8 f9 0) (tile2_2 c M7 M8 M9 f7 f8 f9 1) (tile2_2 c M7 M8 M9 f7 f8 f9 2) (tile2_2 c M7 M8 M9 f7 f8 f9 3) (tile2_2 c M7 M8 M9 f7 f8 f9 4) (tile2_2 c M7 M8 M9 f7 f8 f9 5) (tile2_2 c M7 M8 M9 f7 f8 f9 6) (tile2_2 c M7 M8 M9 f7 f8 f9 7))
theorem blk_2_at (t : Fin 32) (n : Fin 256) : blk_2 c arg0 hchk M1 M2 M3 M4 M5 M6 M7 M8 M9 M11 M12 f1 f2 f3 f4 f5 f6 f7 f8 f9 f12 (ix2 t n)
    = M12.view.read (Elt Ideal) (acc0 c arg0 M12 f12) (ix2 t ⟨512 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (512 + n.val) * kernelRun.sl.r_558 c arg0 hchk M1 M3 f1 f3 (ix2 t 0)) (0 : EReal) := by
  unfold blk_2
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (512 + n.val))
      (fun i => hidB_at _ _ _ _ _ _ _ _ _ 0 t i) (fun i => tile2_2_at _ _ _ _ _ _ _ 0 i n) (fun i => hidB_at _ _ _ _ _ _ _ _ _ 1 t i) (fun i => tile2_2_at _ _ _ _ _ _ _ 1 i n) (fun i => hidB_at _ _ _ _ _ _ _ _ _ 2 t i) (fun i => tile2_2_at _ _ _ _ _ _ _ 2 i n) (fun i => hidB_at _ _ _ _ _ _ _ _ _ 3 t i) (fun i => tile2_2_at _ _ _ _ _ _ _ 3 i n) (fun i => hidB_at _ _ _ _ _ _ _ _ _ 4 t i) (fun i => tile2_2_at _ _ _ _ _ _ _ 4 i n) (fun i => hidB_at _ _ _ _ _ _ _ _ _ 5 t i) (fun i => tile2_2_at _ _ _ _ _ _ _ 5 i n) (fun i => hidB_at _ _ _ _ _ _ _ _ _ 6 t i) (fun i => tile2_2_at _ _ _ _ _ _ _ 6 i n) (fun i => hidB_at _ _ _ _ _ _ _ _ _ 7 t i) (fun i => tile2_2_at _ _ _ _ _ _ _ 7 i n)]
  congr 1
  rw [View.readAt_eq_ld]
  pointwise

/-- Block 3 that the run stores. -/
def blk_3 : FVec Ideal S32x256 .f32 := accB (View.readAt (Elt Ideal) M12.view (Rect.unit (s := S32x2816) ![0, 768] S32x256.size inb_S32x2816_S32x256_0_768).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_3 c M7 M8 M9 f7 f8 f9 0) (tile2_3 c M7 M8 M9 f7 f8 f9 1) (tile2_3 c M7 M8 M9 f7 f8 f9 2) (tile2_3 c M7 M8 M9 f7 f8 f9 3) (tile2_3 c M7 M8 M9 f7 f8 f9 4) (tile2_3 c M7 M8 M9 f7 f8 f9 5) (tile2_3 c M7 M8 M9 f7 f8 f9 6) (tile2_3 c M7 M8 M9 f7 f8 f9 7))
theorem blk_3_at (t : Fin 32) (n : Fin 256) : blk_3 c arg0 hchk M1 M2 M3 M4 M5 M6 M7 M8 M9 M11 M12 f1 f2 f3 f4 f5 f6 f7 f8 f9 f12 (ix2 t n)
    = M12.view.read (Elt Ideal) (acc0 c arg0 M12 f12) (ix2 t ⟨768 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (768 + n.val) * kernelRun.sl.r_558 c arg0 hchk M1 M3 f1 f3 (ix2 t 0)) (0 : EReal) := by
  unfold blk_3
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (768 + n.val))
      (fun i => hidB_at _ _ _ _ _ _ _ _ _ 0 t i) (fun i => tile2_3_at _ _ _ _ _ _ _ 0 i n) (fun i => hidB_at _ _ _ _ _ _ _ _ _ 1 t i) (fun i => tile2_3_at _ _ _ _ _ _ _ 1 i n) (fun i => hidB_at _ _ _ _ _ _ _ _ _ 2 t i) (fun i => tile2_3_at _ _ _ _ _ _ _ 2 i n) (fun i => hidB_at _ _ _ _ _ _ _ _ _ 3 t i) (fun i => tile2_3_at _ _ _ _ _ _ _ 3 i n) (fun i => hidB_at _ _ _ _ _ _ _ _ _ 4 t i) (fun i => tile2_3_at _ _ _ _ _ _ _ 4 i n) (fun i => hidB_at _ _ _ _ _ _ _ _ _ 5 t i) (fun i => tile2_3_at _ _ _ _ _ _ _ 5 i n) (fun i => hidB_at _ _ _ _ _ _ _ _ _ 6 t i) (fun i => tile2_3_at _ _ _ _ _ _ _ 6 i n) (fun i => hidB_at _ _ _ _ _ _ _ _ _ 7 t i) (fun i => tile2_3_at _ _ _ _ _ _ _ 7 i n)]
  congr 1
  rw [View.readAt_eq_ld]
  pointwise

/-- Block 4 that the run stores. -/
def blk_4 : FVec Ideal S32x256 .f32 := accB (View.readAt (Elt Ideal) M12.view (Rect.unit (s := S32x2816) ![0, 1024] S32x256.size inb_S32x2816_S32x256_0_1024).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_4 c M7 M8 M9 f7 f8 f9 0) (tile2_4 c M7 M8 M9 f7 f8 f9 1) (tile2_4 c M7 M8 M9 f7 f8 f9 2) (tile2_4 c M7 M8 M9 f7 f8 f9 3) (tile2_4 c M7 M8 M9 f7 f8 f9 4) (tile2_4 c M7 M8 M9 f7 f8 f9 5) (tile2_4 c M7 M8 M9 f7 f8 f9 6) (tile2_4 c M7 M8 M9 f7 f8 f9 7))
theorem blk_4_at (t : Fin 32) (n : Fin 256) : blk_4 c arg0 hchk M1 M2 M3 M4 M5 M6 M7 M8 M9 M11 M12 f1 f2 f3 f4 f5 f6 f7 f8 f9 f12 (ix2 t n)
    = M12.view.read (Elt Ideal) (acc0 c arg0 M12 f12) (ix2 t ⟨1024 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (1024 + n.val) * kernelRun.sl.r_558 c arg0 hchk M1 M3 f1 f3 (ix2 t 0)) (0 : EReal) := by
  unfold blk_4
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (1024 + n.val))
      (fun i => hidB_at _ _ _ _ _ _ _ _ _ 0 t i) (fun i => tile2_4_at _ _ _ _ _ _ _ 0 i n) (fun i => hidB_at _ _ _ _ _ _ _ _ _ 1 t i) (fun i => tile2_4_at _ _ _ _ _ _ _ 1 i n) (fun i => hidB_at _ _ _ _ _ _ _ _ _ 2 t i) (fun i => tile2_4_at _ _ _ _ _ _ _ 2 i n) (fun i => hidB_at _ _ _ _ _ _ _ _ _ 3 t i) (fun i => tile2_4_at _ _ _ _ _ _ _ 3 i n) (fun i => hidB_at _ _ _ _ _ _ _ _ _ 4 t i) (fun i => tile2_4_at _ _ _ _ _ _ _ 4 i n) (fun i => hidB_at _ _ _ _ _ _ _ _ _ 5 t i) (fun i => tile2_4_at _ _ _ _ _ _ _ 5 i n) (fun i => hidB_at _ _ _ _ _ _ _ _ _ 6 t i) (fun i => tile2_4_at _ _ _ _ _ _ _ 6 i n) (fun i => hidB_at _ _ _ _ _ _ _ _ _ 7 t i) (fun i => tile2_4_at _ _ _ _ _ _ _ 7 i n)]
  congr 1
  rw [View.readAt_eq_ld]
  pointwise

/-- Block 5 that the run stores. -/
def blk_5 : FVec Ideal S32x256 .f32 := accB (View.readAt (Elt Ideal) M12.view (Rect.unit (s := S32x2816) ![0, 1280] S32x256.size inb_S32x2816_S32x256_0_1280).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_5 c M7 M8 M9 f7 f8 f9 0) (tile2_5 c M7 M8 M9 f7 f8 f9 1) (tile2_5 c M7 M8 M9 f7 f8 f9 2) (tile2_5 c M7 M8 M9 f7 f8 f9 3) (tile2_5 c M7 M8 M9 f7 f8 f9 4) (tile2_5 c M7 M8 M9 f7 f8 f9 5) (tile2_5 c M7 M8 M9 f7 f8 f9 6) (tile2_5 c M7 M8 M9 f7 f8 f9 7))
theorem blk_5_at (t : Fin 32) (n : Fin 256) : blk_5 c arg0 hchk M1 M2 M3 M4 M5 M6 M7 M8 M9 M11 M12 f1 f2 f3 f4 f5 f6 f7 f8 f9 f12 (ix2 t n)
    = M12.view.read (Elt Ideal) (acc0 c arg0 M12 f12) (ix2 t ⟨1280 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (1280 + n.val) * kernelRun.sl.r_558 c arg0 hchk M1 M3 f1 f3 (ix2 t 0)) (0 : EReal) := by
  unfold blk_5
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (1280 + n.val))
      (fun i => hidB_at _ _ _ _ _ _ _ _ _ 0 t i) (fun i => tile2_5_at _ _ _ _ _ _ _ 0 i n) (fun i => hidB_at _ _ _ _ _ _ _ _ _ 1 t i) (fun i => tile2_5_at _ _ _ _ _ _ _ 1 i n) (fun i => hidB_at _ _ _ _ _ _ _ _ _ 2 t i) (fun i => tile2_5_at _ _ _ _ _ _ _ 2 i n) (fun i => hidB_at _ _ _ _ _ _ _ _ _ 3 t i) (fun i => tile2_5_at _ _ _ _ _ _ _ 3 i n) (fun i => hidB_at _ _ _ _ _ _ _ _ _ 4 t i) (fun i => tile2_5_at _ _ _ _ _ _ _ 4 i n) (fun i => hidB_at _ _ _ _ _ _ _ _ _ 5 t i) (fun i => tile2_5_at _ _ _ _ _ _ _ 5 i n) (fun i => hidB_at _ _ _ _ _ _ _ _ _ 6 t i) (fun i => tile2_5_at _ _ _ _ _ _ _ 6 i n) (fun i => hidB_at _ _ _ _ _ _ _ _ _ 7 t i) (fun i => tile2_5_at _ _ _ _ _ _ _ 7 i n)]
  congr 1
  rw [View.readAt_eq_ld]
  pointwise

/-- Block 6 that the run stores. -/
def blk_6 : FVec Ideal S32x256 .f32 := accB (View.readAt (Elt Ideal) M12.view (Rect.unit (s := S32x2816) ![0, 1536] S32x256.size inb_S32x2816_S32x256_0_1536).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_6 c M7 M8 M9 f7 f8 f9 0) (tile2_6 c M7 M8 M9 f7 f8 f9 1) (tile2_6 c M7 M8 M9 f7 f8 f9 2) (tile2_6 c M7 M8 M9 f7 f8 f9 3) (tile2_6 c M7 M8 M9 f7 f8 f9 4) (tile2_6 c M7 M8 M9 f7 f8 f9 5) (tile2_6 c M7 M8 M9 f7 f8 f9 6) (tile2_6 c M7 M8 M9 f7 f8 f9 7))
theorem blk_6_at (t : Fin 32) (n : Fin 256) : blk_6 c arg0 hchk M1 M2 M3 M4 M5 M6 M7 M8 M9 M11 M12 f1 f2 f3 f4 f5 f6 f7 f8 f9 f12 (ix2 t n)
    = M12.view.read (Elt Ideal) (acc0 c arg0 M12 f12) (ix2 t ⟨1536 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (1536 + n.val) * kernelRun.sl.r_558 c arg0 hchk M1 M3 f1 f3 (ix2 t 0)) (0 : EReal) := by
  unfold blk_6
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (1536 + n.val))
      (fun i => hidB_at _ _ _ _ _ _ _ _ _ 0 t i) (fun i => tile2_6_at _ _ _ _ _ _ _ 0 i n) (fun i => hidB_at _ _ _ _ _ _ _ _ _ 1 t i) (fun i => tile2_6_at _ _ _ _ _ _ _ 1 i n) (fun i => hidB_at _ _ _ _ _ _ _ _ _ 2 t i) (fun i => tile2_6_at _ _ _ _ _ _ _ 2 i n) (fun i => hidB_at _ _ _ _ _ _ _ _ _ 3 t i) (fun i => tile2_6_at _ _ _ _ _ _ _ 3 i n) (fun i => hidB_at _ _ _ _ _ _ _ _ _ 4 t i) (fun i => tile2_6_at _ _ _ _ _ _ _ 4 i n) (fun i => hidB_at _ _ _ _ _ _ _ _ _ 5 t i) (fun i => tile2_6_at _ _ _ _ _ _ _ 5 i n) (fun i => hidB_at _ _ _ _ _ _ _ _ _ 6 t i) (fun i => tile2_6_at _ _ _ _ _ _ _ 6 i n) (fun i => hidB_at _ _ _ _ _ _ _ _ _ 7 t i) (fun i => tile2_6_at _ _ _ _ _ _ _ 7 i n)]
  congr 1
  rw [View.readAt_eq_ld]
  pointwise

/-- Block 7 that the run stores. -/
def blk_7 : FVec Ideal S32x256 .f32 := accB (View.readAt (Elt Ideal) M12.view (Rect.unit (s := S32x2816) ![0, 1792] S32x256.size inb_S32x2816_S32x256_0_1792).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_7 c M7 M8 M9 f7 f8 f9 0) (tile2_7 c M7 M8 M9 f7 f8 f9 1) (tile2_7 c M7 M8 M9 f7 f8 f9 2) (tile2_7 c M7 M8 M9 f7 f8 f9 3) (tile2_7 c M7 M8 M9 f7 f8 f9 4) (tile2_7 c M7 M8 M9 f7 f8 f9 5) (tile2_7 c M7 M8 M9 f7 f8 f9 6) (tile2_7 c M7 M8 M9 f7 f8 f9 7))
theorem blk_7_at (t : Fin 32) (n : Fin 256) : blk_7 c arg0 hchk M1 M2 M3 M4 M5 M6 M7 M8 M9 M11 M12 f1 f2 f3 f4 f5 f6 f7 f8 f9 f12 (ix2 t n)
    = M12.view.read (Elt Ideal) (acc0 c arg0 M12 f12) (ix2 t ⟨1792 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (1792 + n.val) * kernelRun.sl.r_558 c arg0 hchk M1 M3 f1 f3 (ix2 t 0)) (0 : EReal) := by
  unfold blk_7
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (1792 + n.val))
      (fun i => hidB_at _ _ _ _ _ _ _ _ _ 0 t i) (fun i => tile2_7_at _ _ _ _ _ _ _ 0 i n) (fun i => hidB_at _ _ _ _ _ _ _ _ _ 1 t i) (fun i => tile2_7_at _ _ _ _ _ _ _ 1 i n) (fun i => hidB_at _ _ _ _ _ _ _ _ _ 2 t i) (fun i => tile2_7_at _ _ _ _ _ _ _ 2 i n) (fun i => hidB_at _ _ _ _ _ _ _ _ _ 3 t i) (fun i => tile2_7_at _ _ _ _ _ _ _ 3 i n) (fun i => hidB_at _ _ _ _ _ _ _ _ _ 4 t i) (fun i => tile2_7_at _ _ _ _ _ _ _ 4 i n) (fun i => hidB_at _ _ _ _ _ _ _ _ _ 5 t i) (fun i => tile2_7_at _ _ _ _ _ _ _ 5 i n) (fun i => hidB_at _ _ _ _ _ _ _ _ _ 6 t i) (fun i => tile2_7_at _ _ _ _ _ _ _ 6 i n) (fun i => hidB_at _ _ _ _ _ _ _ _ _ 7 t i) (fun i => tile2_7_at _ _ _ _ _ _ _ 7 i n)]
  congr 1
  rw [View.readAt_eq_ld]
  pointwise

/-- Block 8 that the run stores. -/
def blk_8 : FVec Ideal S32x256 .f32 := accB (View.readAt (Elt Ideal) M12.view (Rect.unit (s := S32x2816) ![0, 2048] S32x256.size inb_S32x2816_S32x256_0_2048).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_8 c M7 M8 M9 f7 f8 f9 0) (tile2_8 c M7 M8 M9 f7 f8 f9 1) (tile2_8 c M7 M8 M9 f7 f8 f9 2) (tile2_8 c M7 M8 M9 f7 f8 f9 3) (tile2_8 c M7 M8 M9 f7 f8 f9 4) (tile2_8 c M7 M8 M9 f7 f8 f9 5) (tile2_8 c M7 M8 M9 f7 f8 f9 6) (tile2_8 c M7 M8 M9 f7 f8 f9 7))
theorem blk_8_at (t : Fin 32) (n : Fin 256) : blk_8 c arg0 hchk M1 M2 M3 M4 M5 M6 M7 M8 M9 M11 M12 f1 f2 f3 f4 f5 f6 f7 f8 f9 f12 (ix2 t n)
    = M12.view.read (Elt Ideal) (acc0 c arg0 M12 f12) (ix2 t ⟨2048 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (2048 + n.val) * kernelRun.sl.r_558 c arg0 hchk M1 M3 f1 f3 (ix2 t 0)) (0 : EReal) := by
  unfold blk_8
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (2048 + n.val))
      (fun i => hidB_at _ _ _ _ _ _ _ _ _ 0 t i) (fun i => tile2_8_at _ _ _ _ _ _ _ 0 i n) (fun i => hidB_at _ _ _ _ _ _ _ _ _ 1 t i) (fun i => tile2_8_at _ _ _ _ _ _ _ 1 i n) (fun i => hidB_at _ _ _ _ _ _ _ _ _ 2 t i) (fun i => tile2_8_at _ _ _ _ _ _ _ 2 i n) (fun i => hidB_at _ _ _ _ _ _ _ _ _ 3 t i) (fun i => tile2_8_at _ _ _ _ _ _ _ 3 i n) (fun i => hidB_at _ _ _ _ _ _ _ _ _ 4 t i) (fun i => tile2_8_at _ _ _ _ _ _ _ 4 i n) (fun i => hidB_at _ _ _ _ _ _ _ _ _ 5 t i) (fun i => tile2_8_at _ _ _ _ _ _ _ 5 i n) (fun i => hidB_at _ _ _ _ _ _ _ _ _ 6 t i) (fun i => tile2_8_at _ _ _ _ _ _ _ 6 i n) (fun i => hidB_at _ _ _ _ _ _ _ _ _ 7 t i) (fun i => tile2_8_at _ _ _ _ _ _ _ 7 i n)]
  congr 1
  rw [View.readAt_eq_ld]
  pointwise

/-- Block 9 that the run stores. -/
def blk_9 : FVec Ideal S32x256 .f32 := accB (View.readAt (Elt Ideal) M12.view (Rect.unit (s := S32x2816) ![0, 2304] S32x256.size inb_S32x2816_S32x256_0_2304).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_9 c M7 M8 M9 f7 f8 f9 0) (tile2_9 c M7 M8 M9 f7 f8 f9 1) (tile2_9 c M7 M8 M9 f7 f8 f9 2) (tile2_9 c M7 M8 M9 f7 f8 f9 3) (tile2_9 c M7 M8 M9 f7 f8 f9 4) (tile2_9 c M7 M8 M9 f7 f8 f9 5) (tile2_9 c M7 M8 M9 f7 f8 f9 6) (tile2_9 c M7 M8 M9 f7 f8 f9 7))
theorem blk_9_at (t : Fin 32) (n : Fin 256) : blk_9 c arg0 hchk M1 M2 M3 M4 M5 M6 M7 M8 M9 M11 M12 f1 f2 f3 f4 f5 f6 f7 f8 f9 f12 (ix2 t n)
    = M12.view.read (Elt Ideal) (acc0 c arg0 M12 f12) (ix2 t ⟨2304 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (2304 + n.val) * kernelRun.sl.r_558 c arg0 hchk M1 M3 f1 f3 (ix2 t 0)) (0 : EReal) := by
  unfold blk_9
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (2304 + n.val))
      (fun i => hidB_at _ _ _ _ _ _ _ _ _ 0 t i) (fun i => tile2_9_at _ _ _ _ _ _ _ 0 i n) (fun i => hidB_at _ _ _ _ _ _ _ _ _ 1 t i) (fun i => tile2_9_at _ _ _ _ _ _ _ 1 i n) (fun i => hidB_at _ _ _ _ _ _ _ _ _ 2 t i) (fun i => tile2_9_at _ _ _ _ _ _ _ 2 i n) (fun i => hidB_at _ _ _ _ _ _ _ _ _ 3 t i) (fun i => tile2_9_at _ _ _ _ _ _ _ 3 i n) (fun i => hidB_at _ _ _ _ _ _ _ _ _ 4 t i) (fun i => tile2_9_at _ _ _ _ _ _ _ 4 i n) (fun i => hidB_at _ _ _ _ _ _ _ _ _ 5 t i) (fun i => tile2_9_at _ _ _ _ _ _ _ 5 i n) (fun i => hidB_at _ _ _ _ _ _ _ _ _ 6 t i) (fun i => tile2_9_at _ _ _ _ _ _ _ 6 i n) (fun i => hidB_at _ _ _ _ _ _ _ _ _ 7 t i) (fun i => tile2_9_at _ _ _ _ _ _ _ 7 i n)]
  congr 1
  rw [View.readAt_eq_ld]
  pointwise

/-- Block 10 that the run stores. -/
def blk_10 : FVec Ideal S32x256 .f32 := accB (View.readAt (Elt Ideal) M12.view (Rect.unit (s := S32x2816) ![0, 2560] S32x256.size inb_S32x2816_S32x256_0_2560).toLoadRect (acc0 c arg0 M12 f12))
      (kernelRun.sl.r_560 c arg0 hchk M1 M3 f1 f3) (kernelRun.sl.r_558 c arg0 hchk M1 M3 f1 f3)
      (down (M11.view.readCov (kernelRun.sl.H11_8 c M2 M4 M5 M6 f2 f4 f5 f6) (Rect.unit (s := S32x2048) ![0, 0] S32x256.size inb_S32x2048_S32x256_0_0).toLoadRect) (M11.view.readCov (kernelRun.sl.H11_8 c M2 M4 M5 M6 f2 f4 f5 f6) (Rect.unit (s := S32x2048) ![0, 256] S32x256.size inb_S32x2048_S32x256_0_256).toLoadRect) (M11.view.readCov (kernelRun.sl.H11_8 c M2 M4 M5 M6 f2 f4 f5 f6) (Rect.unit (s := S32x2048) ![0, 512] S32x256.size inb_S32x2048_S32x256_0_512).toLoadRect) (M11.view.readCov (kernelRun.sl.H11_8 c M2 M4 M5 M6 f2 f4 f5 f6) (Rect.unit (s := S32x2048) ![0, 768] S32x256.size inb_S32x2048_S32x256_0_768).toLoadRect) (M11.view.readCov (kernelRun.sl.H11_8 c M2 M4 M5 M6 f2 f4 f5 f6) (Rect.unit (s := S32x2048) ![0, 1024] S32x256.size inb_S32x2048_S32x256_0_1024).toLoadRect) (M11.view.readCov (kernelRun.sl.H11_8 c M2 M4 M5 M6 f2 f4 f5 f6) (Rect.unit (s := S32x2048) ![0, 1280] S32x256.size inb_S32x2048_S32x256_0_1280).toLoadRect) (M11.view.readCov (kernelRun.sl.H11_8 c M2 M4 M5 M6 f2 f4 f5 f6) (Rect.unit (s := S32x2048) ![0, 1536] S32x256.size inb_S32x2048_S32x256_0_1536).toLoadRect) (M11.view.readCov (kernelRun.sl.H11_8 c M2 M4 M5 M6 f2 f4 f5 f6) (Rect.unit (s := S32x2048) ![0, 1792] S32x256.size inb_S32x2048_S32x256_0_1792).toLoadRect) (tile2_10 c M7 M8 M9 f7 f8 f9 0) (tile2_10 c M7 M8 M9 f7 f8 f9 1) (tile2_10 c M7 M8 M9 f7 f8 f9 2) (tile2_10 c M7 M8 M9 f7 f8 f9 3) (tile2_10 c M7 M8 M9 f7 f8 f9 4) (tile2_10 c M7 M8 M9 f7 f8 f9 5) (tile2_10 c M7 M8 M9 f7 f8 f9 6) (tile2_10 c M7 M8 M9 f7 f8 f9 7))
theorem blk_10_at (t : Fin 32) (n : Fin 256) : blk_10 c arg0 hchk M1 M2 M3 M4 M5 M6 M7 M8 M9 M11 M12 f1 f2 f3 f4 f5 f6 f7 f8 f9 f12 (ix2 t n)
    = M12.view.read (Elt Ideal) (acc0 c arg0 M12 f12) (ix2 t ⟨2560 + n.val, by have := n.isLt; omega⟩)
      + Scalar.select (kernelRun.sl.r_560 c arg0 hchk M1 M3 f1 f3 (ix2 t 0)) (yy (rX c M2 f2 t.val) (rW c M4 M5 M6 f4 f5 f6) (rW2 c M7 M8 M9 f7 f8 f9) (2560 + n.val) * kernelRun.sl.r_558 c arg0 hchk M1 M3 f1 f3 (ix2 t 0)) (0 : EReal) := by
  unfold blk_10
  rw [accB_at, hid_read_0, hid_read_1, hid_read_2, hid_read_3, hid_read_4, hid_read_5, hid_read_6, hid_read_7,
    down_yy _ _ _ _ _ _ _ _ _ _ _ _ _ _ _ _ t n (hh (rX c M2 f2 t.val) (rW c M4 M5 M6 f4 f5 f6)) (fun f => rW2 c M7 M8 M9 f7 f8 f9 f (2560 + n.val))
      (fun i => hidB_at _ _ _ _ _ _ _ _ _ 0 t i) (fun i => tile2_10_at _ _ _ _ _ _ _ 0 i n) (fun i => hidB_at _ _ _ _ _ _ _ _ _ 1 t i) (fun i => tile2_10_at _ _ _ _ _ _ _ 1 i n) (fun i => hidB_at _ _ _ _ _ _ _ _ _ 2 t i) (fun i => tile2_10_at _ _ _ _ _ _ _ 2 i n) (fun i => hidB_at _ _ _ _ _ _ _ _ _ 3 t i) (fun i => tile2_10_at _ _ _ _ _ _ _ 3 i n) (fun i => hidB_at _ _ _ _ _ _ _ _ _ 4 t i) (fun i => tile2_10_at _ _ _ _ _ _ _ 4 i n) (fun i => hidB_at _ _ _ _ _ _ _ _ _ 5 t i) (fun i => tile2_10_at _ _ _ _ _ _ _ 5 i n) (fun i => hidB_at _ _ _ _ _ _ _ _ _ 6 t i) (fun i => tile2_10_at _ _ _ _ _ _ _ 6 i n) (fun i => hidB_at _ _ _ _ _ _ _ _ _ 7 t i) (fun i => tile2_10_at _ _ _ _ _ _ _ 7 i n)]
  congr 1
  rw [View.readAt_eq_ld]
  pointwise

/-- The pieces that the run stores in the accumulator. -/
theorem H12_eq : kernelRun.sl.H12_11 c arg0 hchk M1 M2 M3 M4 M5 M6 M7 M8 M9 M11 M12 f1 f2 f3 f4 f5 f6 f7 f8 f9 f12 = [⟨colR 2816 2560 inb_S32x2816_S32x256_0_2560, blk_10 c arg0 hchk M1 M2 M3 M4 M5 M6 M7 M8 M9 M11 M12 f1 f2 f3 f4 f5 f6 f7 f8 f9 f12⟩, ⟨colR 2816 2304 inb_S32x2816_S32x256_0_2304, blk_9 c arg0 hchk M1 M2 M3 M4 M5 M6 M7 M8 M9 M11 M12 f1 f2 f3 f4 f5 f6 f7 f8 f9 f12⟩, ⟨colR 2816 2048 inb_S32x2816_S32x256_0_2048, blk_8 c arg0 hchk M1 M2 M3 M4 M5 M6 M7 M8 M9 M11 M12 f1 f2 f3 f4 f5 f6 f7 f8 f9 f12⟩, ⟨colR 2816 1792 inb_S32x2816_S32x256_0_1792, blk_7 c arg0 hchk M1 M2 M3 M4 M5 M6 M7 M8 M9 M11 M12 f1 f2 f3 f4 f5 f6 f7 f8 f9 f12⟩, ⟨colR 2816 1536 inb_S32x2816_S32x256_0_1536, blk_6 c arg0 hchk M1 M2 M3 M4 M5 M6 M7 M8 M9 M11 M12 f1 f2 f3 f4 f5 f6 f7 f8 f9 f12⟩, ⟨colR 2816 1280 inb_S32x2816_S32x256_0_1280, blk_5 c arg0 hchk M1 M2 M3 M4 M5 M6 M7 M8 M9 M11 M12 f1 f2 f3 f4 f5 f6 f7 f8 f9 f12⟩, ⟨colR 2816 1024 inb_S32x2816_S32x256_0_1024, blk_4 c arg0 hchk M1 M2 M3 M4 M5 M6 M7 M8 M9 M11 M12 f1 f2 f3 f4 f5 f6 f7 f8 f9 f12⟩, ⟨colR 2816 768 inb_S32x2816_S32x256_0_768, blk_3 c arg0 hchk M1 M2 M3 M4 M5 M6 M7 M8 M9 M11 M12 f1 f2 f3 f4 f5 f6 f7 f8 f9 f12⟩, ⟨colR 2816 512 inb_S32x2816_S32x256_0_512, blk_2 c arg0 hchk M1 M2 M3 M4 M5 M6 M7 M8 M9 M11 M12 f1 f2 f3 f4 f5 f6 f7 f8 f9 f12⟩, ⟨colR 2816 256 inb_S32x2816_S32x256_0_256, blk_1 c arg0 hchk M1 M2 M3 M4 M5 M6 M7 M8 M9 M11 M12 f1 f2 f3 f4 f5 f6 f7 f8 f9 f12⟩, ⟨colR 2816 0 inb_S32x2816_S32x256_0_0, blk_0 c arg0 hchk M1 M2 M3 M4 M5 M6 M7 M8 M9 M11 M12 f1 f2 f3 f4 f5 f6 f7 f8 f9 f12⟩] := rfl

theorem canon_0 (t : Fin 32) (n : Fin 256) : View.canon (kernelRun.sl.H12_11 c arg0 hchk M1 M2 M3 M4 M5 M6 M7 M8 M9 M11 M12 f1 f2 f3 f4 f5 f6 f7 f8 f9 f12) (ix2 t ⟨0 + n.val, by have := n.isLt; omega⟩) = blk_0 c arg0 hchk M1 M2 M3 M4 M5 M6 M7 M8 M9 M11 M12 f1 f2 f3 f4 f5 f6 f7 f8 f9 f12 (ix2 t n) := by
  rw [H12_eq]
  rw [canon_skip _ _ _ _ _ (Or.inl (by show 0 + n.val < 2560; have := n.isLt; omega)), canon_skip _ _ _ _ _ (Or.inl (by show 0 + n.val < 2304; have := n.isLt; omega)), canon_skip _ _ _ _ _ (Or.inl (by show 0 + n.val < 2048; have := n.isLt; omega)), canon_skip _ _ _ _ _ (Or.inl (by show 0 + n.val < 1792; have := n.isLt; omega)), canon_skip _ _ _ _ _ (Or.inl (by show 0 + n.val < 1536; have := n.isLt; omega)), canon_skip _ _ _ _ _ (Or.inl (by show 0 + n.val < 1280; have := n.isLt; omega)), canon_skip _ _ _ _ _ (Or.inl (by show 0 + n.val < 1024; have := n.isLt; omega)), canon_skip _ _ _ _ _ (Or.inl (by show 0 + n.val < 768; have := n.isLt; omega)), canon_skip _ _ _ _ _ (Or.inl (by show 0 + n.val < 512; have := n.isLt; omega)), canon_skip _ _ _ _ _ (Or.inl (by show 0 + n.val < 256; have := n.isLt; omega))]
  exact canon_hit _ _ _ t n _

theorem canon_1 (t : Fin 32) (n : Fin 256) : View.canon (kernelRun.sl.H12_11 c arg0 hchk M1 M2 M3 M4 M5 M6 M7 M8 M9 M11 M12 f1 f2 f3 f4 f5 f6 f7 f8 f9 f12) (ix2 t ⟨256 + n.val, by have := n.isLt; omega⟩) = blk_1 c arg0 hchk M1 M2 M3 M4 M5 M6 M7 M8 M9 M11 M12 f1 f2 f3 f4 f5 f6 f7 f8 f9 f12 (ix2 t n) := by
  rw [H12_eq]
  rw [canon_skip _ _ _ _ _ (Or.inl (by show 256 + n.val < 2560; have := n.isLt; omega)), canon_skip _ _ _ _ _ (Or.inl (by show 256 + n.val < 2304; have := n.isLt; omega)), canon_skip _ _ _ _ _ (Or.inl (by show 256 + n.val < 2048; have := n.isLt; omega)), canon_skip _ _ _ _ _ (Or.inl (by show 256 + n.val < 1792; have := n.isLt; omega)), canon_skip _ _ _ _ _ (Or.inl (by show 256 + n.val < 1536; have := n.isLt; omega)), canon_skip _ _ _ _ _ (Or.inl (by show 256 + n.val < 1280; have := n.isLt; omega)), canon_skip _ _ _ _ _ (Or.inl (by show 256 + n.val < 1024; have := n.isLt; omega)), canon_skip _ _ _ _ _ (Or.inl (by show 256 + n.val < 768; have := n.isLt; omega)), canon_skip _ _ _ _ _ (Or.inl (by show 256 + n.val < 512; have := n.isLt; omega))]
  exact canon_hit _ _ _ t n _

theorem canon_2 (t : Fin 32) (n : Fin 256) : View.canon (kernelRun.sl.H12_11 c arg0 hchk M1 M2 M3 M4 M5 M6 M7 M8 M9 M11 M12 f1 f2 f3 f4 f5 f6 f7 f8 f9 f12) (ix2 t ⟨512 + n.val, by have := n.isLt; omega⟩) = blk_2 c arg0 hchk M1 M2 M3 M4 M5 M6 M7 M8 M9 M11 M12 f1 f2 f3 f4 f5 f6 f7 f8 f9 f12 (ix2 t n) := by
  rw [H12_eq]
  rw [canon_skip _ _ _ _ _ (Or.inl (by show 512 + n.val < 2560; have := n.isLt; omega)), canon_skip _ _ _ _ _ (Or.inl (by show 512 + n.val < 2304; have := n.isLt; omega)), canon_skip _ _ _ _ _ (Or.inl (by show 512 + n.val < 2048; have := n.isLt; omega)), canon_skip _ _ _ _ _ (Or.inl (by show 512 + n.val < 1792; have := n.isLt; omega)), canon_skip _ _ _ _ _ (Or.inl (by show 512 + n.val < 1536; have := n.isLt; omega)), canon_skip _ _ _ _ _ (Or.inl (by show 512 + n.val < 1280; have := n.isLt; omega)), canon_skip _ _ _ _ _ (Or.inl (by show 512 + n.val < 1024; have := n.isLt; omega)), canon_skip _ _ _ _ _ (Or.inl (by show 512 + n.val < 768; have := n.isLt; omega))]
  exact canon_hit _ _ _ t n _

theorem canon_3 (t : Fin 32) (n : Fin 256) : View.canon (kernelRun.sl.H12_11 c arg0 hchk M1 M2 M3 M4 M5 M6 M7 M8 M9 M11 M12 f1 f2 f3 f4 f5 f6 f7 f8 f9 f12) (ix2 t ⟨768 + n.val, by have := n.isLt; omega⟩) = blk_3 c arg0 hchk M1 M2 M3 M4 M5 M6 M7 M8 M9 M11 M12 f1 f2 f3 f4 f5 f6 f7 f8 f9 f12 (ix2 t n) := by
  rw [H12_eq]
  rw [canon_skip _ _ _ _ _ (Or.inl (by show 768 + n.val < 2560; have := n.isLt; omega)), canon_skip _ _ _ _ _ (Or.inl (by show 768 + n.val < 2304; have := n.isLt; omega)), canon_skip _ _ _ _ _ (Or.inl (by show 768 + n.val < 2048; have := n.isLt; omega)), canon_skip _ _ _ _ _ (Or.inl (by show 768 + n.val < 1792; have := n.isLt; omega)), canon_skip _ _ _ _ _ (Or.inl (by show 768 + n.val < 1536; have := n.isLt; omega)), canon_skip _ _ _ _ _ (Or.inl (by show 768 + n.val < 1280; have := n.isLt; omega)), canon_skip _ _ _ _ _ (Or.inl (by show 768 + n.val < 1024; have := n.isLt; omega))]
  exact canon_hit _ _ _ t n _

theorem canon_4 (t : Fin 32) (n : Fin 256) : View.canon (kernelRun.sl.H12_11 c arg0 hchk M1 M2 M3 M4 M5 M6 M7 M8 M9 M11 M12 f1 f2 f3 f4 f5 f6 f7 f8 f9 f12) (ix2 t ⟨1024 + n.val, by have := n.isLt; omega⟩) = blk_4 c arg0 hchk M1 M2 M3 M4 M5 M6 M7 M8 M9 M11 M12 f1 f2 f3 f4 f5 f6 f7 f8 f9 f12 (ix2 t n) := by
  rw [H12_eq]
  rw [canon_skip _ _ _ _ _ (Or.inl (by show 1024 + n.val < 2560; have := n.isLt; omega)), canon_skip _ _ _ _ _ (Or.inl (by show 1024 + n.val < 2304; have := n.isLt; omega)), canon_skip _ _ _ _ _ (Or.inl (by show 1024 + n.val < 2048; have := n.isLt; omega)), canon_skip _ _ _ _ _ (Or.inl (by show 1024 + n.val < 1792; have := n.isLt; omega)), canon_skip _ _ _ _ _ (Or.inl (by show 1024 + n.val < 1536; have := n.isLt; omega)), canon_skip _ _ _ _ _ (Or.inl (by show 1024 + n.val < 1280; have := n.isLt; omega))]
  exact canon_hit _ _ _ t n _

theorem canon_5 (t : Fin 32) (n : Fin 256) : View.canon (kernelRun.sl.H12_11 c arg0 hchk M1 M2 M3 M4 M5 M6 M7 M8 M9 M11 M12 f1 f2 f3 f4 f5 f6 f7 f8 f9 f12) (ix2 t ⟨1280 + n.val, by have := n.isLt; omega⟩) = blk_5 c arg0 hchk M1 M2 M3 M4 M5 M6 M7 M8 M9 M11 M12 f1 f2 f3 f4 f5 f6 f7 f8 f9 f12 (ix2 t n) := by
  rw [H12_eq]
  rw [canon_skip _ _ _ _ _ (Or.inl (by show 1280 + n.val < 2560; have := n.isLt; omega)), canon_skip _ _ _ _ _ (Or.inl (by show 1280 + n.val < 2304; have := n.isLt; omega)), canon_skip _ _ _ _ _ (Or.inl (by show 1280 + n.val < 2048; have := n.isLt; omega)), canon_skip _ _ _ _ _ (Or.inl (by show 1280 + n.val < 1792; have := n.isLt; omega)), canon_skip _ _ _ _ _ (Or.inl (by show 1280 + n.val < 1536; have := n.isLt; omega))]
  exact canon_hit _ _ _ t n _

theorem canon_6 (t : Fin 32) (n : Fin 256) : View.canon (kernelRun.sl.H12_11 c arg0 hchk M1 M2 M3 M4 M5 M6 M7 M8 M9 M11 M12 f1 f2 f3 f4 f5 f6 f7 f8 f9 f12) (ix2 t ⟨1536 + n.val, by have := n.isLt; omega⟩) = blk_6 c arg0 hchk M1 M2 M3 M4 M5 M6 M7 M8 M9 M11 M12 f1 f2 f3 f4 f5 f6 f7 f8 f9 f12 (ix2 t n) := by
  rw [H12_eq]
  rw [canon_skip _ _ _ _ _ (Or.inl (by show 1536 + n.val < 2560; have := n.isLt; omega)), canon_skip _ _ _ _ _ (Or.inl (by show 1536 + n.val < 2304; have := n.isLt; omega)), canon_skip _ _ _ _ _ (Or.inl (by show 1536 + n.val < 2048; have := n.isLt; omega)), canon_skip _ _ _ _ _ (Or.inl (by show 1536 + n.val < 1792; have := n.isLt; omega))]
  exact canon_hit _ _ _ t n _

theorem canon_7 (t : Fin 32) (n : Fin 256) : View.canon (kernelRun.sl.H12_11 c arg0 hchk M1 M2 M3 M4 M5 M6 M7 M8 M9 M11 M12 f1 f2 f3 f4 f5 f6 f7 f8 f9 f12) (ix2 t ⟨1792 + n.val, by have := n.isLt; omega⟩) = blk_7 c arg0 hchk M1 M2 M3 M4 M5 M6 M7 M8 M9 M11 M12 f1 f2 f3 f4 f5 f6 f7 f8 f9 f12 (ix2 t n) := by
  rw [H12_eq]
  rw [canon_skip _ _ _ _ _ (Or.inl (by show 1792 + n.val < 2560; have := n.isLt; omega)), canon_skip _ _ _ _ _ (Or.inl (by show 1792 + n.val < 2304; have := n.isLt; omega)), canon_skip _ _ _ _ _ (Or.inl (by show 1792 + n.val < 2048; have := n.isLt; omega))]
  exact canon_hit _ _ _ t n _

theorem canon_8 (t : Fin 32) (n : Fin 256) : View.canon (kernelRun.sl.H12_11 c arg0 hchk M1 M2 M3 M4 M5 M6 M7 M8 M9 M11 M12 f1 f2 f3 f4 f5 f6 f7 f8 f9 f12) (ix2 t ⟨2048 + n.val, by have := n.isLt; omega⟩) = blk_8 c arg0 hchk M1 M2 M3 M4 M5 M6 M7 M8 M9 M11 M12 f1 f2 f3 f4 f5 f6 f7 f8 f9 f12 (ix2 t n) := by
  rw [H12_eq]
  rw [canon_skip _ _ _ _ _ (Or.inl (by show 2048 + n.val < 2560; have := n.isLt; omega)), canon_skip _ _ _ _ _ (Or.inl (by show 2048 + n.val < 2304; have := n.isLt; omega))]
  exact canon_hit _ _ _ t n _

theorem canon_9 (t : Fin 32) (n : Fin 256) : View.canon (kernelRun.sl.H12_11 c arg0 hchk M1 M2 M3 M4 M5 M6 M7 M8 M9 M11 M12 f1 f2 f3 f4 f5 f6 f7 f8 f9 f12) (ix2 t ⟨2304 + n.val, by have := n.isLt; omega⟩) = blk_9 c arg0 hchk M1 M2 M3 M4 M5 M6 M7 M8 M9 M11 M12 f1 f2 f3 f4 f5 f6 f7 f8 f9 f12 (ix2 t n) := by
  rw [H12_eq]
  rw [canon_skip _ _ _ _ _ (Or.inl (by show 2304 + n.val < 2560; have := n.isLt; omega))]
  exact canon_hit _ _ _ t n _

theorem canon_10 (t : Fin 32) (n : Fin 256) : View.canon (kernelRun.sl.H12_11 c arg0 hchk M1 M2 M3 M4 M5 M6 M7 M8 M9 M11 M12 f1 f2 f3 f4 f5 f6 f7 f8 f9 f12) (ix2 t ⟨2560 + n.val, by have := n.isLt; omega⟩) = blk_10 c arg0 hchk M1 M2 M3 M4 M5 M6 M7 M8 M9 M11 M12 f1 f2 f3 f4 f5 f6 f7 f8 f9 f12 (ix2 t n) := by
  rw [H12_eq]
  skip
  exact canon_hit _ _ _ t n _

/-- The accumulator after the run: what it held, plus the expert's output times the weight where the token takes the expert. -/
theorem acc_at (t : Fin 32) (n : Fin 2816) : View.canon (kernelRun.sl.H12_11 c arg0 hchk M1 M2 M3 M4 M5 M6 M7 M8 M9 M11 M12 f1 f2 f3 f4 f5 f6 f7 f8 f9 f12) (ix2 t n)
    = M12.view.read (Elt Ideal) (acc0 c arg0 M12 f12) (ix2 t n)
      + Scalar.select (kernelRun.sl.r_560 c arg0 hchk M1 M3 f1 f3 (ix2 t 0)) (yy (rX c M2 f2 t.val) (rW c M4 M5 M6 f4 f5 f6) (rW2 c M7 M8 M9 f7 f8 f9) n.val * kernelRun.sl.r_558 c arg0 hchk M1 M3 f1 f3 (ix2 t 0)) (0 : EReal) := by
  have hlt := n.isLt
  by_cases h0 : n.val < 256
  · obtain ⟨q, rfl⟩ : ∃ q : Fin 256, n = ⟨0 + q.val, Nat.lt_of_lt_of_le (Nat.add_lt_add_left q.isLt 0) (by decide)⟩ := ⟨⟨n.val - 0, by omega⟩, Fin.ext (show n.val = 0 + (n.val - 0) by omega)⟩
    exact (canon_0 c arg0 hchk M1 M2 M3 M4 M5 M6 M7 M8 M9 M11 M12 f1 f2 f3 f4 f5 f6 f7 f8 f9 f12 t q).trans (blk_0_at c arg0 hchk M1 M2 M3 M4 M5 M6 M7 M8 M9 M11 M12 f1 f2 f3 f4 f5 f6 f7 f8 f9 f12 t q)
  by_cases h1 : n.val < 512
  · obtain ⟨q, rfl⟩ : ∃ q : Fin 256, n = ⟨256 + q.val, Nat.lt_of_lt_of_le (Nat.add_lt_add_left q.isLt 256) (by decide)⟩ := ⟨⟨n.val - 256, by omega⟩, Fin.ext (show n.val = 256 + (n.val - 256) by omega)⟩
    exact (canon_1 c arg0 hchk M1 M2 M3 M4 M5 M6 M7 M8 M9 M11 M12 f1 f2 f3 f4 f5 f6 f7 f8 f9 f12 t q).trans (blk_1_at c arg0 hchk M1 M2 M3 M4 M5 M6 M7 M8 M9 M11 M12 f1 f2 f3 f4 f5 f6 f7 f8 f9 f12 t q)
  by_cases h2 : n.val < 768
  · obtain ⟨q, rfl⟩ : ∃ q : Fin 256, n = ⟨512 + q.val, Nat.lt_of_lt_of_le (Nat.add_lt_add_left q.isLt 512) (by decide)⟩ := ⟨⟨n.val - 512, by omega⟩, Fin.ext (show n.val = 512 + (n.val - 512) by omega)⟩
    exact (canon_2 c arg0 hchk M1 M2 M3 M4 M5 M6 M7 M8 M9 M11 M12 f1 f2 f3 f4 f5 f6 f7 f8 f9 f12 t q).trans (blk_2_at c arg0 hchk M1 M2 M3 M4 M5 M6 M7 M8 M9 M11 M12 f1 f2 f3 f4 f5 f6 f7 f8 f9 f12 t q)
  by_cases h3 : n.val < 1024
  · obtain ⟨q, rfl⟩ : ∃ q : Fin 256, n = ⟨768 + q.val, Nat.lt_of_lt_of_le (Nat.add_lt_add_left q.isLt 768) (by decide)⟩ := ⟨⟨n.val - 768, by omega⟩, Fin.ext (show n.val = 768 + (n.val - 768) by omega)⟩
    exact (canon_3 c arg0 hchk M1 M2 M3 M4 M5 M6 M7 M8 M9 M11 M12 f1 f2 f3 f4 f5 f6 f7 f8 f9 f12 t q).trans (blk_3_at c arg0 hchk M1 M2 M3 M4 M5 M6 M7 M8 M9 M11 M12 f1 f2 f3 f4 f5 f6 f7 f8 f9 f12 t q)
  by_cases h4 : n.val < 1280
  · obtain ⟨q, rfl⟩ : ∃ q : Fin 256, n = ⟨1024 + q.val, Nat.lt_of_lt_of_le (Nat.add_lt_add_left q.isLt 1024) (by decide)⟩ := ⟨⟨n.val - 1024, by omega⟩, Fin.ext (show n.val = 1024 + (n.val - 1024) by omega)⟩
    exact (canon_4 c arg0 hchk M1 M2 M3 M4 M5 M6 M7 M8 M9 M11 M12 f1 f2 f3 f4 f5 f6 f7 f8 f9 f12 t q).trans (blk_4_at c arg0 hchk M1 M2 M3 M4 M5 M6 M7 M8 M9 M11 M12 f1 f2 f3 f4 f5 f6 f7 f8 f9 f12 t q)
  by_cases h5 : n.val < 1536
  · obtain ⟨q, rfl⟩ : ∃ q : Fin 256, n = ⟨1280 + q.val, Nat.lt_of_lt_of_le (Nat.add_lt_add_left q.isLt 1280) (by decide)⟩ := ⟨⟨n.val - 1280, by omega⟩, Fin.ext (show n.val = 1280 + (n.val - 1280) by omega)⟩
    exact (canon_5 c arg0 hchk M1 M2 M3 M4 M5 M6 M7 M8 M9 M11 M12 f1 f2 f3 f4 f5 f6 f7 f8 f9 f12 t q).trans (blk_5_at c arg0 hchk M1 M2 M3 M4 M5 M6 M7 M8 M9 M11 M12 f1 f2 f3 f4 f5 f6 f7 f8 f9 f12 t q)
  by_cases h6 : n.val < 1792
  · obtain ⟨q, rfl⟩ : ∃ q : Fin 256, n = ⟨1536 + q.val, Nat.lt_of_lt_of_le (Nat.add_lt_add_left q.isLt 1536) (by decide)⟩ := ⟨⟨n.val - 1536, by omega⟩, Fin.ext (show n.val = 1536 + (n.val - 1536) by omega)⟩
    exact (canon_6 c arg0 hchk M1 M2 M3 M4 M5 M6 M7 M8 M9 M11 M12 f1 f2 f3 f4 f5 f6 f7 f8 f9 f12 t q).trans (blk_6_at c arg0 hchk M1 M2 M3 M4 M5 M6 M7 M8 M9 M11 M12 f1 f2 f3 f4 f5 f6 f7 f8 f9 f12 t q)
  by_cases h7 : n.val < 2048
  · obtain ⟨q, rfl⟩ : ∃ q : Fin 256, n = ⟨1792 + q.val, Nat.lt_of_lt_of_le (Nat.add_lt_add_left q.isLt 1792) (by decide)⟩ := ⟨⟨n.val - 1792, by omega⟩, Fin.ext (show n.val = 1792 + (n.val - 1792) by omega)⟩
    exact (canon_7 c arg0 hchk M1 M2 M3 M4 M5 M6 M7 M8 M9 M11 M12 f1 f2 f3 f4 f5 f6 f7 f8 f9 f12 t q).trans (blk_7_at c arg0 hchk M1 M2 M3 M4 M5 M6 M7 M8 M9 M11 M12 f1 f2 f3 f4 f5 f6 f7 f8 f9 f12 t q)
  by_cases h8 : n.val < 2304
  · obtain ⟨q, rfl⟩ : ∃ q : Fin 256, n = ⟨2048 + q.val, Nat.lt_of_lt_of_le (Nat.add_lt_add_left q.isLt 2048) (by decide)⟩ := ⟨⟨n.val - 2048, by omega⟩, Fin.ext (show n.val = 2048 + (n.val - 2048) by omega)⟩
    exact (canon_8 c arg0 hchk M1 M2 M3 M4 M5 M6 M7 M8 M9 M11 M12 f1 f2 f3 f4 f5 f6 f7 f8 f9 f12 t q).trans (blk_8_at c arg0 hchk M1 M2 M3 M4 M5 M6 M7 M8 M9 M11 M12 f1 f2 f3 f4 f5 f6 f7 f8 f9 f12 t q)
  by_cases h9 : n.val < 2560
  · obtain ⟨q, rfl⟩ : ∃ q : Fin 256, n = ⟨2304 + q.val, Nat.lt_of_lt_of_le (Nat.add_lt_add_left q.isLt 2304) (by decide)⟩ := ⟨⟨n.val - 2304, by omega⟩, Fin.ext (show n.val = 2304 + (n.val - 2304) by omega)⟩
    exact (canon_9 c arg0 hchk M1 M2 M3 M4 M5 M6 M7 M8 M9 M11 M12 f1 f2 f3 f4 f5 f6 f7 f8 f9 f12 t q).trans (blk_9_at c arg0 hchk M1 M2 M3 M4 M5 M6 M7 M8 M9 M11 M12 f1 f2 f3 f4 f5 f6 f7 f8 f9 f12 t q)
  by_cases h10 : n.val < 2816
  · obtain ⟨q, rfl⟩ : ∃ q : Fin 256, n = ⟨2560 + q.val, Nat.lt_of_lt_of_le (Nat.add_lt_add_left q.isLt 2560) (by decide)⟩ := ⟨⟨n.val - 2560, by omega⟩, Fin.ext (show n.val = 2560 + (n.val - 2560) by omega)⟩
    exact (canon_10 c arg0 hchk M1 M2 M3 M4 M5 M6 M7 M8 M9 M11 M12 f1 f2 f3 f4 f5 f6 f7 f8 f9 f12 t q).trans (blk_10_at c arg0 hchk M1 M2 M3 M4 M5 M6 M7 M8 M9 M11 M12 f1 f2 f3 f4 f5 f6 f7 f8 f9 f12 t q)
  omega

end Cert.KernelIdeal.Body

end
-- ==== Proof.KernelIdeal.Route.lean ====
/-
  The column of weights that the body selects for the expert it works on, and who takes that expert.
-/
module

public import proofs.«01_k».proof.Proof.KernelIdeal.Read

@[expose] public section

set_option maxRecDepth 16384

noncomputable section
namespace Cert.KernelIdeal.Body
open Cert.KernelIdeal Cert.KernelIdeal.Gen Cert.Spec
open Idealize.ShloMosaic Idealize.ShloMosaic.TcCoe Idealize.ShloMosaic.Tactic

/-- Two small words are equal when their numbers are. -/
theorem eq_word (a b : Nat) (ha : a < 2 ^ 32) (hb : b < 2 ^ 32) {α : Type} (x y : α) :
    Scalar.select (IntOp.cmpi .eq (BitVec.ofNat 32 a) (BitVec.ofNat 32 b)) x y = if a = b then x else y := by
  have h : (BitVec.ofNat 32 a = BitVec.ofNat 32 b) ↔ a = b := by
    constructor
    · intro e
      have := congrArg BitVec.toNat e
      rwa [BitVec.toNat_ofNat, BitVec.toNat_ofNat, Nat.mod_eq_of_lt ha, Nat.mod_eq_of_lt hb] at this
    · rintro rfl; rfl
  by_cases e : a = b
  · subst e
    rw [if_pos rfl]
    simp [Scalar.select, IntOp.cmpi]
  · rw [if_neg e]
    have : BitVec.ofNat 32 a ≠ BitVec.ofNat 32 b := fun q => e (h.1 q)
    show (if BitVec.ofBool (BitVec.ofNat 32 a == BitVec.ofNat 32 b) = 1#1 then x else y) = y
    rw [beq_eq_false_iff_ne.2 this]
    rfl

theorem ofBool_one (b : Bool) : BitVec.ofBool b = 1#1 ↔ b = true := by cases b <;> decide

/-- The weight column of expert `e` is column `e` of the table of weights. -/
theorem col_at (e : Fin 32) (x : Vec Ideal S32x256 .f32) (t : Fin 32) :
    k0_pay598 (F := Ideal) (BitVec.ofNat 32 e.val) x (ix2 t 0) = x (ix2 t (⟨e.val, by omega⟩ : Fin 256)) := by
  have h : k0_pay598 (F := Ideal) (BitVec.ofNat 32 e.val) x (ix2 t 0)
      = ∑ l : Fin 256, Scalar.select (IntOp.cmpi CmpIPredicate.eq (BitVec.ofNat 32 l.val) (BitVec.ofNat 32 e.val)) (x (ix2 t l)) (0 : EReal) := by
    unfold k0_pay598
    pointwise
  rw [h, Finset.sum_eq_single (⟨e.val, by omega⟩ : Fin 256)]
  · rw [eq_word _ _ (by omega) (by omega), if_pos rfl]
  · intro l _ hl
    rw [eq_word _ _ (by omega) (by omega), if_neg fun q => hl (Fin.ext q)]
  · intro q; exact absurd (Finset.mem_univ _) q

/-- A token takes expert `e` in the body when column `128 + e` of the table is above zero. -/
theorem takes_at (e : Fin 32) (x : Vec Ideal S32x256 .f32) (t : Fin 32) :
    k0_pay600 (F := Ideal) (k0_pay599 (F := Ideal) (BitVec.ofNat 32 e.val)) x (ix2 t 0) = 1#1 ↔ (0 : EReal) < x (ix2 t (⟨128 + e.val, by omega⟩ : Fin 256)) := by
  have h : k0_pay600 (F := Ideal) (k0_pay599 (F := Ideal) (BitVec.ofNat 32 e.val)) x (ix2 t 0)
      = BitVec.ofBool (decide ((0 : EReal) < Finset.fold max (Ideal.ofBits FTy.f32 4286578688#32)
            (fun l : Fin 256 => Scalar.select (IntOp.cmpi CmpIPredicate.eq (BitVec.ofNat 32 l.val) (Scalar.addi (BitVec.ofNat 32 e.val) 128#32)) (x (ix2 t l)) (0 : EReal))
            Finset.univ)) := by
    unfold k0_pay600 k0_pay599
    pointwise
  have hw : Scalar.addi (BitVec.ofNat 32 e.val) 128#32 = BitVec.ofNat 32 (128 + e.val) := by
    show BitVec.ofNat 32 e.val + BitVec.ofNat 32 128 = _
    rw [← BitVec.ofNat_add, Nat.add_comm]
  have hb : ¬ (0 : EReal) < (Ideal.ofBits FTy.f32 4286578688#32 : EReal) := by
    have : (Ideal.ofBits FTy.f32 4286578688#32 : EReal) = ⊥ := by
      show Ideal.ieee 8 23 4286578688#32 = ⊥
      unfold Ideal.ieee
      simp
    rw [this]; exact not_lt_bot
  rw [h, hw, ofBool_one, decide_eq_true_iff, Finset.lt_fold_max]
  constructor
  · rintro (q | ⟨l, _, q⟩)
    · exact absurd q hb
    · rw [eq_word _ _ (by omega) (by omega)] at q
      split at q
      · next e' => rwa [show (⟨128 + e.val, by omega⟩ : Fin 256) = l from Fin.ext e'.symm]
      · exact absurd q (lt_irrefl _)
  · intro q
    refine Or.inr ⟨⟨128 + e.val, by omega⟩, Finset.mem_univ _, ?_⟩
    rw [eq_word _ _ (by omega) (by omega), if_pos rfl]
    exact q

end Cert.KernelIdeal.Body
end
-- ==== Proof.KernelIdeal.Step.lean ====
/-
  One run of the body, read at an element of the accumulator.
-/
module

public import proofs.«01_k».proof.Proof.KernelIdeal.Sum
public import proofs.«01_k».proof.Proof.KernelIdeal.Route
public import proofs.«01_k».proof.Proof.KernelIdeal.Indep

@[expose] public section

set_option maxRecDepth 16384

noncomputable section
namespace Cert.KernelIdeal.Body
open Cert.KernelIdeal Cert.KernelIdeal.Gen Cert.Spec
open Idealize.ShloMosaic Idealize.ShloMosaic.TcCoe Idealize.ShloMosaic.Tactic

variable (c : Dev nD) (arg0 : BitVec 32) (hchk : k0_chk1 arg0) (M1 : Memref sig .tc .smem S32 .i32) (M2 : Memref sig .tc .vmem S32x2816 .bf16) (M3 : Memref sig .tc .vmem S32x256 .f32)
  (M4 : Memref sig .tc .vmem S1x1408x4096 .i8) (M5 : Memref sig .tc .vmem S1x22x4096 .bf16) (M6 : Memref sig .tc .vmem S1x22x2048 .i8) (M7 : Memref sig .tc .vmem S1x1024x2816 .i8)
  (M8 : Memref sig .tc .vmem S1x16x2816 .bf16) (M9 : Memref sig .tc .vmem S1x16x1408 .i8) (M11 : Memref sig .tc .vmem S32x2048 .bf16) (M12 : Memref sig .tc .vmem S32x2816 .f32)
  (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
  (f9 : Bf (F := Ideal) c M9) (f12 : Bf (F := Ideal) c M12)

theorem wcol_at (e t : Fin 32) (hw : kernelRun.sl.r_557 (F := Ideal) c arg0 hchk M1 f1 = BitVec.ofNat 32 e.val) :
    kernelRun.sl.r_558 c arg0 hchk M1 M3 f1 f3 (ix2 t 0) = M3.view.read (Elt Ideal) f3 (ix2 t (⟨e.val, by omega⟩ : Fin 256)) := by
  unfold kernelRun.sl.r_558
  rw [hw, col_at, View.readAt_eq_ld]
  pointwise

theorem whit_at (e t : Fin 32) (hw : kernelRun.sl.r_557 (F := Ideal) c arg0 hchk M1 f1 = BitVec.ofNat 32 e.val) :
    kernelRun.sl.r_560 c arg0 hchk M1 M3 f1 f3 (ix2 t 0) = 1#1 ↔ (0 : EReal) < M3.view.read (Elt Ideal) f3 (ix2 t (⟨128 + e.val, by omega⟩ : Fin 256)) := by
  unfold kernelRun.sl.r_560 kernelRun.sl.r_559
  rw [hw, takes_at, View.readAt_eq_ld]
  pointwise

open scoped Classical in
/-- What expert `e` adds to token `t`'s result, from the table of weights. -/
def adds (tab : S32x256.Idx → EReal) (X : ℕ → EReal) (W W2 : ℕ → ℕ → EReal) (e t : Fin 32) (n : ℕ) : EReal :=
  if (0 : EReal) < tab (ix2 t (⟨128 + e.val, by omega⟩ : Fin 256)) then yy X W W2 n * tab (ix2 t (⟨e.val, by omega⟩ : Fin 256)) else 0

/-- The accumulator after the run. -/
theorem step_at (e t : Fin 32) (n : Fin 2816) (hw : kernelRun.sl.r_557 (F := Ideal) c arg0 hchk M1 f1 = BitVec.ofNat 32 e.val) :
    View.canon (kernelRun.sl.H12_11 c arg0 hchk M1 M2 M3 M4 M5 M6 M7 M8 M9 M11 M12 f1 f2 f3 f4 f5 f6 f7 f8 f9 f12) (ix2 t n)
    = M12.view.read (Elt Ideal) (acc0 c arg0 M12 f12) (ix2 t n)
      + adds (M3.view.read (Elt Ideal) f3) (rX c M2 f2 t.val) (rW c M4 M5 M6 f4 f5 f6) (rW2 c M7 M8 M9 f7 f8 f9) e t n.val := by
  rw [acc_at, wcol_at _ _ _ _ _ _ _ e t hw]
  congr 1
  unfold adds
  exact if_congr (whit_at _ _ _ _ _ _ _ e t hw) rfl rfl

theorem whole_emb (i : S32x2816.Idx) : (Rect.unit (s := S32x2816) ![0, 0] S32x2816.size inb_S32x2816_S32x2816_0_0).emb i = i := by
  funext a; apply Fin.ext
  match a with
  | ⟨0, _⟩ => show 0 + 1 * (i 0).val = (i 0).val; omega
  | ⟨1, _⟩ => show 0 + 1 * (i 1).val = (i 1).val; omega

/-- One piece on the whole is what is read back. -/
theorem canon_whole {e : EltTy} (w : S32x2816.Idx → Elt Ideal e) (i : S32x2816.Idx) :
    View.canon [(⟨Rect.unit (s := S32x2816) ![0, 0] S32x2816.size inb_S32x2816_S32x2816_0_0, w⟩ : View.Piece (Elt Ideal) S32x2816 e)] i = w i := by
  refine Eq.trans ?_ (View.canon_cons_emb (Rect.unit (s := S32x2816) ![0, 0] S32x2816.size inb_S32x2816_S32x2816_0_0) w [] i)
  rw [whole_emb]

/-- The accumulator before it: what it held, or zero at the first point. -/
theorem acc0_at (i : S32x2816.Idx) : M12.view.read (Elt Ideal) (acc0 c arg0 M12 f12) i = if kernelRun.sl.v2 arg0 = 1#1 then (0 : EReal) else M12.view.read (Elt Ideal) f12 i := by
  unfold acc0
  split
  · rw [View.read_writes_eq_canon _ _ _ (cover_whole _), canon_whole]
    obtain ⟨t, n, rfl⟩ : ∃ a b, i = (ix2 a b : S32x2816.Idx) := ⟨_, _, ValueIdx.eq_ix2 i⟩
    unfold k0_pay1
    pointwise
  · rfl

theorem out_at (i : S32x2816.Idx) : k0_pay999 (F := Ideal) (kernelRun.sl.v12554 c arg0 hchk M1 M2 M3 M4 M5 M6 M7 M8 M9 M11 M12 f1 f2 f3 f4 f5 f6 f7 f8 f9 f12) i
    = View.canon (kernelRun.sl.H12_11 c arg0 hchk M1 M2 M3 M4 M5 M6 M7 M8 M9 M11 M12 f1 f2 f3 f4 f5 f6 f7 f8 f9 f12) i := by
  unfold k0_pay999 kernelRun.sl.v12554
  rw [View.readCov_eq_canon']
  exact congrArg (View.canon _) (whole_emb i)

end Cert.KernelIdeal.Body
end
-- ==== Proof.KernelIdeal.Step2.lean ====
/-
  One run of the body on blocks that its windows hold.
-/
module

public import proofs.«01_k».proof.Proof.KernelIdeal.Step

@[expose] public section

set_option maxRecDepth 16384

noncomputable section
namespace Cert.KernelIdeal.Body
open Cert.KernelIdeal Cert.KernelIdeal.Gen Cert.Spec
open Idealize.ShloMosaic Idealize.ShloMosaic.TcCoe Idealize.ShloMosaic.Tactic

attribute [local irreducible] kernelRun

/-- What the accumulator holds after the run. -/
theorem run_step (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := Ideal) c M1)         (x2 : Vec Ideal S32x2816 .bf16) (x3 : Vec Ideal S32x256 .f32) (x4 : Vec Ideal S1x1408x4096 .i8) (x5 : Vec Ideal S1x22x4096 .bf16) (x6 : Vec Ideal S1x22x2048 .i8) (x7 : Vec Ideal S1x1024x2816 .i8) (x8 : Vec Ideal S1x16x2816 .bf16) (x9 : Vec Ideal S1x16x1408 .i8) (f10 : Bf (F := Ideal) c M10) (f11 : Bf (F := Ideal) c M11) (f12 : Bf (F := Ideal) c M12) (e t : Fin 32) (n : Fin 2816) (hw : kernelRun.sl.r_557 (F := Ideal) c arg0 hchk M1 f1 = BitVec.ofNat 32 e.val) :
    M12.view.read (Elt Ideal) (kernelRun (F := Ideal) c b i arg0 hchk M1 h1 M2 h2 M3 h3 M4 h4 M5 h5 M6 h6 M7 h7 M8 h8 M9 h9 M10 h10 M11 h11 M12 h12 f1 (h2.unread x2) (h3.unread x3) (h4.unread x4) (h5.unread x5) (h6.unread x6) (h7.unread x7) (h8.unread x8) (h9.unread x9) f10 f11 f12).1.2.2 (ix2 t n)
      = (if kernelRun.sl.v2 arg0 = 1#1 then (0 : EReal) else M12.view.read (Elt Ideal) f12 (ix2 t n))
        + adds x3 (e2 (a := 32) (b := 2816) x2 t.val)
          (wgt 2048 (b3 (a := 1) (b := 1408) (c := 4096) x4 0) (b3 (a := 1) (b := 22) (c := 2048) x6 0) (e3 (a := 1) (b := 22) (c := 4096) x5 0))
          (wgt 1408 (b3 (a := 1) (b := 1024) (c := 2816) x7 0) (b3 (a := 1) (b := 16) (c := 1408) x9 0) (e3 (a := 1) (b := 16) (c := 2816) x8 0)) e t n.val := by
  have h := step_at c arg0 hchk M1 M2 M3 M4 M5 M6 M7 M8 M9 M11 M12 f1 (h2.unread x2) (h3.unread x3) (h4.unread x4) (h5.unread x5) (h6.unread x6) (h7.unread x7) (h8.unread x8) (h9.unread x9) f12 e t n hw
  unfold rX rW rW2 rP rS rZ rP2 rS2 rZ2 at h
  rw [h2.read_unread, h3.read_unread, h4.read_unread, h5.read_unread, h6.read_unread, h7.read_unread, h8.read_unread, h9.read_unread, acc0_at] at h
  rw [run_acc, View.read_writes_junk_eq_canon]
  exact h

/-- What the output's buffer holds after the last. -/
theorem run_last (c : Dev nD) (b : grid0.Bounds) (i : grid0.Static) (arg0 : BitVec 32) (hchk : k0_chk1 arg0) (M1 : Memref sig .tc .smem S32 .i32) (h1 : M1.IsWhole) (M2 : Memref sig .tc .vmem S32x2816 .bf16) (h2 : M2.IsWhole) (M3 : Memref sig .tc .vmem S32x256 .f32) (h3 : M3.IsWhole) (M4 : Memref sig .tc .vmem S1x1408x4096 .i8) (h4 : M4.IsWhole) (M5 : Memref sig .tc .vmem S1x22x4096 .bf16) (h5 : M5.IsWhole) (M6 : Memref sig .tc .vmem S1x22x2048 .i8) (h6 : M6.IsWhole) (M7 : Memref sig .tc .vmem S1x1024x2816 .i8) (h7 : M7.IsWhole) (M8 : Memref sig .tc .vmem S1x16x2816 .bf16) (h8 : M8.IsWhole) (M9 : Memref sig .tc .vmem S1x16x1408 .i8) (h9 : M9.IsWhole) (M10 : Memref sig .tc .vmem S32x2816 .bf16) (h10 : M10.IsWhole) (M11 : Memref sig .tc .vmem S32x2048 .bf16) (h11 : M11.IsWhole) (M12 : Memref sig .tc .vmem S32x2816 .f32) (h12 : M12.IsWhole) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (hl : last arg0 b) (i' : S32x2816.Idx) :
    M10.view.read (Elt Ideal) (kernelRun (F := Ideal) c b i arg0 hchk M1 h1 M2 h2 M3 h3 M4 h4 M5 h5 M6 h6 M7 h7 M8 h8 M9 h9 M10 h10 M11 h11 M12 h12 f1 f2 f3 f4 f5 f6 f7 f8 f9 f10 f11 f12).1.1 i'
      = M12.view.read (Elt Ideal) (kernelRun (F := Ideal) c b i arg0 hchk M1 h1 M2 h2 M3 h3 M4 h4 M5 h5 M6 h6 M7 h7 M8 h8 M9 h9 M10 h10 M11 h11 M12 h12 f1 f2 f3 f4 f5 f6 f7 f8 f9 f10 f11 f12).1.2.2 i' := by
  rw [run_acc, View.read_writes_junk_eq_canon, run_out, dif_pos hl, View.read_writes_eq_canon _ _ _ (cover_whole' _), canon_whole]
  exact out_at c arg0 hchk M1 M2 M3 M4 M5 M6 M7 M8 M9 M11 M12 f1 f2 f3 f4 f5 f6 f7 f8 f9 f12 i'

end Cert.KernelIdeal.Body
end
-- ==== Proof.KernelIdeal.Blocks.lean ====
/-
  The blocks the body reads at a grid point: the tokens and the weights whole, and the slabs of the expert at the point.
-/
module

public import proofs.«01_k».proof.Proof.KernelIdeal.At
public import proofs.«01_k».proof.Proof.KernelIdeal.Tables
public import proofs.«01_k».proof.Proof.KernelIdeal.Read
public import Idealize.ShloMosaic.Lib.Pipeline.ValueKit

@[expose] public section

set_option maxRecDepth 16384

noncomputable section
namespace Cert.KernelIdeal.Body
open Cert.KernelIdeal Cert.KernelIdeal.Gen Cert.Spec Cert.Elist
open Idealize.ShloMosaic Idealize.ShloMosaic.TcCoe Idealize.ShloMosaic.Tactic

variable (m : (ℓ : Loc nD τ sig) → Buf (Elt Ideal) ℓ)

attribute [local irreducible] StableHlo.after

/-- The expert at a grid point. -/
def eAt (hO : Ok m) (t : Fin (cfgM m hO).N) : Fin 32 :=
  ⟨BitVec.toNat ((tbl m).atD 1 ![(Scalar.indexCast (BitVec.ofNat 32 ((gr m).coords t 0).val)).toNat] : BitVec 32), list_lt m _⟩

/-- The tokens, whole. -/
theorem xw0_eq (hO : Ok m) (c : Dev nD) (t : Fin (cfgM m hO).N) : xw0 m hO c t = (V m c main_v36 : S32x2816.Idx → EReal) := by
  funext y
  unfold xw0 iblk
  refine congrArg (V m c main_v36 : S32x2816.Idx → EReal) (funext fun a => Fin.ext ?_)
  refine (Pipeline.Window.rect_emb_val ((cfgM m hO).win 0) t y a).trans ?_
  match a with
  | ⟨0, _⟩ => exact (Nat.zero_mul _).symm ▸ Nat.zero_add _
  | ⟨1, _⟩ => exact (Nat.zero_mul _).symm ▸ Nat.zero_add _
/-- The weights, whole. -/
theorem xw1_eq (hO : Ok m) (c : Dev nD) (t : Fin (cfgM m hO).N) : xw1 m hO c t = (V m c main_v35 : S32x256.Idx → EReal) := by
  funext y
  unfold xw1 iblk
  refine congrArg (V m c main_v35 : S32x256.Idx → EReal) (funext fun a => Fin.ext ?_)
  refine (Pipeline.Window.rect_emb_val ((cfgM m hO).win 1) t y a).trans ?_
  match a with
  | ⟨0, _⟩ => exact (Nat.zero_mul _).symm ▸ Nat.zero_add _
  | ⟨1, _⟩ => exact (Nat.zero_mul _).symm ▸ Nat.zero_add _
/-- The slab of `arg3`. -/
theorem xw2_eq (hO : Ok m) (c : Dev nD) (t : Fin (cfgM m hO).N) (i : Fin 1408) (j : Fin 4096) :
    (xw2 m hO c t : S1x1408x4096.Idx → BitVec 8) (ix3 0 i j) = (V m c main_arg3 : S32x1408x4096.Idx → BitVec 8) (ix3 (eAt m hO t) i j) := by
  unfold xw2 iblk
  refine congrArg (V m c main_arg3 : S32x1408x4096.Idx → BitVec 8) (funext fun a => Fin.ext ?_)
  refine (Pipeline.Window.rect_emb_val ((cfgM m hO).win 2) t (ix3 0 i j : S1x1408x4096.Idx) a).trans ?_
  match a with
  | ⟨0, _⟩ => exact (congrArg (· + 0) (Nat.mul_one _)).trans (Nat.add_zero _)
  | ⟨1, _⟩ => exact (Nat.zero_mul _).symm ▸ Nat.zero_add _
  | ⟨2, _⟩ => exact (Nat.zero_mul _).symm ▸ Nat.zero_add _
theorem slab2 (hO : Ok m) (c : Dev nD) (t : Fin (cfgM m hO).N) :
    b3 (a := 1) (b := 1408) (c := 4096) (xw2 m hO c t) 0 = b3 (a := 32) (b := 1408) (c := 4096) (m ((c.tc : Thread nD τ).loc main_arg3)) (eAt m hO t).val := by
  have hV : (V m c main_arg3 : S32x1408x4096.Idx → BitVec 8) = m ((c.tc : Thread nD τ).loc main_arg3) := V_arg m c main_arg3 (by simp)
  funext i j
  by_cases h : i < 1408 ∧ j < 4096
  · rw [b3_eq _ 0 i j (by decide) h.1 h.2, b3_eq _ (eAt m hO t).val i j (eAt m hO t).isLt h.1 h.2, ← hV]
    exact xw2_eq m hO c t ⟨i, h.1⟩ ⟨j, h.2⟩
  · unfold b3
    rw [dif_neg fun q => h q.2, dif_neg fun q => h q.2]
/-- The slab of `arg4`. -/
theorem xw3_eq (hO : Ok m) (c : Dev nD) (t : Fin (cfgM m hO).N) (i : Fin 22) (j : Fin 4096) :
    (xw3 m hO c t : S1x22x4096.Idx → EReal) (ix3 0 i j) = (V m c main_arg4 : S32x22x4096.Idx → EReal) (ix3 (eAt m hO t) i j) := by
  unfold xw3 iblk
  refine congrArg (V m c main_arg4 : S32x22x4096.Idx → EReal) (funext fun a => Fin.ext ?_)
  refine (Pipeline.Window.rect_emb_val ((cfgM m hO).win 3) t (ix3 0 i j : S1x22x4096.Idx) a).trans ?_
  match a with
  | ⟨0, _⟩ => exact (congrArg (· + 0) (Nat.mul_one _)).trans (Nat.add_zero _)
  | ⟨1, _⟩ => exact (Nat.zero_mul _).symm ▸ Nat.zero_add _
  | ⟨2, _⟩ => exact (Nat.zero_mul _).symm ▸ Nat.zero_add _
theorem slab3 (hO : Ok m) (c : Dev nD) (t : Fin (cfgM m hO).N) :
    e3 (a := 1) (b := 22) (c := 4096) (xw3 m hO c t) 0 = e3 (a := 32) (b := 22) (c := 4096) (m ((c.tc : Thread nD τ).loc main_arg4)) (eAt m hO t).val := by
  have hV : (V m c main_arg4 : S32x22x4096.Idx → EReal) = m ((c.tc : Thread nD τ).loc main_arg4) := V_arg m c main_arg4 (by simp)
  funext i j
  by_cases h : i < 22 ∧ j < 4096
  · rw [e3_eq _ 0 i j (by decide) h.1 h.2, e3_eq _ (eAt m hO t).val i j (eAt m hO t).isLt h.1 h.2, ← hV]
    exact xw3_eq m hO c t ⟨i, h.1⟩ ⟨j, h.2⟩
  · unfold e3
    rw [dif_neg fun q => h q.2, dif_neg fun q => h q.2]
/-- The slab of `arg5`. -/
theorem xw4_eq (hO : Ok m) (c : Dev nD) (t : Fin (cfgM m hO).N) (i : Fin 22) (j : Fin 2048) :
    (xw4 m hO c t : S1x22x2048.Idx → BitVec 8) (ix3 0 i j) = (V m c main_arg5 : S32x22x2048.Idx → BitVec 8) (ix3 (eAt m hO t) i j) := by
  unfold xw4 iblk
  refine congrArg (V m c main_arg5 : S32x22x2048.Idx → BitVec 8) (funext fun a => Fin.ext ?_)
  refine (Pipeline.Window.rect_emb_val ((cfgM m hO).win 4) t (ix3 0 i j : S1x22x2048.Idx) a).trans ?_
  match a with
  | ⟨0, _⟩ => exact (congrArg (· + 0) (Nat.mul_one _)).trans (Nat.add_zero _)
  | ⟨1, _⟩ => exact (Nat.zero_mul _).symm ▸ Nat.zero_add _
  | ⟨2, _⟩ => exact (Nat.zero_mul _).symm ▸ Nat.zero_add _
theorem slab4 (hO : Ok m) (c : Dev nD) (t : Fin (cfgM m hO).N) :
    b3 (a := 1) (b := 22) (c := 2048) (xw4 m hO c t) 0 = b3 (a := 32) (b := 22) (c := 2048) (m ((c.tc : Thread nD τ).loc main_arg5)) (eAt m hO t).val := by
  have hV : (V m c main_arg5 : S32x22x2048.Idx → BitVec 8) = m ((c.tc : Thread nD τ).loc main_arg5) := V_arg m c main_arg5 (by simp)
  funext i j
  by_cases h : i < 22 ∧ j < 2048
  · rw [b3_eq _ 0 i j (by decide) h.1 h.2, b3_eq _ (eAt m hO t).val i j (eAt m hO t).isLt h.1 h.2, ← hV]
    exact xw4_eq m hO c t ⟨i, h.1⟩ ⟨j, h.2⟩
  · unfold b3
    rw [dif_neg fun q => h q.2, dif_neg fun q => h q.2]
/-- The slab of `arg6`. -/
theorem xw5_eq (hO : Ok m) (c : Dev nD) (t : Fin (cfgM m hO).N) (i : Fin 1024) (j : Fin 2816) :
    (xw5 m hO c t : S1x1024x2816.Idx → BitVec 8) (ix3 0 i j) = (V m c main_arg6 : S32x1024x2816.Idx → BitVec 8) (ix3 (eAt m hO t) i j) := by
  unfold xw5 iblk
  refine congrArg (V m c main_arg6 : S32x1024x2816.Idx → BitVec 8) (funext fun a => Fin.ext ?_)
  refine (Pipeline.Window.rect_emb_val ((cfgM m hO).win 5) t (ix3 0 i j : S1x1024x2816.Idx) a).trans ?_
  match a with
  | ⟨0, _⟩ => exact (congrArg (· + 0) (Nat.mul_one _)).trans (Nat.add_zero _)
  | ⟨1, _⟩ => exact (Nat.zero_mul _).symm ▸ Nat.zero_add _
  | ⟨2, _⟩ => exact (Nat.zero_mul _).symm ▸ Nat.zero_add _
theorem slab5 (hO : Ok m) (c : Dev nD) (t : Fin (cfgM m hO).N) :
    b3 (a := 1) (b := 1024) (c := 2816) (xw5 m hO c t) 0 = b3 (a := 32) (b := 1024) (c := 2816) (m ((c.tc : Thread nD τ).loc main_arg6)) (eAt m hO t).val := by
  have hV : (V m c main_arg6 : S32x1024x2816.Idx → BitVec 8) = m ((c.tc : Thread nD τ).loc main_arg6) := V_arg m c main_arg6 (by simp)
  funext i j
  by_cases h : i < 1024 ∧ j < 2816
  · rw [b3_eq _ 0 i j (by decide) h.1 h.2, b3_eq _ (eAt m hO t).val i j (eAt m hO t).isLt h.1 h.2, ← hV]
    exact xw5_eq m hO c t ⟨i, h.1⟩ ⟨j, h.2⟩
  · unfold b3
    rw [dif_neg fun q => h q.2, dif_neg fun q => h q.2]
/-- The slab of `arg7`. -/
theorem xw6_eq (hO : Ok m) (c : Dev nD) (t : Fin (cfgM m hO).N) (i : Fin 16) (j : Fin 2816) :
    (xw6 m hO c t : S1x16x2816.Idx → EReal) (ix3 0 i j) = (V m c main_arg7 : S32x16x2816.Idx → EReal) (ix3 (eAt m hO t) i j) := by
  unfold xw6 iblk
  refine congrArg (V m c main_arg7 : S32x16x2816.Idx → EReal) (funext fun a => Fin.ext ?_)
  refine (Pipeline.Window.rect_emb_val ((cfgM m hO).win 6) t (ix3 0 i j : S1x16x2816.Idx) a).trans ?_
  match a with
  | ⟨0, _⟩ => exact (congrArg (· + 0) (Nat.mul_one _)).trans (Nat.add_zero _)
  | ⟨1, _⟩ => exact (Nat.zero_mul _).symm ▸ Nat.zero_add _
  | ⟨2, _⟩ => exact (Nat.zero_mul _).symm ▸ Nat.zero_add _
theorem slab6 (hO : Ok m) (c : Dev nD) (t : Fin (cfgM m hO).N) :
    e3 (a := 1) (b := 16) (c := 2816) (xw6 m hO c t) 0 = e3 (a := 32) (b := 16) (c := 2816) (m ((c.tc : Thread nD τ).loc main_arg7)) (eAt m hO t).val := by
  have hV : (V m c main_arg7 : S32x16x2816.Idx → EReal) = m ((c.tc : Thread nD τ).loc main_arg7) := V_arg m c main_arg7 (by simp)
  funext i j
  by_cases h : i < 16 ∧ j < 2816
  · rw [e3_eq _ 0 i j (by decide) h.1 h.2, e3_eq _ (eAt m hO t).val i j (eAt m hO t).isLt h.1 h.2, ← hV]
    exact xw6_eq m hO c t ⟨i, h.1⟩ ⟨j, h.2⟩
  · unfold e3
    rw [dif_neg fun q => h q.2, dif_neg fun q => h q.2]
/-- The slab of `arg8`. -/
theorem xw7_eq (hO : Ok m) (c : Dev nD) (t : Fin (cfgM m hO).N) (i : Fin 16) (j : Fin 1408) :
    (xw7 m hO c t : S1x16x1408.Idx → BitVec 8) (ix3 0 i j) = (V m c main_arg8 : S32x16x1408.Idx → BitVec 8) (ix3 (eAt m hO t) i j) := by
  unfold xw7 iblk
  refine congrArg (V m c main_arg8 : S32x16x1408.Idx → BitVec 8) (funext fun a => Fin.ext ?_)
  refine (Pipeline.Window.rect_emb_val ((cfgM m hO).win 7) t (ix3 0 i j : S1x16x1408.Idx) a).trans ?_
  match a with
  | ⟨0, _⟩ => exact (congrArg (· + 0) (Nat.mul_one _)).trans (Nat.add_zero _)
  | ⟨1, _⟩ => exact (Nat.zero_mul _).symm ▸ Nat.zero_add _
  | ⟨2, _⟩ => exact (Nat.zero_mul _).symm ▸ Nat.zero_add _
theorem slab7 (hO : Ok m) (c : Dev nD) (t : Fin (cfgM m hO).N) :
    b3 (a := 1) (b := 16) (c := 1408) (xw7 m hO c t) 0 = b3 (a := 32) (b := 16) (c := 1408) (m ((c.tc : Thread nD τ).loc main_arg8)) (eAt m hO t).val := by
  have hV : (V m c main_arg8 : S32x16x1408.Idx → BitVec 8) = m ((c.tc : Thread nD τ).loc main_arg8) := V_arg m c main_arg8 (by simp)
  funext i j
  by_cases h : i < 16 ∧ j < 1408
  · rw [b3_eq _ 0 i j (by decide) h.1 h.2, b3_eq _ (eAt m hO t).val i j (eAt m hO t).isLt h.1 h.2, ← hV]
    exact xw7_eq m hO c t ⟨i, h.1⟩ ⟨j, h.2⟩
  · unfold b3
    rw [dif_neg fun q => h q.2, dif_neg fun q => h q.2]

end Cert.KernelIdeal.Body
end
-- ==== Proof.KernelIdeal.Fold.lean ====
/-
  The accumulator after each grid point: the sum of what the experts up to there add.
-/
module

public import proofs.«01_k».proof.Proof.KernelIdeal.Step2
public import proofs.«01_k».proof.Proof.KernelIdeal.Blocks
public import proofs.«01_k».proof.Proof.KernelIdeal.Inv

@[expose] public section

set_option maxRecDepth 16384

noncomputable section
namespace Cert.KernelIdeal.Body
open Cert.KernelIdeal Cert.KernelIdeal.Gen Cert.Spec Cert.Elist
open Idealize.ShloMosaic Idealize.ShloMosaic.TcCoe Idealize.ShloMosaic.Tactic

variable (m : (ℓ : Loc nD τ sig) → Buf (Elt Ideal) ℓ)

attribute [local irreducible] StableHlo.after kernelRun

/-- What expert `e` adds to token `t`'s result, from the arrays. -/
def share (c : Dev nD) (e t : Fin 32) (n : ℕ) : EReal :=
  adds (V m c main_v35) (e2 (a := 32) (b := 2816) (V m c main_v36) t.val)
    (wgt 2048 (b3 (a := 32) (b := 1408) (c := 4096) (m ((c.tc : Thread nD τ).loc main_arg3)) e.val) (b3 (a := 32) (b := 22) (c := 2048) (m ((c.tc : Thread nD τ).loc main_arg5)) e.val) (e3 (a := 32) (b := 22) (c := 4096) (m ((c.tc : Thread nD τ).loc main_arg4)) e.val))
    (wgt 1408 (b3 (a := 32) (b := 1024) (c := 2816) (m ((c.tc : Thread nD τ).loc main_arg6)) e.val) (b3 (a := 32) (b := 16) (c := 1408) (m ((c.tc : Thread nD τ).loc main_arg8)) e.val) (e3 (a := 32) (b := 16) (c := 2816) (m ((c.tc : Thread nD τ).loc main_arg7)) e.val))
    e t n

/-- The word the body loads is the table's entry there. -/
theorem load_word (c : Dev nD) (arg0 : BitVec 32) (hchk : k0_chk1 arg0) (f : S32.Idx → BitVec 32) (j : Fin 32) (hj : (Scalar.indexCast arg0).toNat = j.val) :
    kernelRun.sl.r_557 (F := Ideal) c arg0 hchk tbM1 f = f (ValueIdx.ix1 j) := by
  unfold kernelRun.sl.r_557
  rw [View.readAt_eq_ld]
  refine congrArg f (funext fun a => Fin.ext ?_)
  match a with
  | ⟨0, _⟩ => show (Scalar.indexCast arg0).toNat + 1 * 0 = j.val; omega

theorem not_first (t : Fin 33) (h : t.val ≠ 0) : ¬ kernelRun.sl.v2 (BitVec.ofNat 32 t.val) = 1#1 := by
  revert t
  unfold kernelRun.sl.v2
  decide
theorem index_small (t : Fin 32) : (Scalar.indexCast (BitVec.ofNat 32 t.val)).toNat = t.val := by
  revert t
  decide

theorem table_word (pf : pre0.Contents (Elt Ideal)) (f : S32.Idx → BitVec 32) (h : pf 1 = f) (w : BitVec 32) (j : Fin 32) (hj : (Scalar.indexCast w).toNat = j.val) :
    (pf.atD 1 ![(Scalar.indexCast w).toNat] : BitVec 32) = f (ValueIdx.ix1 j) := by
  subst h
  rw [hj]
  have hb : ∀ a : Fin 1, (![j.val] : Fin 1 → ℕ) a + 1 ≤ (pre0.ref 1).ty.shape.size a := fun a => by
    match a with
    | ⟨0, _⟩ => exact j.isLt
  refine (dif_pos hb).trans ?_
  refine congrArg (pf 1) (funext fun a => Fin.ext ?_)
  match a with
  | ⟨0, _⟩ => rfl

/-- The expert at a point is the table's entry there, -/
theorem eAt_val (hO : Ok m) (s : Fin (cfgM m hO).N) (j : Fin 32) (hj : s.val = j.val) : (eAt m hO s).val = BitVec.toNat (V m 0 main_v29 (ValueIdx.ix1 j) : BitVec 32) := by
  have hc : ((gr m).coords s 0).val = j.val := (coords_zero (bnd m) s).trans hj
  unfold eAt
  refine congrArg BitVec.toNat (table_word (tbl m) _ (tbl_list m) _ j ?_)
  rw [hc]
  exact index_small j

theorem points_le (hO : Ok m) : (cfgM m hO).N ≤ 32 := by
  have h1 : (cfgM m hO).N = bnd m 0 := gr_N _
  rw [h1]
  exact le_of_eq_of_le (bnd_eq m) (nAct_le m)

/-- and the word the body reads. -/
theorem word_at (hO : Ok m) (c : Dev nD) (s : Fin (cfgM m hO).N) :
    kernelRun.sl.r_557 (F := Ideal) c (wordAt m hO s) (chkAt m hO s) tbM1 (tbl m 1) = BitVec.ofNat 32 (eAt m hO s).val := by
  have hc : ((gr m).coords s 0).val = s.val := coords_zero (bnd m) s
  have hs : s.val < 32 := lt_of_lt_of_le s.isLt (points_le m hO)
  rw [eAt_val m hO s ⟨s.val, hs⟩ rfl, BitVec.ofNat_toNat, BitVec.setWidth_eq]
  refine (load_word c _ _ _ ⟨s.val, hs⟩ ?_).trans (congrFun (tbl_list m) _)
  unfold wordAt
  rw [hc]
  exact index_small ⟨s.val, hs⟩

theorem share_eq (hO : Ok m) (c : Dev nD) (s : Fin (cfgM m hO).N) (t : Fin 32) (n : ℕ) :
    adds (xw1 m hO c s) (e2 (a := 32) (b := 2816) (xw0 m hO c s) t.val)
      (wgt 2048 (b3 (a := 1) (b := 1408) (c := 4096) (xw2 m hO c s) 0) (b3 (a := 1) (b := 22) (c := 2048) (xw4 m hO c s) 0) (e3 (a := 1) (b := 22) (c := 4096) (xw3 m hO c s) 0))
      (wgt 1408 (b3 (a := 1) (b := 1024) (c := 2816) (xw5 m hO c s) 0) (b3 (a := 1) (b := 16) (c := 1408) (xw7 m hO c s) 0) (e3 (a := 1) (b := 16) (c := 2816) (xw6 m hO c s) 0)) (eAt m hO s) t n
      = share m c (eAt m hO s) t n := by
  unfold share
  rw [slab2, slab3, slab4, slab5, slab6, slab7, xw0_eq, xw1_eq]

/-- The accumulator after a point's body, -/
theorem step_point (hO : Ok m) (c : Dev nD) (s : Fin (cfgM m hO).N) (f10 : Bf (F := Ideal) c (ms8 m hO s)) (f11 : Bf (F := Ideal) c scH) (f12 : Bf (F := Ideal) c scA) (t : Fin 32) (n : Fin 2816) :
    scA.view.read (Elt Ideal) (runAt m hO c s f10 f11 f12).2.2 (ix2 t n)
      = (if kernelRun.sl.v2 (wordAt m hO s) = 1#1 then (0 : EReal) else scA.view.read (Elt Ideal) f12 (ix2 t n)) + share m c (eAt m hO s) t n.val := by
  unfold runAt
  exact (run_step c (bnd m) (Pipeline.Grid.Coords.static grid0 ((gr m).coords s)) (wordAt m hO s) (chkAt m hO s) tbM1 (Memref.isWhole_whole _) (ms0 m hO s) (hs0 m hO s) (ms1 m hO s) (hs1 m hO s) (ms2 m hO s) (hs2 m hO s) (ms3 m hO s) (hs3 m hO s) (ms4 m hO s) (hs4 m hO s) (ms5 m hO s) (hs5 m hO s) (ms6 m hO s) (hs6 m hO s) (ms7 m hO s) (hs7 m hO s) (ms8 m hO s) (hs8 m hO s) scH (Memref.isWhole_whole _) scA (Memref.isWhole_whole _) (tbl m 1) (xw0 m hO c s) (xw1 m hO c s) (xw2 m hO c s) (xw3 m hO c s) (xw4 m hO c s) (xw5 m hO c s) (xw6 m hO c s) (xw7 m hO c s) f10 f11 f12 (eAt m hO s) t n (word_at m hO c s)).trans (congrArg (_ + ·) (share_eq m hO c s t n.val))

/-- and the output's buffer after the last point's. -/
theorem out_point (hO : Ok m) (c : Dev nD) (s : Fin (cfgM m hO).N) (hl : s.val + 1 = (cfgM m hO).N) (f10 : Bf (F := Ideal) c (ms8 m hO s)) (f11 : Bf (F := Ideal) c scH) (f12 : Bf (F := Ideal) c scA) (i : S32x2816.Idx) :
    (ms8 m hO s).view.read (Elt Ideal) (runAt m hO c s f10 f11 f12).1 i = scA.view.read (Elt Ideal) (runAt m hO c s f10 f11 f12).2.2 i := by
  unfold runAt
  exact run_last c (bnd m) (Pipeline.Grid.Coords.static grid0 ((gr m).coords s)) (wordAt m hO s) (chkAt m hO s) tbM1 (Memref.isWhole_whole _) (ms0 m hO s) (hs0 m hO s) (ms1 m hO s) (hs1 m hO s) (ms2 m hO s) (hs2 m hO s) (ms3 m hO s) (hs3 m hO s) (ms4 m hO s) (hs4 m hO s) (ms5 m hO s) (hs5 m hO s) (ms6 m hO s) (hs6 m hO s) (ms7 m hO s) (hs7 m hO s) (ms8 m hO s) (hs8 m hO s) scH (Memref.isWhole_whole _) scA (Memref.isWhole_whole _) (tbl m 1) ((hs0 m hO s).unread (xw0 m hO c s)) ((hs1 m hO s).unread (xw1 m hO c s)) ((hs2 m hO s).unread (xw2 m hO c s)) ((hs3 m hO s).unread (xw3 m hO c s)) ((hs4 m hO s).unread (xw4 m hO c s)) ((hs5 m hO s).unread (xw5 m hO c s)) ((hs6 m hO s).unread (xw6 m hO c s)) ((hs7 m hO s).unread (xw7 m hO c s)) f10 f11 f12 ((last_iff m hO s).mpr hl) i

end Cert.KernelIdeal.Body
end
-- ==== Proof.KernelIdeal.Total.lean ====
/-
  The accumulator after each grid point: the sum of what the experts up to there add.
-/
module

public import proofs.«01_k».proof.Proof.KernelIdeal.Fold
public import proofs.«01_k».proof.Proof.KernelIdeal.Blocks
public import proofs.«01_k».proof.Proof.KernelIdeal.Inv

@[expose] public section

set_option maxRecDepth 16384

noncomputable section
namespace Cert.KernelIdeal.Body
open Cert.KernelIdeal Cert.KernelIdeal.Gen Cert.Spec Cert.Elist
open Idealize.ShloMosaic Idealize.ShloMosaic.TcCoe Idealize.ShloMosaic.Tactic

variable (m : (ℓ : Loc nD τ sig) → Buf (Elt Ideal) ℓ)

attribute [local irreducible] StableHlo.after kernelRun share eAt

attribute [local irreducible] runAt accAt

/-- A value that starts afresh at the first point and grows by `f` at each point ends as the sum of `f`. -/
theorem grow {N : ℕ} (a : ℕ → EReal) (f : Fin N → EReal) (h : ∀ s : Fin N, a (s.val + 1) = (if s.val = 0 then 0 else a s.val) + f s) (k : ℕ) (hk : k < N) :
    a (k + 1) = ∑ s : Fin (k + 1), f ⟨s.val, lt_of_lt_of_le s.isLt hk⟩ := by
  induction k with
  | zero => exact (h ⟨0, hk⟩).trans (by rw [Fin.sum_univ_one]; exact zero_add _)
  | succ k ih =>
    refine (h ⟨k + 1, hk⟩).trans ?_
    rw [Fin.sum_univ_castSucc, if_neg (Nat.succ_ne_zero k)]
    exact congrArg (· + f ⟨k + 1, hk⟩) (ih (Nat.lt_of_succ_lt hk))

theorem grow_all {N : ℕ} (a : ℕ → EReal) (f : Fin N → EReal) (h : ∀ s : Fin N, a (s.val + 1) = (if s.val = 0 then 0 else a s.val) + f s) (s : Fin N) (hl : s.val + 1 = N) :
    a (s.val + 1) = ∑ s : Fin N, f s :=
  (grow a f h s.val s.isLt).trans (Fintype.sum_equiv (finCongr hl) _ _ fun _ => rfl)

theorem first_if (hO : Ok m) (s : Fin (cfgM m hO).N) (x : EReal) : (if kernelRun.sl.v2 (wordAt m hO s) = 1#1 then (0 : EReal) else x) = if s.val = 0 then 0 else x := by
  have hc : ((gr m).coords s 0).val = s.val := coords_zero (bnd m) s
  have hs : s.val < 32 := lt_of_lt_of_le s.isLt (points_le m hO)
  unfold wordAt
  rw [hc]
  by_cases h : s.val = 0
  · rw [if_pos h, h]
    exact if_pos rfl
  · rw [if_neg h]
    exact if_neg (not_first ⟨s.val, Nat.lt_succ_of_lt hs⟩ h)

theorem acc_step (hO : Ok m) (c : Dev nD) (t : Fin 32) (n : Fin 2816) (s : Fin (cfgM m hO).N) :
    scA.view.read (Elt Ideal) (accAt m hO c (s.val + 1)) (ix2 t n)
      = (if s.val = 0 then 0 else scA.view.read (Elt Ideal) (accAt m hO c s.val) (ix2 t n)) + share m c (eAt m hO s) t n.val :=
  (congrArg (fun f => scA.view.read (Elt Ideal) f (ix2 t n)) (accAt_succ m hO c s.val s.isLt)).trans
    ((step_point m hO c s _ _ _ t n).trans (congrArg (· + share m c (eAt m hO s) t n.val) (first_if m hO s _)))

/-- The output's buffer after the last point. -/
theorem out_sum (hO : Ok m) (c : Dev nD) (s : Fin (cfgM m hO).N) (hl : s.val + 1 = (cfgM m hO).N) (t : Fin 32) (n : Fin 2816) :
    outAt m hO c s (ix2 t n) = ∑ k : Fin (cfgM m hO).N, share m c (eAt m hO k) t n.val := by
  unfold outAt
  exact (out_point m hO c s hl _ _ _ (ix2 t n)).trans
    ((congrArg (fun f => scA.view.read (Elt Ideal) f (ix2 t n)) (accAt_succ m hO c s.val s.isLt).symm).trans
      (grow_all (fun k => scA.view.read (Elt Ideal) (accAt m hO c k) (ix2 t n)) _ (acc_step m hO c t n) s hl))

end Cert.KernelIdeal.Body
end
-- ==== Proof.KernelIdeal.Weights.lean ====
/-
  The tables of weights and of chosen experts that the host makes, read at an element.
-/
module

public import proofs.«01_k».proof.Proof.KernelIdeal.Tables
public import proofs.«01_k».proof.Proof.KernelIdeal.Read
public import Idealize.ShloMosaic.Lib.Routing.OpsSet
public import Idealize.ShloMosaic.Lib.ReduceAll

@[expose] public section

set_option maxRecDepth 16384
noncomputable section
namespace Cert.KernelIdeal.Body
open Cert.KernelIdeal Cert.KernelIdeal.Gen Cert.Spec
open Idealize.ShloMosaic Idealize.ShloMosaic.TcCoe Idealize.ShloMosaic.Tactic

variable (m : (ℓ : Loc nD τ sig) → Buf (Elt Ideal) ℓ)
/-- Where a token's place names an expert. -/
def eqM (ids : IVec S32x1x8 32) : IVec S32x8x32 1 :=
  cmpi .eq (broadcastInDim S32x8x32 ![0, 1, 2] bcast_S32x8x1_S32x8x32_0_1_2 (broadcastInDim S32x8x1 ![0, 1] bcast_S32x8_S32x8x1_0_1 (shapeCast S32x8 ids shapeCasts_S32x1x8_S32x8)))
    (broadcastInDim S32x8x32 ![0, 1, 2] bcast_S1x1x32_S32x8x32_0_1_2 (broadcastInDim S1x1x32 ![2] bcast_S32_S1x1x32_2 (iotaInDim S32 32 0)))
/-- The weights by token and expert, -/
def wtM (ids : IVec S32x1x8 32) (w : FVec Ideal S32x1x8 .f32) : FVec Ideal S32x32 .f32 :=
  Host.reduceAdd (select (eqM ids) (broadcastInDim S32x8x32 ![0, 1, 2] bcast_S32x8x1_S32x8x32_0_1_2 (shapeCast S32x8x1 w shapeCasts_S32x1x8_S32x8x1))
    (broadcastInDim S32x8x32 ![] bcast_S_S32x8x32 (id (constant S_ .f32 0x00000000#32)))) (constant S_ .f32 0x00000000#32) reducesTo_S32x8x32_S32x32_d1 h_S_
/-- and who takes whom. -/
def hitM (ids : IVec S32x1x8 32) : IVec S32x32 1 := Host.reduce IntOp.ori (eqM ids) (constantI S_ 1 0#1) reducesTo_S32x8x32_S32x32_d1 h_S_
/-- Both side by side. -/
def wtFull (wt : FVec Ideal S32x32 .f32) (hit : IVec S32x32 1) : FVec Ideal S32x256 .f32 :=
  Host.scatter scatter_S32x256_S1_S32x32_01_n_1_0 (fun _ b => b)
    (Host.scatter scatter_S32x256_S1_S32x32_01_n_1_0 (fun _ b => b) (broadcastInDim S32x256 ![] bcast_S_S32x256 (constant S_ .f32 0x00000000#32)) (broadcastInDim S1 ![] bcast_S_S1 (constantI S_ 32 0#32)) wt)
    (broadcastInDim S1 ![] bcast_S_S1 (constantI S_ 32 128#32)) (uitofp .f32 hit)

theorem v36 : V m 0 main_v36 = shapeCast S32x2816 (m (((0 : Dev nD).tc : Thread nD τ).loc main_arg0)) shapeCasts_S32x1x2816_S32x2816 := by
  unfold V
  simp only [List.flatten_cons, List.flatten_nil, List.append_nil, List.cons_append, List.nil_append]
  after_reads_simp
  rfl

theorem v11 : act m = Host.reduce IntOp.ori (hitM (m (((0 : Dev nD).tc : Thread nD τ).loc main_arg1))) (constantI S_ 1 0#1) reducesTo_S32x32_S32_d0 h_S_ := by
  unfold act V hitM eqM
  simp only [List.flatten_cons, List.flatten_nil, List.append_nil, List.cons_append, List.nil_append]
  after_reads_simp
  rfl
theorem v35 : V m 0 main_v35 = wtFull (wtM (m (((0 : Dev nD).tc : Thread nD τ).loc main_arg1)) (m (((0 : Dev nD).tc : Thread nD τ).loc main_arg2))) (hitM (m (((0 : Dev nD).tc : Thread nD τ).loc main_arg1))) := by
  unfold wtFull wtM hitM eqM V
  simp only [List.flatten_cons, List.flatten_nil, List.append_nil, List.cons_append, List.nil_append]
  after_reads_simp
  simp only [StableHlo.TRef.toBuf, StableHlo.TRef.ofBuf]
  rfl

/-- A fold by `or` from 0 is 1 when one of the words is. -/
theorem foldl_ori {ι : Type} (f : ι → BitVec 1) : ∀ (l : List ι) (a : BitVec 1),
    l.foldl (fun r n => IntOp.ori r (f n)) a = 1#1 ↔ a = 1#1 ∨ ∃ n ∈ l, f n = 1#1
  | [], a => by simp
  | b :: l, a => by
    rw [List.foldl_cons, foldl_ori f l, IntOp.ori_eq_one]
    constructor
    · rintro ((h | h) | ⟨n, hn, h⟩)
      · exact Or.inl h
      · exact Or.inr ⟨b, List.mem_cons_self .., h⟩
      · exact Or.inr ⟨n, List.mem_cons_of_mem _ hn, h⟩
    · rintro (h | ⟨n, hn, h⟩)
      · exact Or.inl (Or.inl h)
      · rcases List.mem_cons.1 hn with rfl | hn
        · exact Or.inl (Or.inr h)
        · exact Or.inr ⟨n, hn, h⟩

/-- So a reduction by `or` is 1 when one of the elements that go into it is. -/
theorem reduce_ori {s t u : Shape} {axes : List (Fin s.rank)} (x : s.Idx → BitVec 1) (init : u.Idx → BitVec 1) (h : s.ReducesTo axes t) (hu : 0 < u.numel) (j : t.Idx)
    (h0 : init (Shape.Idx.first hu) = 0#1) : Host.reduce IntOp.ori x init h hu j = 1#1 ↔ ∃ i, h.drop i = j ∧ x i = 1#1 := by
  rw [Host.reduce_eq_foldl, foldl_ori, h0]
  constructor
  · rintro (q | ⟨n, hn, q⟩)
    · exact absurd q (by decide)
    · exact ⟨n, by simpa using (List.mem_filter.1 hn).2, q⟩
  · rintro ⟨i, hi, q⟩
    refine Or.inr ⟨i, ?_, q⟩
    rw [List.mem_filter]
    exact ⟨List.mem_map.2 ⟨s.rowMajor i, List.mem_finRange _, Equiv.symm_apply_apply _ _⟩, by simp [hi]⟩

/-- The comparison read at an element. -/
theorem eqM_at (ids : IVec S32x1x8 32) (t : Fin 32) (k : Fin 8) (e : Fin 32) :
    eqM ids (ix3 t k e) = IntOp.cmpi .eq (ids (ix3 t 0 k)) (BitVec.ofNat 32 e.val) := by
  unfold eqM
  pointwise

theorem wtM_at (ids : IVec S32x1x8 32) (w : FVec Ideal S32x1x8 .f32) (t : Fin 32) (e : Fin 32) :
    wtM ids w (ix2 t e) = ∑ k : Fin 8, Scalar.select (IntOp.cmpi .eq (ids (ix3 t 0 k)) (BitVec.ofNat 32 e.val)) (w (ix3 t 0 k)) (0 : EReal) := by
  unfold wtM eqM id
  pointwise

theorem cmp_eq (a b : BitVec 32) : IntOp.cmpi .eq a b = 1#1 ↔ a = b := by
  show BitVec.ofBool (a == b) = 1#1 ↔ a = b
  constructor
  · intro h
    by_contra q
    rw [beq_eq_false_iff_ne.2 q] at h
    exact absurd h (by decide)
  · rintro rfl
    rw [beq_self_eq_true]
    rfl

/-- A token takes expert `e` when one of its places names it. -/
theorem hitM_at (ids : IVec S32x1x8 32) (t : Fin 32) (e : Fin 32) :
    hitM ids (ix2 t e) = 1#1 ↔ ∃ k : Fin 8, ids (ix3 t 0 k) = BitVec.ofNat 32 e.val := by
  unfold hitM
  rw [reduce_ori _ _ _ _ _ rfl]
  constructor
  · rintro ⟨i, hi, q⟩
    obtain ⟨t', k, e', rfl⟩ : ∃ a b d, i = (ix3 a b d : S32x8x32.Idx) := ⟨_, _, _, ValueIdx.eq_ix3 i⟩
    have h0 : t' = t := congrFun hi 0
    have h1 : e' = e := congrFun hi 1
    subst h0 h1
    rw [eqM_at, cmp_eq] at q
    exact ⟨k, q⟩
  · rintro ⟨k, q⟩
    refine ⟨ix3 t k e, ?_, ?_⟩
    · funext a
      match a with
      | ⟨0, _⟩ => rfl
      | ⟨1, _⟩ => rfl
    · rw [eqM_at, cmp_eq]; exact q

/-- An expert is used when some token takes it. -/
theorem act_at (e : Fin 32) : act m (ValueIdx.ix1 e) = 1#1 ↔ ∃ t : Fin 32, hitM (m (((0 : Dev nD).tc : Thread nD τ).loc main_arg1)) (ix2 t e) = 1#1 := by
  rw [v11, reduce_ori _ _ _ _ _ rfl]
  constructor
  · rintro ⟨i, hi, q⟩
    obtain ⟨t', e', rfl⟩ : ∃ a b, i = (ix2 a b : S32x32.Idx) := ⟨_, _, ValueIdx.eq_ix2 i⟩
    have h1 : e' = e := congrFun hi 0
    subst h1
    exact ⟨t', q⟩
  · rintro ⟨t, q⟩
    refine ⟨ix2 t e, ?_, q⟩
    funext a
    match a with
    | ⟨0, _⟩ => rfl

/-- An element of the updates lands the offset's number of columns further right. -/
theorem lands (idx : IVec S1 32) (o : Nat) (ho : (idx (ValueIdx.ix1 0)).toInt = (o : Int)) (t' e' : Fin 32) (t : Fin 32) (c : Fin 256) :
    scatter_S32x256_S1_S32x32_01_n_1_0.resultIdx? (ix2 t' e') idx = some (ix2 t c) ↔ t' = t ∧ o + e'.val = c.val := by
  have hm : (1 : Fin 2) ∈ scatter_S32x256_S1_S32x32_01_n_1_0.scatterDimsToOperandDims := List.mem_singleton.2 rfl
  have hw0 : scatter_S32x256_S1_S32x32_01_n_1_0.window (ix2 t' e') (0 : Fin 2) = t'.val := by
    rfl
  have hw1 : scatter_S32x256_S1_S32x32_01_n_1_0.window (ix2 t' e') (1 : Fin 2) = e'.val := by
    rfl
  have hs0 : scatter_S32x256_S1_S32x32_01_n_1_0.start (ix2 t' e') idx (0 : Fin 2) = 0 := by
    unfold ScatterDims.start
    exact dif_neg fun h => absurd (List.mem_singleton.1 h) (by decide : (0 : Fin 2) ≠ 1)
  have hs1 : scatter_S32x256_S1_S32x32_01_n_1_0.start (ix2 t' e') idx (1 : Fin 2) = (o : Int) := by
    unfold ScatterDims.start
    rw [dif_pos hm]
    refine Eq.trans (congrArg (fun i => (idx i).toInt) ?_) ho
    funext b
    match b with
    | ⟨0, _⟩ => exact Subsingleton.elim (α := Fin 1) _ _
  rw [Fin.ext_iff]
  refine (Routing.resultIdx?_ix2 _ _ _ t c).trans ?_
  rw [hs0, hw0, hs1, hw1]
  omega

/-- Column `e` of the first 128 holds the weights of expert `e`. -/
theorem wtFull_lo (wt : FVec Ideal S32x32 .f32) (hit : IVec S32x32 1) (t e : Fin 32) :
    wtFull wt hit (ix2 t (⟨e.val, by omega⟩ : Fin 256)) = wt (ix2 t e) := by
  unfold wtFull
  rw [Routing.scatter_set_miss]
  · refine Routing.scatter_set_hit _ _ _ _ _ _ (fun k hk => ?_) (ix2 t e) ((lands _ 0 rfl t e t _).2 ⟨rfl, Nat.zero_add _⟩)
    obtain ⟨a, b, rfl⟩ : ∃ a b, k = (ix2 a b : S32x32.Idx) := ⟨_, _, ValueIdx.eq_ix2 k⟩
    obtain ⟨rfl, h⟩ := (lands _ 0 rfl a b t _).1 hk
    have : b = e := Fin.ext (by have : 0 + b.val = e.val := h; omega)
    rw [this]
  · intro k hk
    obtain ⟨a, b, rfl⟩ : ∃ a b, k = (ix2 a b : S32x32.Idx) := ⟨_, _, ValueIdx.eq_ix2 k⟩
    have h : 128 + b.val = e.val := ((lands _ 128 (by decide) a b t _).1 hk).2
    omega

/-- Column `128 + e` holds 1 for the tokens that take expert `e`, else 0. -/
theorem wtFull_hi (wt : FVec Ideal S32x32 .f32) (hit : IVec S32x32 1) (t e : Fin 32) :
    wtFull wt hit (ix2 t (⟨128 + e.val, by omega⟩ : Fin 256)) = uitofp (F := Ideal) .f32 hit (ix2 t e) := by
  unfold wtFull
  refine Routing.scatter_set_hit _ _ _ _ _ _ (fun k hk => ?_) (ix2 t e) ((lands _ 128 (by decide) t e t _).2 ⟨rfl, rfl⟩)
  obtain ⟨a, b, rfl⟩ : ∃ a b, k = (ix2 a b : S32x32.Idx) := ⟨_, _, ValueIdx.eq_ix2 k⟩
  obtain ⟨rfl, h⟩ := (lands _ 128 (by decide) a b t _).1 hk
  have : b = e := Fin.ext (by have : 128 + b.val = 128 + e.val := h; omega)
  rw [this]

theorem uit_pos (hit : IVec S32x32 1) (i : S32x32.Idx) : (0 : EReal) < uitofp (F := Ideal) .f32 hit i ↔ hit i = 1#1 := by
  show (0 : EReal) < (((hit i).toNat : ℝ) : EReal) ↔ hit i = 1#1
  generalize hit i = b
  rcases (by decide : ∀ b : BitVec 1, b = 0#1 ∨ b = 1#1) b with rfl | rfl
  · simp
  · simp
end Cert.KernelIdeal.Body
end
-- ==== Proof.KernelIdeal.Final.lean ====
/-
  The kernel's result for a token whose ids are eight different experts: the sum over its places of the expert's output
  times the place's weight.
-/
module

public import proofs.«01_k».proof.Proof.KernelIdeal.Total
public import proofs.«01_k».proof.Proof.KernelIdeal.Weights
public import proofs.«01_k».proof.Proof.KernelIdeal.Route

@[expose] public section

set_option maxRecDepth 16384

noncomputable section
namespace Cert.KernelIdeal.Body
open Cert.KernelIdeal Cert.KernelIdeal.Gen Cert.Spec Cert.Elist
open Idealize.ShloMosaic Idealize.ShloMosaic.TcCoe Idealize.ShloMosaic.Tactic
open scoped Classical

variable (m : (ℓ : Loc nD τ sig) → Buf (Elt Ideal) ℓ)

attribute [local irreducible] StableHlo.after kernelRun eAt runAt accAt outAt

/-- Every place below the count has an expert. -/
theorem exists_at (a : IVec S32 1) (k n : ℕ) (h : k < rank a n) : ∃ e, e < n ∧ At a e k := by
  induction n with
  | zero => exact absurd h (by unfold rank; simp)
  | succ n ih =>
    by_cases hu : Used a n
    · rw [rank_succ hu] at h
      by_cases hk : k < rank a n
      · obtain ⟨e, he, q⟩ := ih hk
        exact ⟨e, Nat.lt_succ_of_lt he, q⟩
      · exact ⟨n, Nat.lt_succ_self n, hu, by omega⟩
    · have e0 : rank a (n + 1) = rank a n := by unfold rank; rw [Nat.count_succ, if_neg hu, Nat.add_zero]
      rw [e0] at h
      obtain ⟨e, he, q⟩ := ih h
      exact ⟨e, Nat.lt_succ_of_lt he, q⟩

/-- An expert in use has a place below the count. -/
theorem place_lt (a : IVec S32 1) (e : Fin 32) (h : Used a e.val) : rank a e.val < rank a 32 := by
  have h1 : rank a (e.val + 1) = rank a e.val + 1 := rank_succ h
  have h2 : rank a (e.val + 1) ≤ rank a 32 := Nat.count_monotone _ e.isLt
  omega

theorem points_eq (hO : Ok m) : (cfgM m hO).N = rank (act m) 32 := by
  have h1 : (cfgM m hO).N = bnd m 0 := gr_N _
  rw [h1]
  exact bnd_eq m

/-- The expert at a place is the one the point there takes. -/
theorem eAt_of (hO : Ok m) (s : Fin (cfgM m hO).N) (e : Fin 32) (h : At (act m) e.val s.val) : eAt m hO s = e := by
  have hs : s.val < 32 := lt_of_lt_of_le s.isLt (points_le m hO)
  exact Fin.ext ((eAt_val m hO s ⟨s.val, hs⟩ rfl).trans ((elist m ⟨s.val, hs⟩).trans (sum_at h)))

theorem eAt_at (hO : Ok m) (s : Fin (cfgM m hO).N) : At (act m) (eAt m hO s).val s.val := by
  obtain ⟨e, he, q⟩ := exists_at (act m) s.val 32 (lt_of_lt_of_eq s.isLt (points_eq m hO))
  have h := eAt_of m hO s ⟨e, he⟩ q
  rw [h]
  exact q

/-- A sum over the points is a sum over a token's places, if only its experts count and all of them are in use. -/
theorem sum_places (hO : Ok m) (g : Fin 32 → EReal) (id : Fin 8 → Fin 32) (hi : Function.Injective id) (hu : ∀ j, Used (act m) (id j).val) (hg : ∀ e, (¬ ∃ j, id j = e) → g e = 0) :
    ∑ k : Fin (cfgM m hO).N, g (eAt m hO k) = ∑ j : Fin 8, g (id j) := by
  have hp : ∀ j, rank (act m) (id j).val < (cfgM m hO).N := fun j => lt_of_lt_of_eq (place_lt _ _ (hu j)) (points_eq m hO).symm
  have he : ∀ j, eAt m hO ⟨_, hp j⟩ = id j := fun j => eAt_of m hO ⟨_, hp j⟩ (id j) ⟨hu j, rfl⟩
  refine (Finset.sum_of_injOn (fun j => (⟨_, hp j⟩ : Fin (cfgM m hO).N)) ?_ ?_ ?_ ?_).symm
  · intro j _ j' _ q
    exact hi ((he j).symm.trans ((congrArg (eAt m hO) q).trans (he j')))
  · intro j _
    exact Finset.mem_coe.mpr (Finset.mem_univ _)
  · intro k _ hk
    refine hg _ fun ⟨j, hj⟩ => hk ⟨j, Finset.mem_coe.mpr (Finset.mem_univ _), Fin.ext ?_⟩
    show rank (act m) (id j).val = k.val
    rw [hj]
    exact (eAt_at m hO k).2
  · intro j _
    exact congrArg g (he j).symm

theorem row_at (x : FVec Ideal S32x1x2816 .bf16) (t : Fin 32) (j : Fin 2816) :
    shapeCast S32x2816 x shapeCasts_S32x1x2816_S32x2816 (ix2 t j) = x (ix3 t 0 j) := by
  pointwise

/-- The token's row. -/
theorem row_eq (x : FVec Ideal S32x1x2816 .bf16) (t : Fin 32) :
    e2 (a := 32) (b := 2816) (shapeCast S32x2816 x shapeCasts_S32x1x2816_S32x2816) t.val = e3 (a := 32) (b := 1) (c := 2816) x t.val 0 := by
  funext j
  by_cases h : j < 2816
  · rw [e2_eq _ _ _ t.isLt h, e3_eq _ _ _ _ t.isLt (by decide) h]
    exact row_at x t ⟨j, h⟩
  · unfold e2 e3
    rw [dif_neg fun q => h q.2, dif_neg fun q => h q.2.2]

/-- A chosen expert's weight is its place's, when the places name different experts. -/
theorem weight_at (ids : IVec S32x1x8 32) (w : FVec Ideal S32x1x8 .f32) (t : Fin 32) (id : Fin 8 → Fin 32) (hi : Function.Injective id)
    (hid : ∀ k, ids (ix3 t 0 k) = BitVec.ofNat 32 (id k).val) (j : Fin 8) : wtM ids w (ix2 t (id j)) = w (ix3 t 0 j) := by
  rw [wtM_at]
  refine (Finset.sum_eq_single j (fun k _ hk => ?_) (fun h => absurd (Finset.mem_univ _) h)).trans ?_
  · rw [hid k]
    have h1 := (id k).isLt; have h2 := (id j).isLt
    refine (eq_word _ _ (by omega) (by omega) _ _).trans (if_neg fun q => hk (hi (Fin.ext q)))
  · rw [hid j]
    have h2 := (id j).isLt
    exact (eq_word _ _ (by omega) (by omega) _ _).trans (if_pos rfl)

theorem hit_iff (ids : IVec S32x1x8 32) (t : Fin 32) (id : Fin 8 → Fin 32)
    (hid : ∀ k, ids (ix3 t 0 k) = BitVec.ofNat 32 (id k).val) (e : Fin 32) : hitM ids (ix2 t e) = 1#1 ↔ ∃ j, id j = e := by
  rw [hitM_at]
  refine exists_congr fun k => ?_
  rw [hid k]
  constructor
  · intro q
    have q := congrArg BitVec.toNat q
    rw [BitVec.toNat_ofNat, BitVec.toNat_ofNat] at q
    have h1 := (id k).isLt; have h2 := e.isLt
    exact Fin.ext (by omega)
  · intro q; rw [q]

/-- What a token's expert adds, from the tables as the host makes them. -/
theorem adds_hit (ids : IVec S32x1x8 32) (w : FVec Ideal S32x1x8 .f32) (X : ℕ → EReal) (W W2 : ℕ → ℕ → EReal) (t : Fin 32) (id : Fin 8 → Fin 32) (hi : Function.Injective id)
    (hid : ∀ k, ids (ix3 t 0 k) = BitVec.ofNat 32 (id k).val) (j : Fin 8) (n : ℕ) :
    adds (wtFull (wtM ids w) (hitM ids)) X W W2 (id j) t n = yy X W W2 n * w (ix3 t 0 j) := by
  unfold adds
  rw [if_pos, wtFull_lo, weight_at ids w t id hi hid j]
  rw [wtFull_hi]
  exact (uit_pos _ _).mpr ((hit_iff ids t id hid _).mpr ⟨j, rfl⟩)

theorem adds_miss (ids : IVec S32x1x8 32) (w : FVec Ideal S32x1x8 .f32) (X : ℕ → EReal) (W W2 : ℕ → ℕ → EReal) (t : Fin 32) (id : Fin 8 → Fin 32)
    (hid : ∀ k, ids (ix3 t 0 k) = BitVec.ofNat 32 (id k).val) (e : Fin 32) (he : ¬ ∃ j, id j = e) (n : ℕ) :
    adds (wtFull (wtM ids w) (hitM ids)) X W W2 e t n = 0 := by
  unfold adds
  rw [if_neg]
  rw [wtFull_hi]
  exact fun q => he ((hit_iff ids t id hid _).mp ((uit_pos _ _).mp q))

/-- The kernel's result for such a token. -/
theorem kernel_at (hO : Ok m) (s : Fin (cfgM m hO).N) (hl : s.val + 1 = (cfgM m hO).N) (t : Fin 32) (n : Fin 2816) (id : Fin 8 → Fin 32) (hi : Function.Injective id)
    (x : FVec Ideal S32x1x2816 .bf16) (ids : IVec S32x1x8 32) (w : FVec Ideal S32x1x8 .f32)
    (h0 : m (((0 : Dev nD).tc : Thread nD τ).loc main_arg0) = x) (h1 : m (((0 : Dev nD).tc : Thread nD τ).loc main_arg1) = ids) (h2 : m (((0 : Dev nD).tc : Thread nD τ).loc main_arg2) = w)
    (hid : ∀ k, ids (ix3 t 0 k) = BitVec.ofNat 32 (id k).val) :
    outAt m hO 0 s (ix2 t n) = ∑ j : Fin 8,
      yy (e3 (a := 32) (b := 1) (c := 2816) x t.val 0)
        (wgt 2048 (b3 (a := 32) (b := 1408) (c := 4096) (m (((0 : Dev nD).tc : Thread nD τ).loc main_arg3)) (id j).val) (b3 (a := 32) (b := 22) (c := 2048) (m (((0 : Dev nD).tc : Thread nD τ).loc main_arg5)) (id j).val) (e3 (a := 32) (b := 22) (c := 4096) (m (((0 : Dev nD).tc : Thread nD τ).loc main_arg4)) (id j).val))
        (wgt 1408 (b3 (a := 32) (b := 1024) (c := 2816) (m (((0 : Dev nD).tc : Thread nD τ).loc main_arg6)) (id j).val) (b3 (a := 32) (b := 16) (c := 1408) (m (((0 : Dev nD).tc : Thread nD τ).loc main_arg8)) (id j).val) (e3 (a := 32) (b := 16) (c := 2816) (m (((0 : Dev nD).tc : Thread nD τ).loc main_arg7)) (id j).val)) n.val
      * w (ix3 t 0 j) := by
  have e35 : (V m 0 main_v35 : S32x256.Idx → EReal) = wtFull (wtM ids w) (hitM ids) := by rw [← h1, ← h2]; exact v35 m
  have e36 : (V m 0 main_v36 : S32x2816.Idx → EReal) = shapeCast S32x2816 x shapeCasts_S32x1x2816_S32x2816 := by rw [← h0]; exact v36 m
  refine (out_sum m hO 0 s hl t n).trans ((sum_places m hO (fun e => share m 0 e t n.val) id hi (fun j => ⟨(id j).isLt, ?_⟩) (fun e he => ?_)).trans (Finset.sum_congr rfl fun j _ => ?_))
  · refine (act_at m (id j)).mpr ⟨t, ?_⟩
    rw [h1]
    exact (hit_iff ids t id hid _).mpr ⟨j, rfl⟩
  · show share m 0 e t n.val = 0
    unfold share
    rw [e35]
    exact adds_miss ids w _ _ _ t id hid e he n.val
  · show share m 0 (id j) t n.val = _
    unfold share
    rw [e35, e36, row_eq]
    exact adds_hit ids w _ _ _ t id hi hid j n.val

/-- A token with an expert: there is a last point. -/
theorem last_exists (hO : Ok m) (t : Fin 32) (id : Fin 8 → Fin 32) (ids : IVec S32x1x8 32) (h1 : m (((0 : Dev nD).tc : Thread nD τ).loc main_arg1) = ids)
    (hid : ∀ k, ids (ix3 t 0 k) = BitVec.ofNat 32 (id k).val) : ∃ s : Fin (cfgM m hO).N, s.val + 1 = (cfgM m hO).N := by
  have hu : Used (act m) (id 0).val := ⟨(id 0).isLt, (act_at m (id 0)).mpr ⟨t, by rw [h1]; exact (hit_iff ids t id hid _).mpr ⟨0, rfl⟩⟩⟩
  have := place_lt _ _ hu
  have hN := points_eq m hO
  exact ⟨⟨(cfgM m hO).N - 1, by omega⟩, by show (cfgM m hO).N - 1 + 1 = _; omega⟩

end Cert.KernelIdeal.Body
end
-- ==== Proof.ReferenceIdeal.Read.lean ====
/-
  The reference read at an element.
-/
module

public import proofs.«01_k».proof.Proof.Gen.ReferenceIdeal.Run
public import proofs.«01_k».proof.Proof.Math.Spec

@[expose] public section

set_option maxRecDepth 16384
set_option maxHeartbeats 1000000

noncomputable section

namespace Cert.ReferenceIdeal.Value

open Cert.ReferenceIdeal Cert.ReferenceIdeal.Gen Cert.Spec
open Idealize.ShloMosaic Idealize.ShloMosaic.TcCoe Idealize.ShloMosaic.Tactic

/-- Layer 1's zeros as words, -/
def zz1 (Z : IVec S32x22x2048 8) : IVec S32x22x4096 32 := fn_main_v8 (F := Ideal)
  (andi (extui 32 Z natLt_8_32) (broadcastInDim S32x22x2048 ![] bcast_S_S32x22x2048 (constantI S_ 32 15#32)))
  (Host.shrsi (extui 32 Z natLt_8_32) (broadcastInDim S32x22x2048 ![] bcast_S_S32x22x2048 (constantI S_ 32 4#32)))
/-- and its weights from their codes. -/
def field1 (C : IVec S32x1408x4096 32) (Z : IVec S32x22x2048 8) (S : FVec Ideal S32x22x4096 .bf16) : FVec Ideal S32x1408x4096 .bf16 :=
  shapeCast S32x1408x4096 (mulf (subf (shapeCast S32x22x64x4096 (sitofp .bf16 C : FVec Ideal S32x1408x4096 .bf16) shapeCasts_S32x1408x4096_S32x22x64x4096)
    (broadcastInDim S32x22x64x4096 ![0, 1, 2, 3] bcast_S32x22x1x4096_S32x22x64x4096_0_1_2_3 (broadcastInDim S32x22x1x4096 ![0, 1, 3] bcast_S32x22x4096_S32x22x1x4096_0_1_3 (sitofp .bf16 (zz1 Z) : FVec Ideal S32x22x4096 .bf16))))
    (broadcastInDim S32x22x64x4096 ![0, 1, 2, 3] bcast_S32x22x1x4096_S32x22x64x4096_0_1_2_3 (broadcastInDim S32x22x1x4096 ![0, 1, 3] bcast_S32x22x4096_S32x22x1x4096_0_1_3 S))) shapeCasts_S32x22x64x4096_S32x1408x4096
/-- The low halves of the packed codes, and the high ones. -/
def cLo1 (P : IVec S32x1408x4096 8) : IVec S32x1408x4096 32 := andi (extui 32 P natLt_8_32) (broadcastInDim S32x1408x4096 ![] bcast_S_S32x1408x4096 (constantI S_ 32 15#32))
def cHi1 (P : IVec S32x1408x4096 8) : IVec S32x1408x4096 32 := Host.shrsi (extui 32 P natLt_8_32) (broadcastInDim S32x1408x4096 ![] bcast_S_S32x1408x4096 (constantI S_ 32 4#32))

theorem zz1_at (Z : IVec S32x22x2048 8) (e : Fin 32) (g : Fin 22) (n : Fin 4096) : zz1 Z (ix3 e g n) = zb 2048 (b3 Z e.val) g.val n.val := by
  unfold zz1 fn_main_v8 zb lo hi
  pointwise
  by_cases h : n.val < 2048
  · rw [dif_pos h, if_pos h, b3_eq _ _ _ _ e.isLt g.isLt h]
  · rw [dif_neg h, if_neg h, b3_eq _ _ _ _ e.isLt g.isLt (by have := n.isLt; omega)]
    rfl

theorem field1_at (C : IVec S32x1408x4096 32) (Z : IVec S32x22x2048 8) (S : FVec Ideal S32x22x4096 .bf16) (e : Fin 32) (k : Fin 1408) (n : Fin 4096) :
    field1 C Z S (ix3 e k n) = (i2f (C (ix3 e k n)) - i2f (zb 2048 (b3 Z e.val) (k.val / 64) n.val)) * e3 S e.val (k.val / 64) n.val := by
  rw [e3_eq _ _ _ _ e.isLt (by have := k.isLt; omega) n.isLt, ← zz1_at Z e ⟨k.val / 64, by have := k.isLt; omega⟩ n]
  generalize hz : zz1 Z = z
  unfold field1 i2f
  rw [hz]
  pointwise

theorem wLo1_at (P : IVec S32x1408x4096 8) (Z : IVec S32x22x2048 8) (S : FVec Ideal S32x22x4096 .bf16) (e : Fin 32) (k : Fin 1408) (n : Fin 4096) :
    field1 (cLo1 P) Z S (ix3 e k n) = wgt 2048 (b3 P e.val) (b3 Z e.val) (e3 S e.val) (2 * k.val) n.val := by
  rw [field1_at]
  unfold wgt nb
  rw [if_pos (by omega), show 2 * k.val / 2 = k.val by omega, show 2 * k.val / 128 = k.val / 64 by omega, b3_eq _ _ _ _ e.isLt k.isLt n.isLt]
  rfl
theorem wHi1_at (P : IVec S32x1408x4096 8) (Z : IVec S32x22x2048 8) (S : FVec Ideal S32x22x4096 .bf16) (e : Fin 32) (k : Fin 1408) (n : Fin 4096) :
    field1 (cHi1 P) Z S (ix3 e k n) = wgt 2048 (b3 P e.val) (b3 Z e.val) (e3 S e.val) (2 * k.val + 1) n.val := by
  rw [field1_at]
  unfold wgt nb
  rw [if_neg (by omega), show (2 * k.val + 1) / 2 = k.val by omega, show (2 * k.val + 1) / 128 = k.val / 64 by omega, b3_eq _ _ _ _ e.isLt k.isLt n.isLt]
  rfl

/-- Layer 2's zeros as words, -/
def zz2 (Z : IVec S32x16x1408 8) : IVec S32x16x2816 32 := fn_main_v46 (F := Ideal)
  (andi (extui 32 Z natLt_8_32) (broadcastInDim S32x16x1408 ![] bcast_S_S32x16x1408 (constantI S_ 32 15#32)))
  (Host.shrsi (extui 32 Z natLt_8_32) (broadcastInDim S32x16x1408 ![] bcast_S_S32x16x1408 (constantI S_ 32 4#32)))
/-- and its weights from their codes. -/
def field2 (C : IVec S32x1024x2816 32) (Z : IVec S32x16x1408 8) (S : FVec Ideal S32x16x2816 .bf16) : FVec Ideal S32x1024x2816 .bf16 :=
  shapeCast S32x1024x2816 (mulf (subf (shapeCast S32x16x64x2816 (sitofp .bf16 C : FVec Ideal S32x1024x2816 .bf16) shapeCasts_S32x1024x2816_S32x16x64x2816)
    (broadcastInDim S32x16x64x2816 ![0, 1, 2, 3] bcast_S32x16x1x2816_S32x16x64x2816_0_1_2_3 (broadcastInDim S32x16x1x2816 ![0, 1, 3] bcast_S32x16x2816_S32x16x1x2816_0_1_3 (sitofp .bf16 (zz2 Z) : FVec Ideal S32x16x2816 .bf16))))
    (broadcastInDim S32x16x64x2816 ![0, 1, 2, 3] bcast_S32x16x1x2816_S32x16x64x2816_0_1_2_3 (broadcastInDim S32x16x1x2816 ![0, 1, 3] bcast_S32x16x2816_S32x16x1x2816_0_1_3 S))) shapeCasts_S32x16x64x2816_S32x1024x2816
/-- The low halves of the packed codes, and the high ones. -/
def cLo2 (P : IVec S32x1024x2816 8) : IVec S32x1024x2816 32 := andi (extui 32 P natLt_8_32) (broadcastInDim S32x1024x2816 ![] bcast_S_S32x1024x2816 (constantI S_ 32 15#32))
def cHi2 (P : IVec S32x1024x2816 8) : IVec S32x1024x2816 32 := Host.shrsi (extui 32 P natLt_8_32) (broadcastInDim S32x1024x2816 ![] bcast_S_S32x1024x2816 (constantI S_ 32 4#32))

theorem zz2_at (Z : IVec S32x16x1408 8) (e : Fin 32) (g : Fin 16) (n : Fin 2816) : zz2 Z (ix3 e g n) = zb 1408 (b3 Z e.val) g.val n.val := by
  unfold zz2 fn_main_v46 zb lo hi
  pointwise
  by_cases h : n.val < 1408
  · rw [dif_pos h, if_pos h, b3_eq _ _ _ _ e.isLt g.isLt h]
  · rw [dif_neg h, if_neg h, b3_eq _ _ _ _ e.isLt g.isLt (by have := n.isLt; omega)]
    rfl

theorem field2_at (C : IVec S32x1024x2816 32) (Z : IVec S32x16x1408 8) (S : FVec Ideal S32x16x2816 .bf16) (e : Fin 32) (k : Fin 1024) (n : Fin 2816) :
    field2 C Z S (ix3 e k n) = (i2f (C (ix3 e k n)) - i2f (zb 1408 (b3 Z e.val) (k.val / 64) n.val)) * e3 S e.val (k.val / 64) n.val := by
  rw [e3_eq _ _ _ _ e.isLt (by have := k.isLt; omega) n.isLt, ← zz2_at Z e ⟨k.val / 64, by have := k.isLt; omega⟩ n]
  generalize hz : zz2 Z = z
  unfold field2 i2f
  rw [hz]
  pointwise

theorem wLo2_at (P : IVec S32x1024x2816 8) (Z : IVec S32x16x1408 8) (S : FVec Ideal S32x16x2816 .bf16) (e : Fin 32) (k : Fin 1024) (n : Fin 2816) :
    field2 (cLo2 P) Z S (ix3 e k n) = wgt 1408 (b3 P e.val) (b3 Z e.val) (e3 S e.val) (2 * k.val) n.val := by
  rw [field2_at]
  unfold wgt nb
  rw [if_pos (by omega), show 2 * k.val / 2 = k.val by omega, show 2 * k.val / 128 = k.val / 64 by omega, b3_eq _ _ _ _ e.isLt k.isLt n.isLt]
  rfl
theorem wHi2_at (P : IVec S32x1024x2816 8) (Z : IVec S32x16x1408 8) (S : FVec Ideal S32x16x2816 .bf16) (e : Fin 32) (k : Fin 1024) (n : Fin 2816) :
    field2 (cHi2 P) Z S (ix3 e k n) = wgt 1408 (b3 P e.val) (b3 Z e.val) (e3 S e.val) (2 * k.val + 1) n.val := by
  rw [field2_at]
  unfold wgt nb
  rw [if_neg (by omega), show (2 * k.val + 1) / 2 = k.val by omega, show (2 * k.val + 1) / 128 = k.val / 64 by omega, b3_eq _ _ _ _ e.isLt k.isLt n.isLt]
  rfl

/-- Every expert's first product. -/
def guR (x : FVec Ideal S32x1x2816 .bf16) (P : IVec S32x1408x4096 8) (S : FVec Ideal S32x22x4096 .bf16) (Z : IVec S32x22x2048 8) : FVec Ideal S32x32x4096 .f32 :=
  addf (Host.dotGeneral dot_S32x32x1408_S32x1408x4096_S32x32x4096_2_1_1_2_0_0 none
      (Host.slice S32x32x1408 ![0, 0, 0] ![1, 1, 2] (broadcastInDim S32x32x2816 ![0, 1, 2] bcast_S1x32x2816_S32x32x2816_0_1_2 (shapeCast S1x32x2816 x shapeCasts_S32x1x2816_S1x32x2816)) slicesBy_S32x32x2816_S32x32x1408_0s1_0s1_0s2)
      (field1 (cLo1 P) Z S))
    (Host.dotGeneral dot_S32x32x1408_S32x1408x4096_S32x32x4096_2_1_1_2_0_0 none
      (Host.slice S32x32x1408 ![0, 0, 1] ![1, 1, 2] (broadcastInDim S32x32x2816 ![0, 1, 2] bcast_S1x32x2816_S32x32x2816_0_1_2 (shapeCast S1x32x2816 x shapeCasts_S32x1x2816_S1x32x2816)) slicesBy_S32x32x2816_S32x32x1408_0s1_0s1_1s2)
      (field1 (cHi1 P) Z S))

/-- The hidden layer. -/
def hR (g : FVec Ideal S32x32x4096 .f32) : FVec Ideal S32x32x2048 .bf16 :=
  truncf .bf16 (mulf (mulf (extractStridedSlice S32x32x2048 ![0, 0, 0] g slices_S32x32x4096_S32x32x2048_0_0_0)
    (Host.divf (broadcastInDim S32x32x2048 ![] bcast_S_S32x32x2048 (constant S_ .f32 0x3F800000#32))
      (addf (broadcastInDim S32x32x2048 ![] bcast_S_S32x32x2048 (constant S_ .f32 0x3F800000#32))
        (Host.exp (Host.negf (extractStridedSlice S32x32x2048 ![0, 0, 0] g slices_S32x32x4096_S32x32x2048_0_0_0))))))
    (extractStridedSlice S32x32x2048 ![0, 0, 2048] g slices_S32x32x4096_S32x32x2048_0_0_2048)) bitsLt_bf16_f32

/-- Every expert's output. -/
def yR (h : FVec Ideal S32x32x2048 .bf16) (P : IVec S32x1024x2816 8) (S : FVec Ideal S32x16x2816 .bf16) (Z : IVec S32x16x1408 8) : FVec Ideal S32x32x2816 .f32 :=
  addf (Host.dotGeneral dot_S32x32x1024_S32x1024x2816_S32x32x2816_2_1_1_2_0_0 none
      (Host.slice S32x32x1024 ![0, 0, 0] ![1, 1, 2] h slicesBy_S32x32x2048_S32x32x1024_0s1_0s1_0s2) (field2 (cLo2 P) Z S))
    (Host.dotGeneral dot_S32x32x1024_S32x1024x2816_S32x32x2816_2_1_1_2_0_0 none
      (Host.slice S32x32x1024 ![0, 0, 1] ![1, 1, 2] h slicesBy_S32x32x2048_S32x32x1024_0s1_0s1_1s2) (field2 (cHi2 P) Z S))

theorem guR_at (x : FVec Ideal S32x1x2816 .bf16) (P : IVec S32x1408x4096 8) (S : FVec Ideal S32x22x4096 .bf16) (Z : IVec S32x22x2048 8) (e t : Fin 32) (n : Fin 4096) :
    guR x P S Z (ix3 e t n) = gu (e3 x t.val 0) (wgt 2048 (b3 P e.val) (b3 Z e.val) (e3 S e.val)) n.val := by
  unfold gu
  refine Eq.trans ?_ (even_odd (fun k => e3 x t.val 0 k * wgt 2048 (b3 P e.val) (b3 Z e.val) (e3 S e.val) k n.val) 1408).symm
  beta_reduce
  have h1 : ∀ i : Fin 1408, e3 x t.val 0 (2 * i.val) = x (ix3 t 0 ⟨2 * i.val, by have := i.isLt; omega⟩) := fun i => e3_eq _ _ _ _ t.isLt (by decide) _
  have h2 : ∀ i : Fin 1408, e3 x t.val 0 (2 * i.val + 1) = x (ix3 t 0 ⟨2 * i.val + 1, by have := i.isLt; omega⟩) := fun i => e3_eq _ _ _ _ t.isLt (by decide) _
  simp only [h1, h2, ← wLo1_at, ← wHi1_at]
  unfold guR
  generalize field1 (cLo1 P) Z S = A
  generalize field1 (cHi1 P) Z S = B
  pointwise
  have h3 : ∀ i : Fin 1408, (⟨1 + 2 * i.val, by have := i.isLt; omega⟩ : Fin 2816) = ⟨2 * i.val + 1, by have := i.isLt; omega⟩ := fun i => Fin.ext (Nat.add_comm _ _)
  simp only [h3]

theorem hR_at (g : FVec Ideal S32x32x4096 .f32) (e t : Fin 32) (f : Fin 2048) : hR g (ix3 e t f)
    = g (ix3 e t ⟨f.val, by have := f.isLt; omega⟩) * Ideal.logistic (g (ix3 e t ⟨f.val, by have := f.isLt; omega⟩)) * g (ix3 e t ⟨2048 + f.val, by have := f.isLt; omega⟩) := by
  unfold hR Ideal.logistic
  pointwise

theorem yR_at (h : FVec Ideal S32x32x2048 .bf16) (H : ℕ → EReal) (P : IVec S32x1024x2816 8) (S : FVec Ideal S32x16x2816 .bf16) (Z : IVec S32x16x1408 8) (e t : Fin 32) (n : Fin 2816)
    (hH : ∀ f : Fin 2048, h (ix3 e t f) = H f.val) :
    yR h P S Z (ix3 e t n) = ∑ f ∈ Finset.range 2048, H f * wgt 1408 (b3 P e.val) (b3 Z e.val) (e3 S e.val) f n.val := by
  rw [show (2048 : ℕ) = 2 * 1024 from rfl, even_odd]
  have h1 : ∀ i : Fin 1024, H (2 * i.val) = h (ix3 e t ⟨2 * i.val, by have := i.isLt; omega⟩) := fun i => (hH ⟨2 * i.val, by have := i.isLt; omega⟩).symm
  have h2 : ∀ i : Fin 1024, H (2 * i.val + 1) = h (ix3 e t ⟨2 * i.val + 1, by have := i.isLt; omega⟩) := fun i => (hH ⟨2 * i.val + 1, by have := i.isLt; omega⟩).symm
  simp only [h1, h2, ← wLo2_at, ← wHi2_at]
  unfold yR
  generalize field2 (cLo2 P) Z S = A
  generalize field2 (cHi2 P) Z S = B
  pointwise
  have h3 : ∀ i : Fin 1024, (⟨1 + 2 * i.val, by have := i.isLt; omega⟩ : Fin 2048) = ⟨2 * i.val + 1, by have := i.isLt; omega⟩ := fun i => Fin.ext (Nat.add_comm _ _)
  simp only [h3]

end Cert.ReferenceIdeal.Value

end
-- ==== Proof.ReferenceIdeal.Value.lean ====
/-
  The reference's result at an element: over the token's experts, the expert's output times its weight.
-/
module

public import proofs.«01_k».proof.Proof.ReferenceIdeal.Read

@[expose] public section

set_option maxRecDepth 16384
set_option maxHeartbeats 1000000

noncomputable section

namespace Cert.ReferenceIdeal.Value

open Cert.ReferenceIdeal Cert.ReferenceIdeal.Gen Cert.Spec
open Idealize.ShloMosaic Idealize.ShloMosaic.TcCoe Idealize.ShloMosaic.Tactic

/-- The gather's dimension numbers. -/
abbrev gd := gather_S32x32x2816_S32x8x2_S32x8x2816_2_01_n_n_01_2_112816

/-- The gather takes the row of an expert and of a token. -/
theorem gather_at (Y : FVec Ideal S32x32x2816 .f32) (I : IVec S32x8x2 32) (t : Fin 32) (k : Fin 8) (n : Fin 2816) (e u : Fin 32)
    (he : (I (ix3 t k 0)).toInt.toNat = e.val) (hu : (I (ix3 t k 1)).toInt.toNat = u.val) :
    Host.gather gd Y I (ix3 t k n) = Y (ix3 e u n) := by
  unfold Host.gather
  congr 1
  funext a
  refine Fin.ext ?_
  show gd.start (ix3 t k n) I a + gd.batchCoord (ix3 t k n) a + gd.offCoord (ix3 t k n) a = _
  rw [GatherDims.batchCoord_eq_zero _ _ _ List.not_mem_nil, Nat.add_zero]
  match a with
  | ⟨0, h0⟩ =>
    rw [GatherDims.offCoord_eq_zero _ _ _ (fun h => ((GatherDims.mem_sKept _ _).mp h).1 (show (0 : Fin 3) ∈ [0, 1] by decide)), Nat.add_zero]
    unfold GatherDims.start
    rw [dif_pos (show (⟨0, h0⟩ : Fin S32x32x2816.rank) ∈ gd.startIndexMap from (show (0 : Fin 3) ∈ [0, 1] by decide))]
    have hsi : gd.siIdx (ix3 t k n) ⟨List.idxOf (⟨0, h0⟩ : Fin S32x32x2816.rank) gd.startIndexMap, List.idxOf_lt_length_iff.2 (show (0 : Fin 3) ∈ [0, 1] by decide)⟩ = ix3 t k 0 := by
      funext b; refine Fin.ext ?_
      match b with
      | ⟨0, _⟩ => rfl
      | ⟨1, _⟩ => rfl
      | ⟨2, _⟩ => rfl
    rw [hsi, he]
    show min e.val 31 = e.val
    have := e.isLt; omega
  | ⟨1, h0⟩ =>
    rw [GatherDims.offCoord_eq_zero _ _ _ (fun h => ((GatherDims.mem_sKept _ _).mp h).1 (show (1 : Fin 3) ∈ [0, 1] by decide)), Nat.add_zero]
    unfold GatherDims.start
    rw [dif_pos (show (⟨1, h0⟩ : Fin S32x32x2816.rank) ∈ gd.startIndexMap from (show (1 : Fin 3) ∈ [0, 1] by decide))]
    have hsi : gd.siIdx (ix3 t k n) ⟨List.idxOf (⟨1, h0⟩ : Fin S32x32x2816.rank) gd.startIndexMap, List.idxOf_lt_length_iff.2 (show (1 : Fin 3) ∈ [0, 1] by decide)⟩ = ix3 t k 1 := by
      funext b; refine Fin.ext ?_
      match b with
      | ⟨0, _⟩ => rfl
      | ⟨1, _⟩ => rfl
      | ⟨2, _⟩ => rfl
    rw [hsi, hu]
    show min u.val 31 = u.val
    have := u.isLt; omega
  | ⟨2, h0⟩ =>
    unfold GatherDims.start
    rw [dif_neg (show (⟨2, h0⟩ : Fin S32x32x2816.rank) ∉ gd.startIndexMap from (show (2 : Fin 3) ∉ [0, 1] by decide)), Nat.zero_add]
    rfl

/-- The start indices: the expert's, then the token's. -/
def idxR (ids : IVec S32x1x8 32) : IVec S32x8x2 32 :=
  concatenate S32x8x2 2 [⟨S32x8x1, (broadcastInDim S32x8x1 ![0, 1] bcast_S32x8_S32x8x1_0_1 (select (cmpi .slt (shapeCast S32x8 ids shapeCasts_S32x1x8_S32x8) (broadcastInDim S32x8 ![] bcast_S_S32x8 (constantI S_ 32 0#32))) (addi (shapeCast S32x8 ids shapeCasts_S32x1x8_S32x8) (broadcastInDim S32x8 ![] bcast_S_S32x8 (constantI S_ 32 32#32))) (shapeCast S32x8 ids shapeCasts_S32x1x8_S32x8)))⟩, ⟨S32x8x1, (broadcastInDim S32x8x1 ![0, 1] bcast_S32x8_S32x8x1_0_1 (broadcastInDim S32x8 ![0, 1] bcast_S32x1_S32x8_0_1 (select (cmpi .slt (broadcastInDim S32x1 ![0] bcast_S32_S32x1_0 (iotaInDim S32 32 0)) (broadcastInDim S32x1 ![] bcast_S_S32x1 (constantI S_ 32 0#32))) (addi (broadcastInDim S32x1 ![0] bcast_S32_S32x1_0 (iotaInDim S32 32 0)) (broadcastInDim S32x1 ![] bcast_S_S32x1 (constantI S_ 32 32#32))) (broadcastInDim S32x1 ![0] bcast_S32_S32x1_0 (iotaInDim S32 32 0)))))⟩] concatenates_S32x8x1_S32x8x1_S32x8x2_d2

theorem slt_small : ∀ e : Fin 32, IntOp.cmpi .slt (BitVec.ofNat 32 e.val) 0#32 = 0#1 ∧ (BitVec.ofNat 32 e.val).toInt.toNat = e.val := by decide

theorem idxR_0 (ids : IVec S32x1x8 32) (t : Fin 32) (k : Fin 8) (e : Fin 32) (h : ids (ix3 t 0 k) = BitVec.ofNat 32 e.val) : (idxR ids (ix3 t k 0)).toInt.toNat = e.val := by
  have h2 : idxR ids (ix3 t k 0) = Scalar.select (IntOp.cmpi .slt (ids (ix3 t 0 k)) 0#32) (IntOp.addi (ids (ix3 t 0 k)) 32#32) (ids (ix3 t 0 k)) := by
    unfold idxR
    pointwise
  rw [h2, h, (slt_small e).1]
  exact (slt_small e).2

theorem idxR_1 (ids : IVec S32x1x8 32) (t : Fin 32) (k : Fin 8) : (idxR ids (ix3 t k 1)).toInt.toNat = t.val := by
  have h2 : idxR ids (ix3 t k 1) = Scalar.select (IntOp.cmpi .slt (BitVec.ofNat 32 t.val) 0#32) (IntOp.addi (BitVec.ofNat 32 t.val) 32#32) (BitVec.ofNat 32 t.val) := by
    unfold idxR
    pointwise
  rw [h2, (slt_small t).1]
  exact (slt_small t).2

/-- The result from the experts' outputs. -/
def outR (Y : FVec Ideal S32x32x2816 .f32) (ids : IVec S32x1x8 32) (w : FVec Ideal S32x1x8 .f32) : FVec Ideal S32x2816 .bf16 :=
  truncf .bf16 (Host.reduceAdd (mulf (Host.gather gd Y (idxR ids)) (broadcastInDim S32x8x2816 ![0, 1, 2] bcast_S32x8x1_S32x8x2816_0_1_2 (shapeCast S32x8x1 w shapeCasts_S32x1x8_S32x8x1))) (constant S_ .f32 0x00000000#32) reducesTo_S32x8x2816_S32x2816_d1 h_S_) bitsLt_bf16_f32

theorem outR_at (Y : FVec Ideal S32x32x2816 .f32) (ids : IVec S32x1x8 32) (w : FVec Ideal S32x1x8 .f32) (t : Fin 32) (n : Fin 2816) :
    outR Y ids w (ix2 t n) = ∑ k : Fin 8, Host.gather gd Y (idxR ids) (ix3 t k n) * w (ix3 t 0 k) := by
  unfold outR
  generalize Host.gather gd Y (idxR ids) = G
  pointwise

/-- The reference's result. -/
abbrev res (m : (ℓ : Loc nD τ sig) → Buf (Elt Ideal) ℓ) (c : Dev nD) : FVec Ideal S32x2816 .bf16 := res_main_v95 m c

/-- It in these terms. -/
theorem res_eq (m : (ℓ : Loc nD τ sig) → Buf (Elt Ideal) ℓ) (c : Dev nD) : res m c =
    outR (yR (hR (guR (m ((c.tc : Thread nD τ).loc main_arg0)) (m ((c.tc : Thread nD τ).loc main_arg3)) (m ((c.tc : Thread nD τ).loc main_arg4)) (m ((c.tc : Thread nD τ).loc main_arg5))))
      (m ((c.tc : Thread nD τ).loc main_arg6)) (m ((c.tc : Thread nD τ).loc main_arg7)) (m ((c.tc : Thread nD τ).loc main_arg8))) (m ((c.tc : Thread nD τ).loc main_arg1)) (m ((c.tc : Thread nD τ).loc main_arg2)) := rfl

/-- The reference at an element of a token whose experts are numbered from 0 to 31. -/
theorem res_at (m : (ℓ : Loc nD τ sig) → Buf (Elt Ideal) ℓ) (c : Dev nD) (t : Fin 32) (n : Fin 2816) (id : Fin 8 → Fin 32)
    (x : FVec Ideal S32x1x2816 .bf16) (ids : IVec S32x1x8 32) (w : FVec Ideal S32x1x8 .f32) (P1 : IVec S32x1408x4096 8) (S1 : FVec Ideal S32x22x4096 .bf16) (Z1 : IVec S32x22x2048 8)
    (P2 : IVec S32x1024x2816 8) (S2 : FVec Ideal S32x16x2816 .bf16) (Z2 : IVec S32x16x1408 8)
    (h0 : m ((c.tc : Thread nD τ).loc main_arg0) = x) (h1 : m ((c.tc : Thread nD τ).loc main_arg1) = ids) (h2 : m ((c.tc : Thread nD τ).loc main_arg2) = w)
    (h3 : m ((c.tc : Thread nD τ).loc main_arg3) = P1) (h4 : m ((c.tc : Thread nD τ).loc main_arg4) = S1) (h5 : m ((c.tc : Thread nD τ).loc main_arg5) = Z1)
    (h6 : m ((c.tc : Thread nD τ).loc main_arg6) = P2) (h7 : m ((c.tc : Thread nD τ).loc main_arg7) = S2) (h8 : m ((c.tc : Thread nD τ).loc main_arg8) = Z2)
    (hid : ∀ k, ids (ix3 t 0 k) = BitVec.ofNat 32 (id k).val) :
    res m c (ix2 t n) = ∑ k : Fin 8,
      yy (e3 x t.val 0) (wgt 2048 (b3 P1 (id k).val) (b3 Z1 (id k).val) (e3 S1 (id k).val)) (wgt 1408 (b3 P2 (id k).val) (b3 Z2 (id k).val) (e3 S2 (id k).val)) n.val * w (ix3 t 0 k) := by
  rw [res_eq, h0, h1, h2, h3, h4, h5, h6, h7, h8, outR_at]
  refine Finset.sum_congr rfl fun k _ => ?_
  rw [gather_at _ _ t k n (id k) t (idxR_0 ids t k (id k) (hid k)) (idxR_1 ids t k)]
  congr 1
  unfold yy
  refine yR_at _ (hh (e3 x t.val 0) (wgt 2048 (b3 P1 (id k).val) (b3 Z1 (id k).val) (e3 S1 (id k).val))) P2 S2 Z2 (id k) t n fun f => ?_
  rw [hR_at, guR_at, guR_at]
  rfl

end Cert.ReferenceIdeal.Value

end
-- ==== Proof.Math.Algebraic.lean ====
/-
  The value claim: at the extended reals, where a token's ids are eight different experts, the kernel's result and the
  reference's are the same.
-/
module

public import proofs.«01_k».proof.Defs
public import proofs.«01_k».proof.Proof.Gen.ReferenceIdeal.Run
public import proofs.«01_k».proof.Proof.KernelIdeal.Result
public import proofs.«01_k».proof.Proof.KernelIdeal.Final
public import proofs.«01_k».proof.Proof.ReferenceIdeal.Value
public import proofs.«01_k».proof.Proof.Math.Mask

@[expose] public section

set_option maxRecDepth 16384

noncomputable section

namespace Cert.Proof

open Idealize.ShloMosaic Idealize.ShloMosaic.TcCoe Idealize.ShloMosaic.Tactic Idealize.SL.Sem

attribute [local instance] Cert.On_routed.facts
attribute [local irreducible] Cert.KernelIdeal.Body.outAt Cert.KernelIdeal.Body.accAt Cert.KernelIdeal.Body.runAt Cert.KernelIdeal.Body.Good Cert.ReferenceIdeal.Value.res_main_v95 Cert.On_routed.fn

/-- At a masked element the last point's output is the reference's result. -/
theorem values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (i : (⟨2, ![32, 2816]⟩ : Shape).Idx) (h : Cert.On_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) i = 1#1) :
    ∃ s : Fin (Cert.KernelIdeal.Body.cfgM m (Cert.KernelIdeal.Body.ok m)).N, s.val + 1 = (Cert.KernelIdeal.Body.cfgM m (Cert.KernelIdeal.Body.ok m)).N
      ∧ Cert.KernelIdeal.Body.outAt m (Cert.KernelIdeal.Body.ok m) c s i = Cert.ReferenceIdeal.Value.res m' c i := by
  obtain rfl : c = 0 := Subsingleton.elim (α := Fin 1) _ _
  obtain ⟨t, n, rfl⟩ : ∃ (a : Fin 32) (b : Fin 2816), i = ix2 a b := ⟨_, _, ValueIdx.eq_ix2 i⟩
  obtain ⟨id, hi, hid⟩ := Cert.On_routed.mask_ids _ _ _ _ _ _ _ _ _ t n h
  obtain ⟨s, hl⟩ := Cert.KernelIdeal.Body.last_exists m (Cert.KernelIdeal.Body.ok m) t id _ rfl hid
  obtain ⟨h0, h1, h2, h3, h4, h5, h6, h7, h8⟩ := hm
  exact ⟨s, hl, (Cert.KernelIdeal.Body.kernel_at m (Cert.KernelIdeal.Body.ok m) s hl t n id hi _ _ _ rfl rfl rfl hid).trans
    (Cert.ReferenceIdeal.Value.res_at m' 0 t n id _ _ _ _ _ _ _ _ _ h0 h1 h2 h3 h4 h5 h6 h7 h8 hid).symm⟩

/-- The value claim. -/
theorem algebraic : Cert.algebraic_KernelIdeal_ReferenceIdeal_on_routed (hKernelIdeal := Cert.KernelIdeal.Gen.facts) (hReferenceIdeal := Cert.ReferenceIdeal.Gen.facts) (hOn_routed := Cert.On_routed.facts) := by
  intro m g m' g' _ hm
  refine ⟨fun c => Cert.ReferenceIdeal.Value.res m' c, ?_, ?_⟩
  · refine (θ_run _ _ _).mono (fun r h c => ⟨fun i hi => ?_, h.2.1 c⟩)
      (θ_run_and (Cert.KernelIdeal.Body.run_main m g (Cert.KernelIdeal.Body.ok m)) (Cert.KernelIdeal.Body.frame m g (Cert.KernelIdeal.Body.ok m)))
    obtain ⟨s, hl, e⟩ := values m m' c (hm c) i hi
    exact (congrFun (((h.1 c).1 8).trans (Cert.KernelIdeal.Body.result m (Cert.KernelIdeal.Body.ok m) c s hl)) i).trans e
  · exact (θ_run _ _ _).mono (fun r h c => ⟨fun i _ => congrFun (h c).1 i, (h c).2⟩) (Cert.ReferenceIdeal.Value.run (F := Ideal) m' g')

end Cert.Proof
end
-- ==== Proof.lean ====
/-
  The claims, put together: the frames of the kernel at hardware floats and at the extended reals, from the region's run
  under the tables' side condition and from the tables as the host computes them; the reference's frame, read off its
  run; that the idealization is the program's own text; and the value claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Kernel.Frame
public import proofs.«01_k».proof.Proof.Kernel.Tables
public import proofs.«01_k».proof.Proof.KernelIdeal.Frame
public import proofs.«01_k».proof.Proof.KernelIdeal.Tables
public import proofs.«01_k».proof.Proof.Math.Mask
public import proofs.«01_k».proof.Proof.Math.Algebraic
public import Idealize.ShloMosaic.Adequacy
public import Idealize.ShloMosaic.Init

@[expose] public section

noncomputable section

namespace Cert.Proof

open Idealize.ShloMosaic Idealize.SL.Sem Cert.Kernel

/-- The reference declares no semaphore, so its counters are zero. -/
theorem reference_sem (f : GSem Cert.ReferenceIdeal.nD Cert.ReferenceIdeal.τ Cert.ReferenceIdeal.sig → ℤ) : f = fun _ => 0 := by
  funext g
  obtain ⟨t, g⟩ := g
  nomatch g

/-- The reference runs, its arguments unchanged and every counter at zero. -/
theorem reference_frame : Cert.quiescent_ReferenceIdeal (hReferenceIdeal := Cert.ReferenceIdeal.Gen.facts) := fun m g _ =>
  (θ_run _ _ _).mono (fun r h => ⟨fun c => (h c).2, reference_sem r.2.sem⟩) (Cert.ReferenceIdeal.Value.run (F := Ideal) m g)

/-- Every claim of the certificate. -/
theorem claim : Cert.Claim := ⟨Cert.Kernel.Gen.facts, Cert.KernelIdeal.Gen.facts, Cert.ReferenceIdeal.Gen.facts, Cert.On_routed.facts,
  fun m g _ => Cert.Kernel.Body.frame m g (Cert.Kernel.Body.ok m),
  fun m g _ => Cert.KernelIdeal.Body.frame m g (Cert.KernelIdeal.Body.ok m),
  reference_frame, trivial, algebraic⟩

end Cert.Proof

end
